-- ==== Defs.lean ====
def Pre_Kernel [hPre_counts_in_range : Cert.Pre_counts_in_range.Facts] (m : (ℓ : Loc Cert.Kernel.nD Cert.Kernel.τ Cert.Kernel.sig) → Buf (Elt Bits) ℓ) : Prop :=
  ∀ c : Dev Cert.Kernel.nD,
    (Cert.Pre_counts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_in_range [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_KernelMidIdeal_queries_and_keys_finite [hPre_queries_and_keys_finite : Cert.Pre_queries_and_keys_finite.Facts] (m : (ℓ : Loc Cert.KernelMidIdeal.nD Cert.KernelMidIdeal.τ Cert.KernelMidIdeal.sig) → Buf (Elt Ideal) ℓ) : Prop :=
  ∀ c : Dev Cert.KernelMidIdeal.nD,
    (Cert.Pre_queries_and_keys_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8)) (m ((c.tc : Thread Cert.KernelMidIdeal.nD Cert.KernelMidIdeal.τ).loc Cert.KernelMidIdeal.main_arg9)) (m ((c.tc : Thread Cert.KernelMidIdeal.nD Cert.KernelMidIdeal.τ).loc Cert.KernelMidIdeal.main_arg10)) (m ((c.tc : Thread Cert.KernelMidIdeal.nD Cert.KernelMidIdeal.τ).loc Cert.KernelMidIdeal.main_arg11)) (m ((c.tc : Thread Cert.KernelMidIdeal.nD Cert.KernelMidIdeal.τ).loc Cert.KernelMidIdeal.main_arg12)) (m ((c.tc : Thread Cert.KernelMidIdeal.nD Cert.KernelMidIdeal.τ).loc Cert.KernelMidIdeal.main_arg13)) (m ((c.tc : Thread Cert.KernelMidIdeal.nD Cert.KernelMidIdeal.τ).loc Cert.KernelMidIdeal.main_arg14)) (m ((c.tc : Thread Cert.KernelMidIdeal.nD Cert.KernelMidIdeal.τ).loc Cert.KernelMidIdeal.main_arg15)) (m ((c.tc : Thread Cert.KernelMidIdeal.nD Cert.KernelMidIdeal.τ).loc Cert.KernelMidIdeal.main_arg16))) = (fun _ => 1#1)

def Pre_ReferenceMidIdeal (m : (ℓ : Loc Cert.ReferenceMidIdeal.nD Cert.ReferenceMidIdeal.τ Cert.ReferenceMidIdeal.sig) → Buf (Elt Ideal) ℓ) : Prop :=
  True

def Pre_ReferenceMidIdeal_queries_and_keys_finite [hPre_queries_and_keys_finite : Cert.Pre_queries_and_keys_finite.Facts] (m : (ℓ : Loc Cert.ReferenceMidIdeal.nD Cert.ReferenceMidIdeal.τ Cert.ReferenceMidIdeal.sig) → Buf (Elt Ideal) ℓ) : Prop :=
  ∀ c : Dev Cert.ReferenceMidIdeal.nD,
    (Cert.Pre_queries_and_keys_finite.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8)) (m ((c.tc : Thread Cert.ReferenceMidIdeal.nD Cert.ReferenceMidIdeal.τ).loc Cert.ReferenceMidIdeal.main_arg9)) (m ((c.tc : Thread Cert.ReferenceMidIdeal.nD Cert.ReferenceMidIdeal.τ).loc Cert.ReferenceMidIdeal.main_arg10)) (m ((c.tc : Thread Cert.ReferenceMidIdeal.nD Cert.ReferenceMidIdeal.τ).loc Cert.ReferenceMidIdeal.main_arg11)) (m ((c.tc : Thread Cert.ReferenceMidIdeal.nD Cert.ReferenceMidIdeal.τ).loc Cert.ReferenceMidIdeal.main_arg12)) (m ((c.tc : Thread Cert.ReferenceMidIdeal.nD Cert.ReferenceMidIdeal.τ).loc Cert.ReferenceMidIdeal.main_arg13)) (m ((c.tc : Thread Cert.ReferenceMidIdeal.nD Cert.ReferenceMidIdeal.τ).loc Cert.ReferenceMidIdeal.main_arg14)) (m ((c.tc : Thread Cert.ReferenceMidIdeal.nD Cert.ReferenceMidIdeal.τ).loc Cert.ReferenceMidIdeal.main_arg15)) (m ((c.tc : Thread Cert.ReferenceMidIdeal.nD Cert.ReferenceMidIdeal.τ).loc Cert.ReferenceMidIdeal.main_arg16))) = (fun _ => 1#1)

def quiescent_Kernel [hKernel : Cert.Kernel.Facts] [hPre_counts_in_range : Cert.Pre_counts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_counts_in_range [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7)
      ∧ r.2.mem ((c.tc : Thread Cert.KernelMid.nD Cert.KernelMid.τ).loc Cert.KernelMid.main_arg8) = m ((c.tc : Thread Cert.KernelMid.nD Cert.KernelMid.τ).loc Cert.KernelMid.main_arg8)
      ∧ r.2.mem ((c.tc : Thread Cert.KernelMid.nD Cert.KernelMid.τ).loc Cert.KernelMid.main_arg9) = m ((c.tc : Thread Cert.KernelMid.nD Cert.KernelMid.τ).loc Cert.KernelMid.main_arg9)
      ∧ r.2.mem ((c.tc : Thread Cert.KernelMid.nD Cert.KernelMid.τ).loc Cert.KernelMid.main_arg10) = m ((c.tc : Thread Cert.KernelMid.nD Cert.KernelMid.τ).loc Cert.KernelMid.main_arg10)
      ∧ r.2.mem ((c.tc : Thread Cert.KernelMid.nD Cert.KernelMid.τ).loc Cert.KernelMid.main_arg11) = m ((c.tc : Thread Cert.KernelMid.nD Cert.KernelMid.τ).loc Cert.KernelMid.main_arg11)
      ∧ r.2.mem ((c.tc : Thread Cert.KernelMid.nD Cert.KernelMid.τ).loc Cert.KernelMid.main_arg12) = m ((c.tc : Thread Cert.KernelMid.nD Cert.KernelMid.τ).loc Cert.KernelMid.main_arg12)
      ∧ r.2.mem ((c.tc : Thread Cert.KernelMid.nD Cert.KernelMid.τ).loc Cert.KernelMid.main_arg13) = m ((c.tc : Thread Cert.KernelMid.nD Cert.KernelMid.τ).loc Cert.KernelMid.main_arg13)
      ∧ r.2.mem ((c.tc : Thread Cert.KernelMid.nD Cert.KernelMid.τ).loc Cert.KernelMid.main_arg14) = m ((c.tc : Thread Cert.KernelMid.nD Cert.KernelMid.τ).loc Cert.KernelMid.main_arg14)
      ∧ r.2.mem ((c.tc : Thread Cert.KernelMid.nD Cert.KernelMid.τ).loc Cert.KernelMid.main_arg15) = m ((c.tc : Thread Cert.KernelMid.nD Cert.KernelMid.τ).loc Cert.KernelMid.main_arg15)
      ∧ r.2.mem ((c.tc : Thread Cert.KernelMid.nD Cert.KernelMid.τ).loc Cert.KernelMid.main_arg16) = m ((c.tc : Thread Cert.KernelMid.nD Cert.KernelMid.τ).loc Cert.KernelMid.main_arg16))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
      ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8)
      ∧ r.2.mem ((c.tc : Thread Cert.KernelMidIdeal.nD Cert.KernelMidIdeal.τ).loc Cert.KernelMidIdeal.main_arg9) = m ((c.tc : Thread Cert.KernelMidIdeal.nD Cert.KernelMidIdeal.τ).loc Cert.KernelMidIdeal.main_arg9)
      ∧ r.2.mem ((c.tc : Thread Cert.KernelMidIdeal.nD Cert.KernelMidIdeal.τ).loc Cert.KernelMidIdeal.main_arg10) = m ((c.tc : Thread Cert.KernelMidIdeal.nD Cert.KernelMidIdeal.τ).loc Cert.KernelMidIdeal.main_arg10)
      ∧ r.2.mem ((c.tc : Thread Cert.KernelMidIdeal.nD Cert.KernelMidIdeal.τ).loc Cert.KernelMidIdeal.main_arg11) = m ((c.tc : Thread Cert.KernelMidIdeal.nD Cert.KernelMidIdeal.τ).loc Cert.KernelMidIdeal.main_arg11)
      ∧ r.2.mem ((c.tc : Thread Cert.KernelMidIdeal.nD Cert.KernelMidIdeal.τ).loc Cert.KernelMidIdeal.main_arg12) = m ((c.tc : Thread Cert.KernelMidIdeal.nD Cert.KernelMidIdeal.τ).loc Cert.KernelMidIdeal.main_arg12)
      ∧ r.2.mem ((c.tc : Thread Cert.KernelMidIdeal.nD Cert.KernelMidIdeal.τ).loc Cert.KernelMidIdeal.main_arg13) = m ((c.tc : Thread Cert.KernelMidIdeal.nD Cert.KernelMidIdeal.τ).loc Cert.KernelMidIdeal.main_arg13)
      ∧ r.2.mem ((c.tc : Thread Cert.KernelMidIdeal.nD Cert.KernelMidIdeal.τ).loc Cert.KernelMidIdeal.main_arg14) = m ((c.tc : Thread Cert.KernelMidIdeal.nD Cert.KernelMidIdeal.τ).loc Cert.KernelMidIdeal.main_arg14)
      ∧ r.2.mem ((c.tc : Thread Cert.KernelMidIdeal.nD Cert.KernelMidIdeal.τ).loc Cert.KernelMidIdeal.main_arg15) = m ((c.tc : Thread Cert.KernelMidIdeal.nD Cert.KernelMidIdeal.τ).loc Cert.KernelMidIdeal.main_arg15)
      ∧ r.2.mem ((c.tc : Thread Cert.KernelMidIdeal.nD Cert.KernelMidIdeal.τ).loc Cert.KernelMidIdeal.main_arg16) = m ((c.tc : Thread Cert.KernelMidIdeal.nD Cert.KernelMidIdeal.τ).loc Cert.KernelMidIdeal.main_arg16))
      ∧ r.2.sem = fun _ => 0)

def quiescent_KernelMidIdeal_pre_queries_and_keys_finite [hKernelMidIdeal : Cert.KernelMidIdeal.Facts] [hPre_queries_and_keys_finite : Cert.Pre_queries_and_keys_finite.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal_queries_and_keys_finite m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
      ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8)
      ∧ r.2.mem ((c.tc : Thread Cert.KernelMidIdeal.nD Cert.KernelMidIdeal.τ).loc Cert.KernelMidIdeal.main_arg9) = m ((c.tc : Thread Cert.KernelMidIdeal.nD Cert.KernelMidIdeal.τ).loc Cert.KernelMidIdeal.main_arg9)
      ∧ r.2.mem ((c.tc : Thread Cert.KernelMidIdeal.nD Cert.KernelMidIdeal.τ).loc Cert.KernelMidIdeal.main_arg10) = m ((c.tc : Thread Cert.KernelMidIdeal.nD Cert.KernelMidIdeal.τ).loc Cert.KernelMidIdeal.main_arg10)
      ∧ r.2.mem ((c.tc : Thread Cert.KernelMidIdeal.nD Cert.KernelMidIdeal.τ).loc Cert.KernelMidIdeal.main_arg11) = m ((c.tc : Thread Cert.KernelMidIdeal.nD Cert.KernelMidIdeal.τ).loc Cert.KernelMidIdeal.main_arg11)
      ∧ r.2.mem ((c.tc : Thread Cert.KernelMidIdeal.nD Cert.KernelMidIdeal.τ).loc Cert.KernelMidIdeal.main_arg12) = m ((c.tc : Thread Cert.KernelMidIdeal.nD Cert.KernelMidIdeal.τ).loc Cert.KernelMidIdeal.main_arg12)
      ∧ r.2.mem ((c.tc : Thread Cert.KernelMidIdeal.nD Cert.KernelMidIdeal.τ).loc Cert.KernelMidIdeal.main_arg13) = m ((c.tc : Thread Cert.KernelMidIdeal.nD Cert.KernelMidIdeal.τ).loc Cert.KernelMidIdeal.main_arg13)
      ∧ r.2.mem ((c.tc : Thread Cert.KernelMidIdeal.nD Cert.KernelMidIdeal.τ).loc Cert.KernelMidIdeal.main_arg14) = m ((c.tc : Thread Cert.KernelMidIdeal.nD Cert.KernelMidIdeal.τ).loc Cert.KernelMidIdeal.main_arg14)
      ∧ r.2.mem ((c.tc : Thread Cert.KernelMidIdeal.nD Cert.KernelMidIdeal.τ).loc Cert.KernelMidIdeal.main_arg15) = m ((c.tc : Thread Cert.KernelMidIdeal.nD Cert.KernelMidIdeal.τ).loc Cert.KernelMidIdeal.main_arg15)
      ∧ r.2.mem ((c.tc : Thread Cert.KernelMidIdeal.nD Cert.KernelMidIdeal.τ).loc Cert.KernelMidIdeal.main_arg16) = m ((c.tc : Thread Cert.KernelMidIdeal.nD Cert.KernelMidIdeal.τ).loc Cert.KernelMidIdeal.main_arg16))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8)
      ∧ r.2.mem ((c.tc : Thread Cert.ReferenceMidIdeal.nD Cert.ReferenceMidIdeal.τ).loc Cert.ReferenceMidIdeal.main_arg9) = m ((c.tc : Thread Cert.ReferenceMidIdeal.nD Cert.ReferenceMidIdeal.τ).loc Cert.ReferenceMidIdeal.main_arg9)
      ∧ r.2.mem ((c.tc : Thread Cert.ReferenceMidIdeal.nD Cert.ReferenceMidIdeal.τ).loc Cert.ReferenceMidIdeal.main_arg10) = m ((c.tc : Thread Cert.ReferenceMidIdeal.nD Cert.ReferenceMidIdeal.τ).loc Cert.ReferenceMidIdeal.main_arg10)
      ∧ r.2.mem ((c.tc : Thread Cert.ReferenceMidIdeal.nD Cert.ReferenceMidIdeal.τ).loc Cert.ReferenceMidIdeal.main_arg11) = m ((c.tc : Thread Cert.ReferenceMidIdeal.nD Cert.ReferenceMidIdeal.τ).loc Cert.ReferenceMidIdeal.main_arg11)
      ∧ r.2.mem ((c.tc : Thread Cert.ReferenceMidIdeal.nD Cert.ReferenceMidIdeal.τ).loc Cert.ReferenceMidIdeal.main_arg12) = m ((c.tc : Thread Cert.ReferenceMidIdeal.nD Cert.ReferenceMidIdeal.τ).loc Cert.ReferenceMidIdeal.main_arg12)
      ∧ r.2.mem ((c.tc : Thread Cert.ReferenceMidIdeal.nD Cert.ReferenceMidIdeal.τ).loc Cert.ReferenceMidIdeal.main_arg13) = m ((c.tc : Thread Cert.ReferenceMidIdeal.nD Cert.ReferenceMidIdeal.τ).loc Cert.ReferenceMidIdeal.main_arg13)
      ∧ r.2.mem ((c.tc : Thread Cert.ReferenceMidIdeal.nD Cert.ReferenceMidIdeal.τ).loc Cert.ReferenceMidIdeal.main_arg14) = m ((c.tc : Thread Cert.ReferenceMidIdeal.nD Cert.ReferenceMidIdeal.τ).loc Cert.ReferenceMidIdeal.main_arg14)
      ∧ r.2.mem ((c.tc : Thread Cert.ReferenceMidIdeal.nD Cert.ReferenceMidIdeal.τ).loc Cert.ReferenceMidIdeal.main_arg15) = m ((c.tc : Thread Cert.ReferenceMidIdeal.nD Cert.ReferenceMidIdeal.τ).loc Cert.ReferenceMidIdeal.main_arg15)
      ∧ r.2.mem ((c.tc : Thread Cert.ReferenceMidIdeal.nD Cert.ReferenceMidIdeal.τ).loc Cert.ReferenceMidIdeal.main_arg16) = m ((c.tc : Thread Cert.ReferenceMidIdeal.nD Cert.ReferenceMidIdeal.τ).loc Cert.ReferenceMidIdeal.main_arg16))
      ∧ r.2.sem = fun _ => 0)

def quiescent_ReferenceMidIdeal_pre_queries_and_keys_finite [hReferenceMidIdeal : Cert.ReferenceMidIdeal.Facts] [hPre_queries_and_keys_finite : Cert.Pre_queries_and_keys_finite.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal_queries_and_keys_finite m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8)
      ∧ r.2.mem ((c.tc : Thread Cert.ReferenceMidIdeal.nD Cert.ReferenceMidIdeal.τ).loc Cert.ReferenceMidIdeal.main_arg9) = m ((c.tc : Thread Cert.ReferenceMidIdeal.nD Cert.ReferenceMidIdeal.τ).loc Cert.ReferenceMidIdeal.main_arg9)
      ∧ r.2.mem ((c.tc : Thread Cert.ReferenceMidIdeal.nD Cert.ReferenceMidIdeal.τ).loc Cert.ReferenceMidIdeal.main_arg10) = m ((c.tc : Thread Cert.ReferenceMidIdeal.nD Cert.ReferenceMidIdeal.τ).loc Cert.ReferenceMidIdeal.main_arg10)
      ∧ r.2.mem ((c.tc : Thread Cert.ReferenceMidIdeal.nD Cert.ReferenceMidIdeal.τ).loc Cert.ReferenceMidIdeal.main_arg11) = m ((c.tc : Thread Cert.ReferenceMidIdeal.nD Cert.ReferenceMidIdeal.τ).loc Cert.ReferenceMidIdeal.main_arg11)
      ∧ r.2.mem ((c.tc : Thread Cert.ReferenceMidIdeal.nD Cert.ReferenceMidIdeal.τ).loc Cert.ReferenceMidIdeal.main_arg12) = m ((c.tc : Thread Cert.ReferenceMidIdeal.nD Cert.ReferenceMidIdeal.τ).loc Cert.ReferenceMidIdeal.main_arg12)
      ∧ r.2.mem ((c.tc : Thread Cert.ReferenceMidIdeal.nD Cert.ReferenceMidIdeal.τ).loc Cert.ReferenceMidIdeal.main_arg13) = m ((c.tc : Thread Cert.ReferenceMidIdeal.nD Cert.ReferenceMidIdeal.τ).loc Cert.ReferenceMidIdeal.main_arg13)
      ∧ r.2.mem ((c.tc : Thread Cert.ReferenceMidIdeal.nD Cert.ReferenceMidIdeal.τ).loc Cert.ReferenceMidIdeal.main_arg14) = m ((c.tc : Thread Cert.ReferenceMidIdeal.nD Cert.ReferenceMidIdeal.τ).loc Cert.ReferenceMidIdeal.main_arg14)
      ∧ r.2.mem ((c.tc : Thread Cert.ReferenceMidIdeal.nD Cert.ReferenceMidIdeal.τ).loc Cert.ReferenceMidIdeal.main_arg15) = m ((c.tc : Thread Cert.ReferenceMidIdeal.nD Cert.ReferenceMidIdeal.τ).loc Cert.ReferenceMidIdeal.main_arg15)
      ∧ r.2.mem ((c.tc : Thread Cert.ReferenceMidIdeal.nD Cert.ReferenceMidIdeal.τ).loc Cert.ReferenceMidIdeal.main_arg16) = m ((c.tc : Thread Cert.ReferenceMidIdeal.nD Cert.ReferenceMidIdeal.τ).loc Cert.ReferenceMidIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_v6) = v2 c
          ∧ r.2.mem ((c.tc : Thread Cert.Reference2Ideal.nD Cert.Reference2Ideal.τ).loc Cert.Reference2Ideal.main_v7) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v141_0)) (v1 : (c : Dev Cert.Kernel4Ideal.nD) → Buf (Elt Ideal) ((c.tc : Thread Cert.Kernel4Ideal.nD Cert.Kernel4Ideal.τ).loc Cert.Kernel4Ideal.main_v141_1)) (v2 : (c : Dev Cert.Kernel4Ideal.nD) → Buf (Elt Ideal) ((c.tc : Thread Cert.Kernel4Ideal.nD Cert.Kernel4Ideal.τ).loc Cert.Kernel4Ideal.main_v142)) (v3 : (c : Dev Cert.Kernel4Ideal.nD) → Buf (Elt Ideal) ((c.tc : Thread Cert.Kernel4Ideal.nD Cert.Kernel4Ideal.τ).loc Cert.Kernel4Ideal.main_v143)) (v4 : (c : Dev Cert.Kernel4Ideal.nD) → Buf (Elt Ideal) ((c.tc : Thread Cert.Kernel4Ideal.nD Cert.Kernel4Ideal.τ).loc Cert.Kernel4Ideal.main_v145)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v141_0) = v0 c
          ∧ r.2.mem ((c.tc : Thread Cert.Kernel4Ideal.nD Cert.Kernel4Ideal.τ).loc Cert.Kernel4Ideal.main_v141_1) = v1 c
          ∧ r.2.mem ((c.tc : Thread Cert.Kernel4Ideal.nD Cert.Kernel4Ideal.τ).loc Cert.Kernel4Ideal.main_v142) = v2 c
          ∧ r.2.mem ((c.tc : Thread Cert.Kernel4Ideal.nD Cert.Kernel4Ideal.τ).loc Cert.Kernel4Ideal.main_v143) = v3 c
          ∧ r.2.mem ((c.tc : Thread Cert.Kernel4Ideal.nD Cert.Kernel4Ideal.τ).loc Cert.Kernel4Ideal.main_v145) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v36) = v3 c
          ∧ r.2.mem ((c.tc : Thread Cert.Reference4Ideal.nD Cert.Reference4Ideal.τ).loc Cert.Reference4Ideal.main_v38) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_KernelMid_KernelMidIdeal : Prop :=
  True

def algebraic_KernelMidIdeal_ReferenceMidIdeal_pre_queries_and_keys_finite [hKernelMidIdeal : Cert.KernelMidIdeal.Facts] [hReferenceMidIdeal : Cert.ReferenceMidIdeal.Facts] [hPre_queries_and_keys_finite : Cert.Pre_queries_and_keys_finite.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal_queries_and_keys_finite m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)
      ∧ m' ((c.tc : Thread Cert.ReferenceMidIdeal.nD Cert.ReferenceMidIdeal.τ).loc Cert.ReferenceMidIdeal.main_arg7) = m ((c.tc : Thread Cert.KernelMidIdeal.nD Cert.KernelMidIdeal.τ).loc Cert.KernelMidIdeal.main_arg7)
      ∧ m' ((c.tc : Thread Cert.ReferenceMidIdeal.nD Cert.ReferenceMidIdeal.τ).loc Cert.ReferenceMidIdeal.main_arg8) = m ((c.tc : Thread Cert.KernelMidIdeal.nD Cert.KernelMidIdeal.τ).loc Cert.KernelMidIdeal.main_arg8)
      ∧ m' ((c.tc : Thread Cert.ReferenceMidIdeal.nD Cert.ReferenceMidIdeal.τ).loc Cert.ReferenceMidIdeal.main_arg9) = m ((c.tc : Thread Cert.KernelMidIdeal.nD Cert.KernelMidIdeal.τ).loc Cert.KernelMidIdeal.main_arg9)
      ∧ m' ((c.tc : Thread Cert.ReferenceMidIdeal.nD Cert.ReferenceMidIdeal.τ).loc Cert.ReferenceMidIdeal.main_arg10) = m ((c.tc : Thread Cert.KernelMidIdeal.nD Cert.KernelMidIdeal.τ).loc Cert.KernelMidIdeal.main_arg10)
      ∧ m' ((c.tc : Thread Cert.ReferenceMidIdeal.nD Cert.ReferenceMidIdeal.τ).loc Cert.ReferenceMidIdeal.main_arg11) = m ((c.tc : Thread Cert.KernelMidIdeal.nD Cert.KernelMidIdeal.τ).loc Cert.KernelMidIdeal.main_arg11)
      ∧ m' ((c.tc : Thread Cert.ReferenceMidIdeal.nD Cert.ReferenceMidIdeal.τ).loc Cert.ReferenceMidIdeal.main_arg12) = m ((c.tc : Thread Cert.KernelMidIdeal.nD Cert.KernelMidIdeal.τ).loc Cert.KernelMidIdeal.main_arg12)
      ∧ m' ((c.tc : Thread Cert.ReferenceMidIdeal.nD Cert.ReferenceMidIdeal.τ).loc Cert.ReferenceMidIdeal.main_arg13) = m ((c.tc : Thread Cert.KernelMidIdeal.nD Cert.KernelMidIdeal.τ).loc Cert.KernelMidIdeal.main_arg13)
      ∧ m' ((c.tc : Thread Cert.ReferenceMidIdeal.nD Cert.ReferenceMidIdeal.τ).loc Cert.ReferenceMidIdeal.main_arg14) = m ((c.tc : Thread Cert.KernelMidIdeal.nD Cert.KernelMidIdeal.τ).loc Cert.KernelMidIdeal.main_arg14)
      ∧ m' ((c.tc : Thread Cert.ReferenceMidIdeal.nD Cert.ReferenceMidIdeal.τ).loc Cert.ReferenceMidIdeal.main_arg15) = m ((c.tc : Thread Cert.KernelMidIdeal.nD Cert.KernelMidIdeal.τ).loc Cert.KernelMidIdeal.main_arg15)
      ∧ m' ((c.tc : Thread Cert.ReferenceMidIdeal.nD Cert.ReferenceMidIdeal.τ).loc Cert.ReferenceMidIdeal.main_arg16) = m ((c.tc : Thread Cert.KernelMidIdeal.nD Cert.KernelMidIdeal.τ).loc Cert.KernelMidIdeal.main_arg16)) →
    ∃ (v0 : (c : Dev Cert.KernelMidIdeal.nD) → Buf (Elt Ideal) ((c.tc : Thread Cert.KernelMidIdeal.nD Cert.KernelMidIdeal.τ).loc Cert.KernelMidIdeal.main_v24_0)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v24_0) = v0 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
          ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8)
          ∧ r.2.mem ((c.tc : Thread Cert.KernelMidIdeal.nD Cert.KernelMidIdeal.τ).loc Cert.KernelMidIdeal.main_arg9) = m ((c.tc : Thread Cert.KernelMidIdeal.nD Cert.KernelMidIdeal.τ).loc Cert.KernelMidIdeal.main_arg9)
          ∧ r.2.mem ((c.tc : Thread Cert.KernelMidIdeal.nD Cert.KernelMidIdeal.τ).loc Cert.KernelMidIdeal.main_arg10) = m ((c.tc : Thread Cert.KernelMidIdeal.nD Cert.KernelMidIdeal.τ).loc Cert.KernelMidIdeal.main_arg10)
          ∧ r.2.mem ((c.tc : Thread Cert.KernelMidIdeal.nD Cert.KernelMidIdeal.τ).loc Cert.KernelMidIdeal.main_arg11) = m ((c.tc : Thread Cert.KernelMidIdeal.nD Cert.KernelMidIdeal.τ).loc Cert.KernelMidIdeal.main_arg11)
          ∧ r.2.mem ((c.tc : Thread Cert.KernelMidIdeal.nD Cert.KernelMidIdeal.τ).loc Cert.KernelMidIdeal.main_arg12) = m ((c.tc : Thread Cert.KernelMidIdeal.nD Cert.KernelMidIdeal.τ).loc Cert.KernelMidIdeal.main_arg12)
          ∧ r.2.mem ((c.tc : Thread Cert.KernelMidIdeal.nD Cert.KernelMidIdeal.τ).loc Cert.KernelMidIdeal.main_arg13) = m ((c.tc : Thread Cert.KernelMidIdeal.nD Cert.KernelMidIdeal.τ).loc Cert.KernelMidIdeal.main_arg13)
          ∧ r.2.mem ((c.tc : Thread Cert.KernelMidIdeal.nD Cert.KernelMidIdeal.τ).loc Cert.KernelMidIdeal.main_arg14) = m ((c.tc : Thread Cert.KernelMidIdeal.nD Cert.KernelMidIdeal.τ).loc Cert.KernelMidIdeal.main_arg14)
          ∧ r.2.mem ((c.tc : Thread Cert.KernelMidIdeal.nD Cert.KernelMidIdeal.τ).loc Cert.KernelMidIdeal.main_arg15) = m ((c.tc : Thread Cert.KernelMidIdeal.nD Cert.KernelMidIdeal.τ).loc Cert.KernelMidIdeal.main_arg15)
          ∧ r.2.mem ((c.tc : Thread Cert.KernelMidIdeal.nD Cert.KernelMidIdeal.τ).loc Cert.KernelMidIdeal.main_arg16) = m ((c.tc : Thread Cert.KernelMidIdeal.nD Cert.KernelMidIdeal.τ).loc Cert.KernelMidIdeal.main_arg16))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v88) = v0 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7)
          ∧ r.2.mem ((c.tc : Thread Cert.ReferenceMidIdeal.nD Cert.ReferenceMidIdeal.τ).loc Cert.ReferenceMidIdeal.main_arg8) = m' ((c.tc : Thread Cert.ReferenceMidIdeal.nD Cert.ReferenceMidIdeal.τ).loc Cert.ReferenceMidIdeal.main_arg8)
          ∧ r.2.mem ((c.tc : Thread Cert.ReferenceMidIdeal.nD Cert.ReferenceMidIdeal.τ).loc Cert.ReferenceMidIdeal.main_arg9) = m' ((c.tc : Thread Cert.ReferenceMidIdeal.nD Cert.ReferenceMidIdeal.τ).loc Cert.ReferenceMidIdeal.main_arg9)
          ∧ r.2.mem ((c.tc : Thread Cert.ReferenceMidIdeal.nD Cert.ReferenceMidIdeal.τ).loc Cert.ReferenceMidIdeal.main_arg10) = m' ((c.tc : Thread Cert.ReferenceMidIdeal.nD Cert.ReferenceMidIdeal.τ).loc Cert.ReferenceMidIdeal.main_arg10)
          ∧ r.2.mem ((c.tc : Thread Cert.ReferenceMidIdeal.nD Cert.ReferenceMidIdeal.τ).loc Cert.ReferenceMidIdeal.main_arg11) = m' ((c.tc : Thread Cert.ReferenceMidIdeal.nD Cert.ReferenceMidIdeal.τ).loc Cert.ReferenceMidIdeal.main_arg11)
          ∧ r.2.mem ((c.tc : Thread Cert.ReferenceMidIdeal.nD Cert.ReferenceMidIdeal.τ).loc Cert.ReferenceMidIdeal.main_arg12) = m' ((c.tc : Thread Cert.ReferenceMidIdeal.nD Cert.ReferenceMidIdeal.τ).loc Cert.ReferenceMidIdeal.main_arg12)
          ∧ r.2.mem ((c.tc : Thread Cert.ReferenceMidIdeal.nD Cert.ReferenceMidIdeal.τ).loc Cert.ReferenceMidIdeal.main_arg13) = m' ((c.tc : Thread Cert.ReferenceMidIdeal.nD Cert.ReferenceMidIdeal.τ).loc Cert.ReferenceMidIdeal.main_arg13)
          ∧ r.2.mem ((c.tc : Thread Cert.ReferenceMidIdeal.nD Cert.ReferenceMidIdeal.τ).loc Cert.ReferenceMidIdeal.main_arg14) = m' ((c.tc : Thread Cert.ReferenceMidIdeal.nD Cert.ReferenceMidIdeal.τ).loc Cert.ReferenceMidIdeal.main_arg14)
          ∧ r.2.mem ((c.tc : Thread Cert.ReferenceMidIdeal.nD Cert.ReferenceMidIdeal.τ).loc Cert.ReferenceMidIdeal.main_arg15) = m' ((c.tc : Thread Cert.ReferenceMidIdeal.nD Cert.ReferenceMidIdeal.τ).loc Cert.ReferenceMidIdeal.main_arg15)
          ∧ r.2.mem ((c.tc : Thread Cert.ReferenceMidIdeal.nD Cert.ReferenceMidIdeal.τ).loc Cert.ReferenceMidIdeal.main_arg16) = m' ((c.tc : Thread Cert.ReferenceMidIdeal.nD Cert.ReferenceMidIdeal.τ).loc Cert.ReferenceMidIdeal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernelMid : Cert.KernelMid.Facts) (hKernelMidIdeal : Cert.KernelMidIdeal.Facts) (hReferenceMidIdeal : Cert.ReferenceMidIdeal.Facts) (hPre_counts_in_range : Cert.Pre_counts_in_range.Facts) (hPre_queries_and_keys_finite : Cert.Pre_queries_and_keys_finite.Facts),
    quiescent_Kernel (hKernel := hKernel) (hPre_counts_in_range := hPre_counts_in_range)
    ∧ quiescent_KernelIdeal (hKernelIdeal := hKernelIdeal) (hPre_counts_in_range := hPre_counts_in_range)
    ∧ quiescent_ReferenceIdeal (hReferenceIdeal := hReferenceIdeal)
    ∧ quiescent_ReferenceIdeal_pre_counts_in_range (hReferenceIdeal := hReferenceIdeal) (hPre_counts_in_range := hPre_counts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_KernelMid (hKernelMid := hKernelMid)
    ∧ quiescent_KernelMidIdeal (hKernelMidIdeal := hKernelMidIdeal)
    ∧ quiescent_KernelMidIdeal_pre_queries_and_keys_finite (hKernelMidIdeal := hKernelMidIdeal) (hPre_queries_and_keys_finite := hPre_queries_and_keys_finite)
    ∧ quiescent_ReferenceMidIdeal (hReferenceMidIdeal := hReferenceMidIdeal)
    ∧ quiescent_ReferenceMidIdeal_pre_queries_and_keys_finite (hReferenceMidIdeal := hReferenceMidIdeal) (hPre_queries_and_keys_finite := hPre_queries_and_keys_finite)
    ∧ preserves_Kernel_KernelIdeal
    ∧ algebraic_KernelIdeal_ReferenceIdeal (hKernelIdeal := hKernelIdeal) (hReferenceIdeal := hReferenceIdeal) (hPre_counts_in_range := hPre_counts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_KernelMid_KernelMidIdeal
    ∧ algebraic_KernelMidIdeal_ReferenceMidIdeal_pre_queries_and_keys_finite (hKernelMidIdeal := hKernelMidIdeal) (hReferenceMidIdeal := hReferenceMidIdeal) (hPre_queries_and_keys_finite := hPre_queries_and_keys_finite)
-- ==== Pre_counts_in_range.lean ====
abbrev S32 : Shape := ⟨1, ![32]⟩
abbrev S66048x1024 : Shape := ⟨2, ![66048, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : FVec F S66048x1024 .f32) (main_arg2 : FVec F S32x1024x2048 .f32) (main_arg3 : FVec F S32x2048 .f32) (main_arg4 : FVec F S32x1024x1024 .f32) (main_arg5 : FVec F S32x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 66048#32
  let main_v2 : IVec S32 32 := broadcastInDim S32 ![] bcast_S_S32 main_c_0
  let main_v3 : IVec S32 1 := cmpi .sle main_arg0 main_v2
  let main_v4 : IVec S32 1 := andi main_v1 main_v3
  main_v4
-- ==== Pre_queries_and_keys_finite.lean ====
abbrev S8x2048x1024 : Shape := ⟨3, ![8, 2048, 1024]⟩
abbrev S8x2048x256 : Shape := ⟨3, ![8, 2048, 256]⟩
abbrev S8x2048x768 : Shape := ⟨3, ![8, 2048, 768]⟩
abbrev S1x1024x1024 : Shape := ⟨3, ![1, 1024, 1024]⟩
abbrev S1x1024 : Shape := ⟨2, ![1, 1024]⟩
abbrev S8x256x1024 : Shape := ⟨3, ![8, 256, 1024]⟩
abbrev S1x1024x32 : Shape := ⟨3, ![1, 1024, 32]⟩
abbrev S1x32 : Shape := ⟨2, ![1, 32]⟩
abbrev S32x1024 : Shape := ⟨2, ![32, 1024]⟩
abbrev S1x32x256x4x256 : Shape := ⟨5, ![1, 32, 256, 4, 256]⟩
abbrev S1x1024x1 : Shape := ⟨3, ![1, 1024, 1]⟩
abbrev S_ : Shape := ⟨0, ![]⟩
abbrev S2x1024x1024 : Shape := ⟨3, ![2, 1024, 1024]⟩

class Facts : Prop where
  shapeCasts_S1x1024_S1x1024x1 : S1x1024.ShapeCasts S1x1024x1
  bcast_S_S1x1024x1 : S_.BroadcastsInDim S1x1024x1 (![] : Fin 0 → Fin S1x1024x1.rank)
  bcast_S_S1x1024x1024 : S_.BroadcastsInDim S1x1024x1024 (![] : Fin 0 → Fin S1x1024x1024.rank)
  bcast_S1x1024x1_S1x1024x1024_0_1_2 : S1x1024x1.BroadcastsInDim S1x1024x1024 (![0, 1, 2] : Fin 3 → Fin S1x1024x1024.rank)
  bitsLt_bf16_f32 : FTy.bits .bf16 < FTy.bits .f32
  shapeCasts_S8x256x1024_S2x1024x1024 : S8x256x1024.ShapeCasts S2x1024x1024
  bcast_S_S2x1024x1024 : S_.BroadcastsInDim S2x1024x1024 (![] : Fin 0 → Fin S2x1024x1024.rank)
  bcast_S1x1024x1024_S2x1024x1024_0_1_2 : S1x1024x1024.BroadcastsInDim S2x1024x1024 (![0, 1, 2] : Fin 3 → Fin S2x1024x1024.rank)

variable [Facts]

def fn_part1 {F : FTy → Type} [FloatOps F] (main_v18 : IVec S2x1024x1024 1) (main_v19 : IVec S2x1024x1024 1) : IVec S2x1024x1024 1 :=
  let main_v20 : IVec S2x1024x1024 1 := andi main_v19 main_v18
  main_v20

def fn {F : FTy → Type} [FloatOps F] (main_arg0 : FVec F S8x2048x1024 .f32) (main_arg1 : FVec F S8x2048x256 .bf16) (main_arg2 : FVec F S8x2048x768 .bf16) (main_arg3 : FVec F S1x1024x1024 .f32) (main_arg4 : FVec F S1x1024 .f32) (main_arg5 : FVec F S1x1024 .f32) (main_arg6 : FVec F S8x256x1024 .bf16) (main_arg7 : FVec F S8x256x1024 .bf16) (main_arg8 : FVec F S1x1024x1024 .f32) (main_arg9 : FVec F S1x1024x1024 .f32) (main_arg10 : FVec F S1x1024 .f32) (main_arg11 : FVec F S1x1024 .f32) (main_arg12 : FVec F S1x1024x32 .f32) (main_arg13 : FVec F S1x32 .f32) (main_arg14 : FVec F S32x1024 .f32) (main_arg15 : FVec F S1x32x256x4x256 .f32) (main_arg16 : FVec F S1x32x256x4x256 .f32) : IVec S2x1024x1024 1 :=
  let main_v0 : FVec F S1x1024x1 .f32 := shapeCast S1x1024x1 main_arg4 shapeCasts_S1x1024_S1x1024x1
  let main_v1 : FVec F S1x1024x1 .f32 := Host.absf main_v0
  let main_cst : FVec F S_ .f32 := constant S_ .f32 0x7F800000#32
  let main_v2 : FVec F S1x1024x1 .f32 := broadcastInDim S1x1024x1 ![] bcast_S_S1x1024x1 main_cst
  let main_v3 : IVec S1x1024x1 1 := cmpf .olt main_v1 main_v2
  let main_v4 : FVec F S1x1024x1 .f32 := shapeCast S1x1024x1 main_arg5 shapeCasts_S1x1024_S1x1024x1
  let main_v5 : FVec F S1x1024x1 .f32 := Host.absf main_v4
  let main_cst_0 : FVec F S_ .f32 := constant S_ .f32 0x7F800000#32
  let main_v6 : FVec F S1x1024x1 .f32 := broadcastInDim S1x1024x1 ![] bcast_S_S1x1024x1 main_cst_0
  let main_v7 : IVec S1x1024x1 1 := cmpf .olt main_v5 main_v6
  let main_v8 : IVec S1x1024x1 1 := andi main_v3 main_v7
  let main_v9 : FVec F S1x1024x1024 .f32 := Host.absf main_arg8
  let main_cst_1 : FVec F S_ .f32 := constant S_ .f32 0x7F800000#32
  let main_v10 : FVec F S1x1024x1024 .f32 := broadcastInDim S1x1024x1024 ![] bcast_S_S1x1024x1024 main_cst_1
  let main_v11 : IVec S1x1024x1024 1 := cmpf .olt main_v9 main_v10
  let main_v12 : IVec S1x1024x1024 1 := broadcastInDim S1x1024x1024 ![0, 1, 2] bcast_S1x1024x1_S1x1024x1024_0_1_2 main_v8
  let main_v13 : IVec S1x1024x1024 1 := andi main_v12 main_v11
  let main_v14 : FVec F S8x256x1024 .f32 := (extf .f32 · bitsLt_bf16_f32) main_arg6
  let main_v15 : FVec F S2x1024x1024 .f32 := shapeCast S2x1024x1024 main_v14 shapeCasts_S8x256x1024_S2x1024x1024
  let main_v16 : FVec F S2x1024x1024 .f32 := Host.absf main_v15
  let main_cst_2 : FVec F S_ .f32 := constant S_ .f32 0x7F800000#32
  let main_v17 : FVec F S2x1024x1024 .f32 := broadcastInDim S2x1024x1024 ![] bcast_S_S2x1024x1024 main_cst_2
  let main_v18 : IVec S2x1024x1024 1 := cmpf .olt main_v16 main_v17
  let main_v19 : IVec S2x1024x1024 1 := broadcastInDim S2x1024x1024 ![0, 1, 2] bcast_S1x1024x1024_S2x1024x1024_0_1_2 main_v13
  fn_part1 (F := F) main_v18 main_v19
-- ==== Kernel.lean ====
abbrev S32 : Shape := ⟨1, ![32]⟩
abbrev S66048x1024 : Shape := ⟨2, ![66048, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S129 : Shape := ⟨1, ![129]⟩
abbrev S31 : Shape := ⟨1, ![31]⟩
abbrev S160 : Shape := ⟨1, ![160]⟩
abbrev S159 : Shape := ⟨1, ![159]⟩
abbrev S1 : Shape := ⟨1, ![1]⟩
abbrev S1x32 : Shape := ⟨2, ![1, 32]⟩
abbrev S160x1 : Shape := ⟨2, ![160, 1]⟩
abbrev S160x32 : Shape := ⟨2, ![160, 32]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩
abbrev S512x1 : Shape := ⟨2, ![512, 1]⟩

abbrev nBuf : Space → Nat
  | .hbm => 59
  | .vmem => 14
  | .smem => 5
  | _ => 0

abbrev bufTy : (tb : Table) → Fin (tcTables nBuf tb) → BufTy
  | .hbm, ⟨0, _⟩ => ⟨S32, .i32⟩
  | .hbm, ⟨1, _⟩ => ⟨S66048x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S129, .i32⟩
  | .hbm, ⟨10, _⟩ => ⟨S_, .i32⟩
  | .hbm, ⟨11, _⟩ => ⟨S129, .i32⟩
  | .hbm, ⟨12, _⟩ => ⟨S129, .i32⟩
  | .hbm, ⟨13, _⟩ => ⟨S31, .i32⟩
  | .hbm, ⟨14, _⟩ => ⟨S160, .i32⟩
  | .hbm, ⟨15, _⟩ => ⟨S160, .i32⟩
  | .hbm, ⟨16, _⟩ => ⟨S159, .i32⟩
  | .hbm, ⟨17, _⟩ => ⟨S_, .i32⟩
  | .hbm, ⟨18, _⟩ => ⟨S1, .i32⟩
  | .hbm, ⟨19, _⟩ => ⟨S160, .i32⟩
  | .hbm, ⟨20, _⟩ => ⟨S_, .i32⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S160, .i32⟩
  | .hbm, ⟨25, _⟩ => ⟨S_, .i32⟩
  | .hbm, ⟨26, _⟩ => ⟨S160, .i32⟩
  | .hbm, ⟨27, _⟩ => ⟨S160, .i1⟩
  | .hbm, ⟨28, _⟩ => ⟨S160, .i32⟩
  | .hbm, ⟨29, _⟩ => ⟨S160, .i32⟩
  | .hbm, ⟨30, _⟩ => ⟨S_, .i32⟩
  | .hbm, ⟨31, _⟩ => ⟨S160, .i32⟩
  | .hbm, ⟨32, _⟩ => ⟨S160, .i1⟩
  | .hbm, ⟨33, _⟩ => ⟨S160, .i1⟩
  | .hbm, ⟨34, _⟩ => ⟨S_, .i32⟩
  | .hbm, ⟨35, _⟩ => ⟨S160, .i32⟩
  | .hbm, ⟨36, _⟩ => ⟨S160, .i32⟩
  | .hbm, ⟨37, _⟩ => ⟨S160, .i32⟩
  | .hbm, ⟨38, _⟩ => ⟨S_, .i32⟩
  | .hbm, ⟨39, _⟩ => ⟨S160, .i32⟩
  | .hbm, ⟨40, _⟩ => ⟨S1x32, .i32⟩
  | .hbm, ⟨41, _⟩ => ⟨S160x1, .i32⟩
  | .hbm, ⟨42, _⟩ => ⟨S160x32, .i32⟩
  | .hbm, ⟨43, _⟩ => ⟨S160x32, .i32⟩
  | .hbm, ⟨44, _⟩ => ⟨S160x32, .i1⟩
  | .hbm, ⟨45, _⟩ => ⟨S160x32, .i32⟩
  | .hbm, ⟨46, _⟩ => ⟨S_, .i32⟩
  | .hbm, ⟨47, _⟩ => ⟨S160, .i32⟩
  | .hbm, ⟨48, _⟩ => ⟨S_, .i32⟩
  | .hbm, ⟨49, _⟩ => ⟨S160, .i32⟩
  | .hbm, ⟨50, _⟩ => ⟨S_, .i32⟩
  | .hbm, ⟨51, _⟩ => ⟨S160, .i32⟩
  | .hbm, ⟨52, _⟩ => ⟨S160, .i32⟩
  | .hbm, ⟨53, _⟩ => ⟨S_, .i32⟩
  | .hbm, ⟨54, _⟩ => ⟨S160, .i32⟩
  | .hbm, ⟨55, _⟩ => ⟨S160, .i32⟩
  | .hbm, ⟨56, _⟩ => ⟨S32x1x2048, .f32⟩
  | .hbm, ⟨57, _⟩ => ⟨S32x1x1024, .f32⟩
  | .hbm, ⟨58, _⟩ => ⟨S66048x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_c : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_0 : Ref sig .tc := ⟨.hbm, 34, rfl⟩
abbrev main_call2_v12 : Ref sig .tc := ⟨.hbm, 35, rfl⟩
abbrev main_call2_v13 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v12 : Ref sig .tc := ⟨.smem, 0, rfl⟩
abbrev main_v21 : Ref sig .tc := ⟨.smem, 1, rfl⟩
abbrev main_v24 : Ref sig .tc := ⟨.smem, 2, rfl⟩
abbrev main_v27 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_v12.idx, main_v21.idx, main_v24.idx, main_v27.idx], fun | 0 => main_v12.names | 1 => main_v21.names | 2 => main_v24.names | 3 => main_v27.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v40 : Index := Scalar.indexCast arg0
  ![v40.toNat]
def k0_cond3 (i : grid0.Coords) (v2 : BitVec 32) (v6 : BitVec 32) : BitVec 1 :=
  let arg0 : BitVec 32 := BitVec.ofNat 32 (i 0).val
  let c0_i32 : BitVec 32 := 0#32
  let v0 : BitVec 1 := Scalar.cmpi .eq arg0 c0_i32
  let v7 : BitVec 1 := Scalar.cmpi .ne v2 v6
  let v8 : BitVec 1 := Scalar.ori v0 v7
  let v24 : BitVec 32 := Scalar.extui v8
  let c0_i32_4 : BitVec 32 := 0#32
  let v25 : BitVec 1 := Scalar.cmpi .ne v24 c0_i32_4
  v25

def k0_cond4 (v10 : BitVec 32) (v12 : BitVec 32) : BitVec 1 :=
  let v13 : BitVec 1 := Scalar.cmpi .sgt v12 v10
  let v26 : BitVec 32 := Scalar.extui v13
  let c0_i32_5 : BitVec 32 := 0#32
  let v27 : BitVec 1 := Scalar.cmpi .ne v26 c0_i32_5
  v27

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32 : Shape := ⟨1, ![32]⟩
abbrev S66048x1024 : Shape := ⟨2, ![66048, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S66048 : Shape := ⟨1, ![66048]⟩
abbrev S_ : Shape := ⟨0, ![]⟩
abbrev S1x32 : Shape := ⟨2, ![1, 32]⟩
abbrev S66048x1 : Shape := ⟨2, ![66048, 1]⟩
abbrev S66048x32 : Shape := ⟨2, ![66048, 32]⟩
abbrev S66048x1024x2048 : Shape := ⟨3, ![66048, 1024, 2048]⟩
abbrev S66048x2048 : Shape := ⟨2, ![66048, 2048]⟩
abbrev S66048x1024x1024 : Shape := ⟨3, ![66048, 1024, 1024]⟩

abbrev nBuf : Space → Nat
  | .hbm => 90
  | .vmem => 0
  | .smem => 0
  | _ => 0

abbrev bufTy : (tb : Table) → Fin (tcTables nBuf tb) → BufTy
  | .hbm, ⟨0, _⟩ => ⟨S32, .i32⟩
  | .hbm, ⟨1, _⟩ => ⟨S66048x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S66048, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S1x32, .i32⟩
  | .hbm, ⟨11, _⟩ => ⟨S66048x1, .i32⟩
  | .hbm, ⟨12, _⟩ => ⟨S66048x32, .i32⟩
  | .hbm, ⟨13, _⟩ => ⟨S66048x32, .i32⟩
  | .hbm, ⟨14, _⟩ => ⟨S66048x32, .i1⟩
  | .hbm, ⟨15, _⟩ => ⟨S66048x32, .i32⟩
  | .hbm, ⟨16, _⟩ => ⟨S_, .i32⟩
  | .hbm, ⟨17, _⟩ => ⟨S66048, .i32⟩
  | .hbm, ⟨18, _⟩ => ⟨S_, .i32⟩
  | .hbm, ⟨19, _⟩ => ⟨S66048, .i32⟩
  | .hbm, ⟨20, _⟩ => ⟨S66048, .i32⟩
  | .hbm, ⟨21, _⟩ => ⟨S_, .i32⟩
  | .hbm, ⟨22, _⟩ => ⟨S66048, .i32⟩
  | .hbm, ⟨23, _⟩ => ⟨S66048, .i1⟩
  | .hbm, ⟨24, _⟩ => ⟨S_, .i32⟩
  | .hbm, ⟨25, _⟩ => ⟨S66048, .i32⟩
  | .hbm, ⟨26, _⟩ => ⟨S66048, .i32⟩
  | .hbm, ⟨27, _⟩ => ⟨S66048, .i32⟩
  | .hbm, ⟨28, _⟩ => ⟨S66048x1, .i32⟩
  | .hbm, ⟨29, _⟩ => ⟨S66048x1024x2048, .f32⟩
  | .hbm, ⟨30, _⟩ => ⟨S66048x2048, .f32⟩
  | .hbm, ⟨31, _⟩ => ⟨S_, .i32⟩
  | .hbm, ⟨32, _⟩ => ⟨S66048, .i32⟩
  | .hbm, ⟨33, _⟩ => ⟨S66048, .i1⟩
  | .hbm, ⟨34, _⟩ => ⟨S_, .i32⟩
  | .hbm, ⟨35, _⟩ => ⟨S66048, .i32⟩
  | .hbm, ⟨36, _⟩ => ⟨S66048, .i32⟩
  | .hbm, ⟨37, _⟩ => ⟨S66048, .i32⟩
  | .hbm, ⟨38, _⟩ => ⟨S66048x1, .i32⟩
  | .hbm, ⟨39, _⟩ => ⟨S66048x2048, .f32⟩
  | .hbm, ⟨40, _⟩ => ⟨S66048x2048, .f32⟩
  | .hbm, ⟨41, _⟩ => ⟨S66048x1024, .f32⟩
  | .hbm, ⟨42, _⟩ => ⟨S66048x1024, .f32⟩
  | .hbm, ⟨43, _⟩ => ⟨S_, .f32⟩
  | .hbm, ⟨44, _⟩ => ⟨S66048x1024, .f32⟩
  | .hbm, ⟨45, _⟩ => ⟨S66048x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S66048x1024, .f32⟩
  | .hbm, ⟨50, _⟩ => ⟨S66048x1024, .f32⟩
  | .hbm, ⟨51, _⟩ => ⟨S_, .f32⟩
  | .hbm, ⟨52, _⟩ => ⟨S66048x1024, .f32⟩
  | .hbm, ⟨53, _⟩ => ⟨S66048x1024, .f32⟩
  | .hbm, ⟨54, _⟩ => ⟨S_, .f32⟩
  | .hbm, ⟨55, _⟩ => ⟨S66048x1024, .f32⟩
  | .hbm, ⟨56, _⟩ => ⟨S66048x1024, .f32⟩
  | .hbm, ⟨57, _⟩ => ⟨S66048x1024, .f32⟩
  | .hbm, ⟨58, _⟩ => ⟨S_, .f32⟩
  | .hbm, ⟨59, _⟩ => ⟨S66048x1024, .f32⟩
  | .hbm, ⟨60, _⟩ => ⟨S66048x1024, .f32⟩
  | .hbm, ⟨61, _⟩ => ⟨S66048x1024, .f32⟩
  | .hbm, ⟨62, _⟩ => ⟨S66048x1024, .f32⟩
  | .hbm, ⟨63, _⟩ => ⟨S_, .f32⟩
  | .hbm, ⟨64, _⟩ => ⟨S66048x1024, .f32⟩
  | .hbm, ⟨65, _⟩ => ⟨S66048x1024, .f32⟩
  | .hbm, ⟨66, _⟩ => ⟨S_, .f32⟩
  | .hbm, ⟨67, _⟩ => ⟨S66048x1024, .f32⟩
  | .hbm, ⟨68, _⟩ => ⟨S66048x1024, .f32⟩
  | .hbm, ⟨69, _⟩ => ⟨S66048x1024, .f32⟩
  | .hbm, ⟨70, _⟩ => ⟨S_, .i32⟩
  | .hbm, ⟨71, _⟩ => ⟨S66048, .i32⟩
  | .hbm, ⟨72, _⟩ => ⟨S66048, .i1⟩
  | .hbm, ⟨73, _⟩ => ⟨S_, .i32⟩
  | .hbm, ⟨74, _⟩ => ⟨S66048, .i32⟩
  | .hbm, ⟨75, _⟩ => ⟨S66048, .i32⟩
  | .hbm, ⟨76, _⟩ => ⟨S66048, .i32⟩
  | .hbm, ⟨77, _⟩ => ⟨S66048x1, .i32⟩
  | .hbm, ⟨78, _⟩ => ⟨S66048x1024x1024, .f32⟩
  | .hbm, ⟨79, _⟩ => ⟨S66048x1024, .f32⟩
  | .hbm, ⟨80, _⟩ => ⟨S_, .i32⟩
  | .hbm, ⟨81, _⟩ => ⟨S66048, .i32⟩
  | .hbm, ⟨82, _⟩ => ⟨S66048, .i1⟩
  | .hbm, ⟨83, _⟩ => ⟨S_, .i32⟩
  | .hbm, ⟨84, _⟩ => ⟨S66048, .i32⟩
  | .hbm, ⟨85, _⟩ => ⟨S66048, .i32⟩
  | .hbm, ⟨86, _⟩ => ⟨S66048, .i32⟩
  | .hbm, ⟨87, _⟩ => ⟨S66048x1, .i32⟩
  | .hbm, ⟨88, _⟩ => ⟨S66048x1024, .f32⟩
  | .hbm, ⟨89, _⟩ => ⟨S66048x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel2.lean ====
abbrev S8x256x1024 : Shape := ⟨3, ![8, 256, 1024]⟩
abbrev S1x1024x1024 : Shape := ⟨3, ![1, 1024, 1024]⟩
abbrev S1024x1024 : Shape := ⟨2, ![1024, 1024]⟩
abbrev S8x256x4x256 : Shape := ⟨4, ![8, 256, 4, 256]⟩
abbrev S1x256x1024 : Shape := ⟨3, ![1, 256, 1024]⟩
abbrev S1x256x4x256 : Shape := ⟨4, ![1, 256, 4, 256]⟩
abbrev S256x1024 : Shape := ⟨2, ![256, 1024]⟩
abbrev S256x4x256 : Shape := ⟨3, ![256, 4, 256]⟩
abbrev S1x8x256x4x256 : Shape := ⟨5, ![1, 8, 256, 4, 256]⟩

abbrev nBuf : Space → Nat
  | .hbm => 13
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S8x256x4x256, .f32⟩
  | .hbm, ⟨8, _⟩ => ⟨S8x256x4x256, .f32⟩
  | .hbm, ⟨9, _⟩ => ⟨S8x256x1024, .bf16⟩
  | .hbm, ⟨10, _⟩ => ⟨S8x256x1024, .bf16⟩
  | .hbm, ⟨11, _⟩ => ⟨S1x8x256x4x256, .f32⟩
  | .hbm, ⟨12, _⟩ => ⟨S1x8x256x4x256, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256x4x256, .f32⟩
  | .local _ .vmem, ⟨5, _⟩ => ⟨S1x256x4x256, .f32⟩
  | .local _ .vmem, ⟨6, _⟩ => ⟨S1x256x4x256, .f32⟩
  | .local _ .vmem, ⟨7, _⟩ => ⟨S1x256x4x256, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x256x1024 : Shape := ⟨3, ![8, 256, 1024]⟩
abbrev S1x1024x1024 : Shape := ⟨3, ![1, 1024, 1024]⟩
abbrev S1024x1024 : Shape := ⟨2, ![1024, 1024]⟩
abbrev S1x8x256x4x256 : Shape := ⟨5, ![1, 8, 256, 4, 256]⟩

abbrev nBuf : Space → Nat
  | .hbm => 11
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S8x256x1024, .f32⟩
  | .hbm, ⟨5, _⟩ => ⟨S1024x1024, .f32⟩
  | .hbm, ⟨6, _⟩ => ⟨S8x256x1024, .f32⟩
  | .hbm, ⟨7, _⟩ => ⟨S1x8x256x4x256, .f32⟩
  | .hbm, ⟨8, _⟩ => ⟨S1x8x256x4x256, .f32⟩
  | .hbm, ⟨9, _⟩ => ⟨S8x256x1024, .bf16⟩
  | .hbm, ⟨10, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S32x1x1024 : Shape := ⟨3, ![32, 1, 1024]⟩
abbrev S1x1024x3072 : Shape := ⟨3, ![1, 1024, 3072]⟩
abbrev S1024x3072 : Shape := ⟨2, ![1024, 3072]⟩
abbrev S32x1024 : Shape := ⟨2, ![32, 1024]⟩
abbrev S32x3072 : Shape := ⟨2, ![32, 3072]⟩
abbrev S1024x512 : Shape := ⟨2, ![1024, 512]⟩
abbrev S32x512 : Shape := ⟨2, ![32, 512]⟩
abbrev S32x768 : Shape := ⟨2, ![32, 768]⟩
abbrev S1x32x1x12x64 : Shape := ⟨5, ![1, 32, 1, 12, 64]⟩

abbrev nBuf : Space → Nat
  | .hbm => 10
  | .vmem => 5
  | .smem => 0
  | _ => 0

abbrev bufTy : (tb : Table) → Fin (tcTables nBuf tb) → BufTy
  | .hbm, ⟨0, _⟩ => ⟨S32x1x1024, .f32⟩
  | .hbm, ⟨1, _⟩ => ⟨S1x1024x3072, .f32⟩
  | .hbm, ⟨2, _⟩ => ⟨S1024x3072, .f32⟩
  | .hbm, ⟨3, _⟩ => ⟨S1024x3072, .bf16⟩
  | .hbm, ⟨4, _⟩ => ⟨S32x1024, .f32⟩
  | .hbm, ⟨5, _⟩ => ⟨S32x3072, .f32⟩
  | .hbm, ⟨6, _⟩ => ⟨S32x768, .f32⟩
  | .hbm, ⟨7, _⟩ => ⟨S32x768, .f32⟩
  | .hbm, ⟨8, _⟩ => ⟨S1x32x1x12x64, .f32⟩
  | .hbm, ⟨9, _⟩ => ⟨S1x32x1x12x64, .f32⟩
  | .local _ .vmem, ⟨0, _⟩ => ⟨S32x1024, .f32⟩
  | .local _ .vmem, ⟨1, _⟩ => ⟨S1024x512, .bf16⟩
  | .local _ .vmem, ⟨2, _⟩ => ⟨S1024x512, .bf16⟩
  | .local _ .vmem, ⟨3, _⟩ => ⟨S32x512, .f32⟩
  | .local _ .vmem, ⟨4, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S32x1x1024 : Shape := ⟨3, ![32, 1, 1024]⟩
abbrev S1x1024x3072 : Shape := ⟨3, ![1, 1024, 3072]⟩
abbrev S1024x3072 : Shape := ⟨2, ![1024, 3072]⟩
abbrev S32x1x3072 : Shape := ⟨3, ![32, 1, 3072]⟩
abbrev S32x1x768 : Shape := ⟨3, ![32, 1, 768]⟩
abbrev S1x32x1x12x64 : Shape := ⟨5, ![1, 32, 1, 12, 64]⟩

abbrev nBuf : Space → Nat
  | .hbm => 8
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024x3072, .f32⟩
  | .hbm, ⟨2, _⟩ => ⟨S1024x3072, .f32⟩
  | .hbm, ⟨3, _⟩ => ⟨S32x1x3072, .f32⟩
  | .hbm, ⟨4, _⟩ => ⟨S32x1x768, .f32⟩
  | .hbm, ⟨5, _⟩ => ⟨S1x32x1x12x64, .f32⟩
  | .hbm, ⟨6, _⟩ => ⟨S32x1x768, .f32⟩
  | .hbm, ⟨7, _⟩ => ⟨S1x32x1x12x64, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S8x2048x1024 : Shape := ⟨3, ![8, 2048, 1024]⟩
abbrev S1x1024x3072 : Shape := ⟨3, ![1, 1024, 3072]⟩
abbrev S1x3x256 : Shape := ⟨3, ![1, 3, 256]⟩
abbrev S32x768 : Shape := ⟨2, ![32, 768]⟩
abbrev S1x32x2048x12x64 : Shape := ⟨5, ![1, 32, 2048, 12, 64]⟩
abbrev S32x12 : Shape := ⟨2, ![32, 12]⟩
abbrev S129 : Shape := ⟨1, ![129]⟩
abbrev S_ : Shape := ⟨0, ![]⟩
abbrev S129x1 : Shape := ⟨2, ![129, 1]⟩
abbrev S129x12 : Shape := ⟨2, ![129, 12]⟩
abbrev S1x129x12 : Shape := ⟨3, ![1, 129, 12]⟩
abbrev S3x129x12 : Shape := ⟨3, ![3, 129, 12]⟩
abbrev S3x127x12 : Shape := ⟨3, ![3, 127, 12]⟩
abbrev S3x256x12 : Shape := ⟨3, ![3, 256, 12]⟩
abbrev S3x12x256 : Shape := ⟨3, ![3, 12, 256]⟩
abbrev S3x6x2x256 : Shape := ⟨4, ![3, 6, 2, 256]⟩
abbrev S1024x3072 : Shape := ⟨2, ![1024, 3072]⟩
abbrev S3x1x12 : Shape := ⟨3, ![3, 1, 12]⟩
abbrev S3x12 : Shape := ⟨2, ![3, 12]⟩
abbrev S3x12x1 : Shape := ⟨3, ![3, 12, 1]⟩
abbrev S3x256 : Shape := ⟨2, ![3, 256]⟩
abbrev S32x12x64 : Shape := ⟨3, ![32, 12, 64]⟩
abbrev S32x128x128 : Shape := ⟨3, ![32, 128, 128]⟩
abbrev S32x2048x12x64 : Shape := ⟨4, ![32, 2048, 12, 64]⟩
abbrev S32x12x64x2048 : Shape := ⟨4, ![32, 12, 64, 2048]⟩
abbrev S1x128x12 : Shape := ⟨3, ![1, 128, 12]⟩
abbrev S128x12 : Shape := ⟨2, ![128, 12]⟩
abbrev S1920x12 : Shape := ⟨2, ![1920, 12]⟩
abbrev S2048x12 : Shape := ⟨2, ![2048, 12]⟩
abbrev S2048x0x12 : Shape := ⟨3, ![2048, 0, 12]⟩
abbrev S2048x1x12 : Shape := ⟨3, ![2048, 1, 12]⟩
abbrev S12x2048 : Shape := ⟨2, ![12, 2048]⟩
abbrev S384x12 : Shape := ⟨2, ![384, 12]⟩
abbrev S512x12 : Shape := ⟨2, ![512, 12]⟩
abbrev S512x3x12 : Shape := ⟨3, ![512, 3, 12]⟩
abbrev S512x1x12 : Shape := ⟨3, ![512, 1, 12]⟩
abbrev S512x4x12 : Shape := ⟨3, ![512, 4, 12]⟩
abbrev S0x12 : Shape := ⟨2, ![0, 12]⟩
abbrev S128x15x12 : Shape := ⟨3, ![128, 15, 12]⟩
abbrev S128x1x12 : Shape := ⟨3, ![128, 1, 12]⟩
abbrev S128x16x12 : Shape := ⟨3, ![128, 16, 12]⟩
abbrev S1x12x2048 : Shape := ⟨3, ![1, 12, 2048]⟩
abbrev S3x12x2048 : Shape := ⟨3, ![3, 12, 2048]⟩
abbrev S8x2048x256 : Shape := ⟨3, ![8, 2048, 256]⟩
abbrev S8x2048x768 : Shape := ⟨3, ![8, 2048, 768]⟩
abbrev S8x8x256 : Shape := ⟨3, ![8, 8, 256]⟩
abbrev S32x64x128 : Shape := ⟨3, ![32, 64, 128]⟩
abbrev S1x512x1024 : Shape := ⟨3, ![1, 512, 1024]⟩
abbrev S1x128x128 : Shape := ⟨3, ![1, 128, 128]⟩
abbrev S1x12x64x2048 : Shape := ⟨4, ![1, 12, 64, 2048]⟩
abbrev S1x512x256 : Shape := ⟨3, ![1, 512, 256]⟩
abbrev S1x512x768 : Shape := ⟨3, ![1, 512, 768]⟩
abbrev S1x8x256 : Shape := ⟨3, ![1, 8, 256]⟩
abbrev S1x64x128 : Shape := ⟨3, ![1, 64, 128]⟩
abbrev S520x256 : Shape := ⟨2, ![520, 256]⟩
abbrev S8x256 : Shape := ⟨2, ![8, 256]⟩
abbrev S512x1024 : Shape := ⟨2, ![512, 1024]⟩
abbrev S1024x256 : Shape := ⟨2, ![1024, 256]⟩
abbrev S512x256 : Shape := ⟨2, ![512, 256]⟩
abbrev S1x256 : Shape := ⟨2, ![1, 256]⟩
abbrev S1024x768 : Shape := ⟨2, ![1024, 768]⟩
abbrev S512x768 : Shape := ⟨2, ![512, 768]⟩
abbrev S128x128 : Shape := ⟨2, ![128, 128]⟩
abbrev S64x1 : Shape := ⟨2, ![64, 1]⟩
abbrev S1x64x1 : Shape := ⟨3, ![1, 64, 1]⟩
abbrev S12x64x1 : Shape := ⟨3, ![12, 64, 1]⟩
abbrev S12x64x2048 : Shape := ⟨3, ![12, 64, 2048]⟩
abbrev S12x1 : Shape := ⟨2, ![12, 1]⟩
abbrev S12x128 : Shape := ⟨2, ![12, 128]⟩
abbrev S1x12x128 : Shape := ⟨3, ![1, 12, 128]⟩
abbrev S1x12x1 : Shape := ⟨3, ![1, 12, 1]⟩
abbrev S12 : Shape := ⟨1, ![12]⟩
abbrev S1x12x64x128 : Shape := ⟨4, ![1, 12, 64, 128]⟩
abbrev S12x64x128 : Shape := ⟨3, ![12, 64, 128]⟩
abbrev S12x1x128 : Shape := ⟨3, ![12, 1, 128]⟩
abbrev S12x64 : Shape := ⟨2, ![12, 64]⟩
abbrev S12x1x1 : Shape := ⟨3, ![12, 1, 1]⟩
abbrev S12x512 : Shape := ⟨2, ![12, 512]⟩
abbrev S1x12x512 : Shape := ⟨3, ![1, 12, 512]⟩
abbrev S1x12x64x512 : Shape := ⟨4, ![1, 12, 64, 512]⟩
abbrev S12x64x512 : Shape := ⟨3, ![12, 64, 512]⟩
abbrev S12x1x512 : Shape := ⟨3, ![12, 1, 512]⟩
abbrev S12x1x2048 : Shape := ⟨3, ![12, 1, 2048]⟩
abbrev S64x128 : Shape := ⟨2, ![64, 128]⟩
abbrev S1x8x2048x12x64 : Shape := ⟨5, ![1, 8, 2048, 12, 64]⟩
abbrev S8x2x256 : Shape := ⟨3, ![8, 2, 256]⟩
abbrev S1x8x2x256 : Shape := ⟨4, ![1, 8, 2, 256]⟩

abbrev nBuf : Space → Nat
  | .hbm => 203
  | .vmem => 29
  | .smem => 0
  | _ => 0

abbrev hbmTy0_0 (i : Nat) : BufTy := match i % 128 with
  | 0 => ⟨S8x2048x1024, .f32⟩
  | 1 => ⟨S1x1024x3072, .f32⟩
  | 2 => ⟨S1x3x256, .f32⟩
  | 3 => ⟨S32x768, .f32⟩
  | 4 => ⟨S32x768, .f32⟩
  | 5 => ⟨S32x768, .f32⟩
  | 6 => ⟨S1x32x2048x12x64, .f32⟩
  | 7 => ⟨S1x32x2048x12x64, .f32⟩
  | 8 => ⟨S32x12, .f32⟩
  | 9 => ⟨S129, .i32⟩
  | 10 => ⟨S_, .i32⟩
  | 11 => ⟨S129, .i32⟩
  | 12 => ⟨S129, .i32⟩
  | 13 => ⟨S_, .i32⟩
  | 14 => ⟨S129, .i32⟩
  | 15 => ⟨S129, .i32⟩
  | 16 => ⟨S129, .f32⟩
  | 17 => ⟨S_, .f32⟩
  | 18 => ⟨S129, .f32⟩
  | 19 => ⟨S129, .f32⟩
  | 20 => ⟨S129, .f32⟩
  | 21 => ⟨S_, .f32⟩
  | 22 => ⟨S129, .f32⟩
  | 23 => ⟨S129, .f32⟩
  | 24 => ⟨S_, .f32⟩
  | 25 => ⟨S129, .f32⟩
  | 26 => ⟨S129, .f32⟩
  | 27 => ⟨S129, .i32⟩
  | 28 => ⟨S_, .i32⟩
  | 29 => ⟨S129, .i32⟩
  | 30 => ⟨S129, .i32⟩
  | 31 => ⟨S_, .i32⟩
  | 32 => ⟨S129, .i32⟩
  | 33 => ⟨S129, .i1⟩
  | 34 => ⟨S_, .i32⟩
  | 35 => ⟨S129, .i32⟩
  | 36 => ⟨S129, .i32⟩
  | 37 => ⟨S129, .i32⟩
  | 38 => ⟨S_, .i32⟩
  | 39 => ⟨S129, .i32⟩
  | 40 => ⟨S129, .i1⟩
  | 41 => ⟨S_, .i32⟩
  | 42 => ⟨S129, .i32⟩
  | 43 => ⟨S129, .i32⟩
  | 44 => ⟨S129, .i32⟩
  | 45 => ⟨S129x1, .i32⟩
  | 46 => ⟨S129x12, .f32⟩
  | 47 => ⟨S_, .i32⟩
  | 48 => ⟨S129, .i32⟩
  | 49 => ⟨S129, .i32⟩
  | 50 => ⟨S_, .i32⟩
  | 51 => ⟨S129, .i32⟩
  | 52 => ⟨S129, .i32⟩
  | 53 => ⟨S129, .f32⟩
  | 54 => ⟨S_, .f32⟩
  | 55 => ⟨S129, .f32⟩
  | 56 => ⟨S129, .f32⟩
  | 57 => ⟨S129, .f32⟩
  | 58 => ⟨S_, .f32⟩
  | 59 => ⟨S129, .f32⟩
  | 60 => ⟨S129, .f32⟩
  | 61 => ⟨S_, .f32⟩
  | 62 => ⟨S129, .f32⟩
  | 63 => ⟨S129, .f32⟩
  | 64 => ⟨S129, .i32⟩
  | 65 => ⟨S_, .i32⟩
  | 66 => ⟨S129, .i32⟩
  | 67 => ⟨S129, .i32⟩
  | 68 => ⟨S_, .i32⟩
  | 69 => ⟨S129, .i32⟩
  | 70 => ⟨S129, .i1⟩
  | 71 => ⟨S_, .i32⟩
  | 72 => ⟨S129, .i32⟩
  | 73 => ⟨S129, .i32⟩
  | 74 => ⟨S129, .i32⟩
  | 75 => ⟨S_, .i32⟩
  | 76 => ⟨S129, .i32⟩
  | 77 => ⟨S129, .i1⟩
  | 78 => ⟨S_, .i32⟩
  | 79 => ⟨S129, .i32⟩
  | 80 => ⟨S129, .i32⟩
  | 81 => ⟨S129, .i32⟩
  | 82 => ⟨S129x1, .i32⟩
  | 83 => ⟨S129x12, .f32⟩
  | 84 => ⟨S_, .i32⟩
  | 85 => ⟨S129, .i32⟩
  | 86 => ⟨S129, .i32⟩
  | 87 => ⟨S_, .i32⟩
  | 88 => ⟨S129, .i32⟩
  | 89 => ⟨S129, .i32⟩
  | 90 => ⟨S129, .f32⟩
  | 91 => ⟨S_, .f32⟩
  | 92 => ⟨S129, .f32⟩
  | 93 => ⟨S129, .f32⟩
  | 94 => ⟨S129, .f32⟩
  | 95 => ⟨S_, .f32⟩
  | 96 => ⟨S129, .f32⟩
  | 97 => ⟨S129, .f32⟩
  | 98 => ⟨S_, .f32⟩
  | 99 => ⟨S129, .f32⟩
  | 100 => ⟨S129, .f32⟩
  | 101 => ⟨S129, .i32⟩
  | 102 => ⟨S_, .i32⟩
  | 103 => ⟨S129, .i32⟩
  | 104 => ⟨S129, .i32⟩
  | 105 => ⟨S_, .i32⟩
  | 106 => ⟨S129, .i32⟩
  | 107 => ⟨S129, .i1⟩
  | 108 => ⟨S_, .i32⟩
  | 109 => ⟨S129, .i32⟩
  | 110 => ⟨S129, .i32⟩
  | 111 => ⟨S129, .i32⟩
  | 112 => ⟨S_, .i32⟩
  | 113 => ⟨S129, .i32⟩
  | 114 => ⟨S129, .i1⟩
  | 115 => ⟨S_, .i32⟩
  | 116 => ⟨S129, .i32⟩
  | 117 => ⟨S129, .i32⟩
  | 118 => ⟨S129, .i32⟩
  | 119 => ⟨S129x1, .i32⟩
  | 120 => ⟨S129x12, .f32⟩
  | 121 => ⟨S1x129x12, .f32⟩
  | 122 => ⟨S1x129x12, .f32⟩
  | 123 => ⟨S1x129x12, .f32⟩
  | 124 => ⟨S3x129x12, .f32⟩
  | 125 => ⟨S3x129x12, .f32⟩
  | 126 => ⟨S_, .f32⟩
  | 127 => ⟨S3x127x12, .f32⟩
  | _ => ⟨S8x2048x1024, .f32⟩

abbrev hbmTy0_1 (i : Nat) : BufTy := match i % 128 with
  | 0 => ⟨S3x256x12, .f32⟩
  | 1 => ⟨S3x12x256, .f32⟩
  | 2 => ⟨S3x6x2x256, .f32⟩
  | 3 => ⟨S1024x3072, .f32⟩
  | 4 => ⟨S1024x3072, .bf16⟩
  | 5 => ⟨S3x1x12, .f32⟩
  | 6 => ⟨S3x12, .f32⟩
  | 7 => ⟨S3x12x1, .f32⟩
  | 8 => ⟨S3x256, .f32⟩
  | 9 => ⟨S32x12x64, .f32⟩
  | 10 => ⟨S_, .i32⟩
  | 11 => ⟨S_, .f32⟩
  | 12 => ⟨S32x128x128, .f32⟩
  | 13 => ⟨S32x12x64, .f32⟩
  | 14 => ⟨S_, .i32⟩
  | 15 => ⟨S_, .f32⟩
  | 16 => ⟨S32x128x128, .f32⟩
  | 17 => ⟨S32x12x64, .f32⟩
  | 18 => ⟨S_, .i32⟩
  | 19 => ⟨S_, .f32⟩
  | 20 => ⟨S32x128x128, .f32⟩
  | 21 => ⟨S32x2048x12x64, .f32⟩
  | 22 => ⟨S32x12x64x2048, .f32⟩
  | 23 => ⟨S32x2048x12x64, .f32⟩
  | 24 => ⟨S32x12x64x2048, .f32⟩
  | 25 => ⟨S1x128x12, .f32⟩
  | 26 => ⟨S1x128x12, .f32⟩
  | 27 => ⟨S128x12, .f32⟩
  | 28 => ⟨S_, .f32⟩
  | 29 => ⟨S1920x12, .f32⟩
  | 30 => ⟨S2048x12, .f32⟩
  | 31 => ⟨S_, .f32⟩
  | 32 => ⟨S2048x0x12, .f32⟩
  | 33 => ⟨S2048x1x12, .f32⟩
  | 34 => ⟨S2048x1x12, .f32⟩
  | 35 => ⟨S2048x12, .f32⟩
  | 36 => ⟨S12x2048, .f32⟩
  | 37 => ⟨S1x128x12, .f32⟩
  | 38 => ⟨S1x128x12, .f32⟩
  | 39 => ⟨S128x12, .f32⟩
  | 40 => ⟨S_, .f32⟩
  | 41 => ⟨S384x12, .f32⟩
  | 42 => ⟨S512x12, .f32⟩
  | 43 => ⟨S_, .f32⟩
  | 44 => ⟨S512x3x12, .f32⟩
  | 45 => ⟨S512x1x12, .f32⟩
  | 46 => ⟨S512x4x12, .f32⟩
  | 47 => ⟨S2048x12, .f32⟩
  | 48 => ⟨S12x2048, .f32⟩
  | 49 => ⟨S1x128x12, .f32⟩
  | 50 => ⟨S1x128x12, .f32⟩
  | 51 => ⟨S128x12, .f32⟩
  | 52 => ⟨S_, .f32⟩
  | 53 => ⟨S0x12, .f32⟩
  | 54 => ⟨S128x12, .f32⟩
  | 55 => ⟨S_, .f32⟩
  | 56 => ⟨S128x15x12, .f32⟩
  | 57 => ⟨S128x1x12, .f32⟩
  | 58 => ⟨S128x16x12, .f32⟩
  | 59 => ⟨S2048x12, .f32⟩
  | 60 => ⟨S12x2048, .f32⟩
  | 61 => ⟨S1x12x2048, .f32⟩
  | 62 => ⟨S1x12x2048, .f32⟩
  | 63 => ⟨S1x12x2048, .f32⟩
  | 64 => ⟨S3x12x2048, .f32⟩
  | 65 => ⟨S8x2048x256, .bf16⟩
  | 66 => ⟨S8x2048x768, .f32⟩
  | 67 => ⟨S8x2048x768, .f32⟩
  | 68 => ⟨S8x2048x768, .f32⟩
  | 69 => ⟨S8x8x256, .f32⟩
  | 70 => ⟨S32x64x128, .f32⟩
  | 71 => ⟨S1x8x2048x12x64, .f32⟩
  | 72 => ⟨S1x8x2048x12x64, .f32⟩
  | 73 => ⟨S8x2x256, .f32⟩
  | 74 => ⟨S1x8x2x256, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S3x256, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x12x64x2048, .f32⟩
  | .local _ .vmem, ⟨11, _⟩ => ⟨S1x12x64x2048, .f32⟩
  | .local _ .vmem, ⟨12, _⟩ => ⟨S1x12x64x2048, .f32⟩
  | .local _ .vmem, ⟨13, _⟩ => ⟨S1x12x64x2048, .f32⟩
  | .local _ .vmem, ⟨14, _⟩ => ⟨S3x12x2048, .f32⟩
  | .local _ .vmem, ⟨15, _⟩ => ⟨S3x12x1, .f32⟩
  | .local _ .vmem, ⟨16, _⟩ => ⟨S1x512x256, .bf16⟩
  | .local _ .vmem, ⟨17, _⟩ => ⟨S1x512x256, .bf16⟩
  | .local _ .vmem, ⟨18, _⟩ => ⟨S1x512x768, .f32⟩
  | .local _ .vmem, ⟨19, _⟩ => ⟨S1x512x768, .f32⟩
  | .local _ .vmem, ⟨20, _⟩ => ⟨S1x512x768, .f32⟩
  | .local _ .vmem, ⟨21, _⟩ => ⟨S1x512x768, .f32⟩
  | .local _ .vmem, ⟨22, _⟩ => ⟨S1x512x768, .f32⟩
  | .local _ .vmem, ⟨23, _⟩ => ⟨S1x512x768, .f32⟩
  | .local _ .vmem, ⟨24, _⟩ => ⟨S1x8x256, .f32⟩
  | .local _ .vmem, ⟨25, _⟩ => ⟨S1x8x256, .f32⟩
  | .local _ .vmem, ⟨26, _⟩ => ⟨S1x64x128, .f32⟩
  | .local _ .vmem, ⟨27, _⟩ => ⟨S1x64x128, .f32⟩
  | .local _ .vmem, ⟨28, _⟩ => ⟨S520x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_13 : Ref sig .tc := ⟨.hbm, 65, rfl⟩
abbrev main_v41 : Ref sig .tc := ⟨.hbm, 66, rfl⟩
abbrev main_v42 : Ref sig .tc := ⟨.hbm, 67, rfl⟩
abbrev main_c_14 : Ref sig .tc := ⟨.hbm, 68, rfl⟩
abbrev main_v43 : Ref sig .tc := ⟨.hbm, 69, rfl⟩
abbrev main_v44 : Ref sig .tc := ⟨.hbm, 70, rfl⟩
abbrev main_c_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_16 : Ref sig .tc := ⟨.hbm, 75, rfl⟩
abbrev main_v48 : Ref sig .tc := ⟨.hbm, 76, rfl⟩
abbrev main_v49 : Ref sig .tc := ⟨.hbm, 77, rfl⟩
abbrev main_c_17 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_18 : Ref sig .tc := ⟨.hbm, 84, rfl⟩
abbrev main_v55 : Ref sig .tc := ⟨.hbm, 85, rfl⟩
abbrev main_v56 : Ref sig .tc := ⟨.hbm, 86, rfl⟩
abbrev main_c_19 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_20 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_21 : Ref sig .tc := ⟨.hbm, 95, rfl⟩
abbrev main_v63 : Ref sig .tc := ⟨.hbm, 96, rfl⟩
abbrev main_v64 : Ref sig .tc := ⟨.hbm, 97, rfl⟩
abbrev main_cst_22 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_23 : Ref sig .tc := ⟨.hbm, 102, rfl⟩
abbrev main_v68 : Ref sig .tc := ⟨.hbm, 103, rfl⟩
abbrev main_v69 : Ref sig .tc := ⟨.hbm, 104, rfl⟩
abbrev main_c_24 : Ref sig .tc := ⟨.hbm, 105, rfl⟩
abbrev main_v70 : Ref sig .tc := ⟨.hbm, 106, rfl⟩
abbrev main_v71 : Ref sig .tc := ⟨.hbm, 107, rfl⟩
abbrev main_c_25 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_26 : Ref sig .tc := ⟨.hbm, 112, rfl⟩
abbrev main_v75 : Ref sig .tc := ⟨.hbm, 113, rfl⟩
abbrev main_v76 : Ref sig .tc := ⟨.hbm, 114, rfl⟩
abbrev main_c_27 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_28 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_29 : Ref sig .tc := ⟨.hbm, 138, rfl⟩
abbrev main_call3_v0 : Ref sig .tc := ⟨.hbm, 139, rfl⟩
abbrev main_v98 : Ref sig .tc := ⟨.hbm, 140, rfl⟩
abbrev main_v99 : Ref sig .tc := ⟨.hbm, 141, rfl⟩
abbrev main_c_30 : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_c_31 : Ref sig .tc := ⟨.hbm, 146, rfl⟩
abbrev main_call5_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_32 : Ref sig .tc := ⟨.hbm, 156, rfl⟩
abbrev main_v110 : Ref sig .tc := ⟨.hbm, 157, rfl⟩
abbrev main_v111 : Ref sig .tc := ⟨.hbm, 158, rfl⟩
abbrev main_cst_33 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_34 : Ref sig .tc := ⟨.hbm, 168, rfl⟩
abbrev main_v120 : Ref sig .tc := ⟨.hbm, 169, rfl⟩
abbrev main_v121 : Ref sig .tc := ⟨.hbm, 170, rfl⟩
abbrev main_cst_35 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_36 : Ref sig .tc := ⟨.hbm, 180, rfl⟩
abbrev main_v130 : Ref sig .tc := ⟨.hbm, 181, rfl⟩
abbrev main_v131 : Ref sig .tc := ⟨.hbm, 182, rfl⟩
abbrev main_cst_37 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141_0 : Ref sig .tc := ⟨.hbm, 193, rfl⟩
abbrev main_v141_1 : Ref sig .tc := ⟨.hbm, 194, rfl⟩
abbrev main_v141_2 : Ref sig .tc := ⟨.hbm, 195, rfl⟩
abbrev main_v141_3 : Ref sig .tc := ⟨.hbm, 196, rfl⟩
abbrev main_v141_4 : Ref sig .tc := ⟨.hbm, 197, rfl⟩
abbrev main_v141_5 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x12x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x12x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x12x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x12x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S8x2048x1024 : Shape := ⟨3, ![8, 2048, 1024]⟩
abbrev S1x1024x3072 : Shape := ⟨3, ![1, 1024, 3072]⟩
abbrev S1x3x256 : Shape := ⟨3, ![1, 3, 256]⟩
abbrev S32x768 : Shape := ⟨2, ![32, 768]⟩
abbrev S1x32x2048x12x64 : Shape := ⟨5, ![1, 32, 2048, 12, 64]⟩
abbrev S32x12 : Shape := ⟨2, ![32, 12]⟩
abbrev S1024x3072 : Shape := ⟨2, ![1024, 3072]⟩
abbrev S8x2048x3072 : Shape := ⟨3, ![8, 2048, 3072]⟩
abbrev S8x2048x256 : Shape := ⟨3, ![8, 2048, 256]⟩
abbrev S8x2048x768 : Shape := ⟨3, ![8, 2048, 768]⟩
abbrev S_ : Shape := ⟨0, ![]⟩
abbrev S8x2x256 : Shape := ⟨3, ![8, 2, 256]⟩
abbrev S8x2050x256 : Shape := ⟨3, ![8, 2050, 256]⟩
abbrev S1x1x256 : Shape := ⟨3, ![1, 1, 256]⟩
abbrev S256 : Shape := ⟨1, ![256]⟩
abbrev S1x8x2048x12x64 : Shape := ⟨5, ![1, 8, 2048, 12, 64]⟩
abbrev S1x8x2x256 : Shape := ⟨4, ![1, 8, 2, 256]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3072, .f32⟩
  | .hbm, ⟨2, _⟩ => ⟨S1x3x256, .f32⟩
  | .hbm, ⟨3, _⟩ => ⟨S32x768, .f32⟩
  | .hbm, ⟨4, _⟩ => ⟨S32x768, .f32⟩
  | .hbm, ⟨5, _⟩ => ⟨S32x768, .f32⟩
  | .hbm, ⟨6, _⟩ => ⟨S1x32x2048x12x64, .f32⟩
  | .hbm, ⟨7, _⟩ => ⟨S1x32x2048x12x64, .f32⟩
  | .hbm, ⟨8, _⟩ => ⟨S32x12, .f32⟩
  | .hbm, ⟨9, _⟩ => ⟨S1024x3072, .f32⟩
  | .hbm, ⟨10, _⟩ => ⟨S8x2048x3072, .f32⟩
  | .hbm, ⟨11, _⟩ => ⟨S8x2048x256, .f32⟩
  | .hbm, ⟨12, _⟩ => ⟨S8x2048x256, .f32⟩
  | .hbm, ⟨13, _⟩ => ⟨S8x2048x256, .f32⟩
  | .hbm, ⟨14, _⟩ => ⟨S8x2048x768, .f32⟩
  | .hbm, ⟨15, _⟩ => ⟨S8x2048x768, .f32⟩
  | .hbm, ⟨16, _⟩ => ⟨S8x2048x768, .f32⟩
  | .hbm, ⟨17, _⟩ => ⟨S8x2048x256, .f32⟩
  | .hbm, ⟨18, _⟩ => ⟨S_, .f32⟩
  | .hbm, ⟨19, _⟩ => ⟨S8x2x256, .f32⟩
  | .hbm, ⟨20, _⟩ => ⟨S8x2050x256, .f32⟩
  | .hbm, ⟨21, _⟩ => ⟨S1x1x256, .f32⟩
  | .hbm, ⟨22, _⟩ => ⟨S256, .f32⟩
  | .hbm, ⟨23, _⟩ => ⟨S8x2048x256, .f32⟩
  | .hbm, ⟨24, _⟩ => ⟨S1x1x256, .f32⟩
  | .hbm, ⟨25, _⟩ => ⟨S8x2048x256, .f32⟩
  | .hbm, ⟨26, _⟩ => ⟨S8x2048x256, .f32⟩
  | .hbm, ⟨27, _⟩ => ⟨S1x1x256, .f32⟩
  | .hbm, ⟨28, _⟩ => ⟨S256, .f32⟩
  | .hbm, ⟨29, _⟩ => ⟨S8x2048x256, .f32⟩
  | .hbm, ⟨30, _⟩ => ⟨S1x1x256, .f32⟩
  | .hbm, ⟨31, _⟩ => ⟨S8x2048x256, .f32⟩
  | .hbm, ⟨32, _⟩ => ⟨S8x2048x256, .f32⟩
  | .hbm, ⟨33, _⟩ => ⟨S8x2048x256, .f32⟩
  | .hbm, ⟨34, _⟩ => ⟨S1x1x256, .f32⟩
  | .hbm, ⟨35, _⟩ => ⟨S256, .f32⟩
  | .hbm, ⟨36, _⟩ => ⟨S8x2048x256, .f32⟩
  | .hbm, ⟨37, _⟩ => ⟨S1x1x256, .f32⟩
  | .hbm, ⟨38, _⟩ => ⟨S8x2048x256, .f32⟩
  | .hbm, ⟨39, _⟩ => ⟨S8x2048x256, .f32⟩
  | .hbm, ⟨40, _⟩ => ⟨S8x2048x256, .f32⟩
  | .hbm, ⟨41, _⟩ => ⟨S8x2048x256, .f32⟩
  | .hbm, ⟨42, _⟩ => ⟨S8x2048x256, .bf16⟩
  | .hbm, ⟨43, _⟩ => ⟨S_, .f32⟩
  | .hbm, ⟨44, _⟩ => ⟨S8x2048x768, .f32⟩
  | .hbm, ⟨45, _⟩ => ⟨S8x2048x768, .f32⟩
  | .hbm, ⟨46, _⟩ => ⟨S1x8x2048x12x64, .f32⟩
  | .hbm, ⟨47, _⟩ => ⟨S1x8x2048x12x64, .f32⟩
  | .hbm, ⟨48, _⟩ => ⟨S8x2x256, .f32⟩
  | .hbm, ⟨49, _⟩ => ⟨S1x8x2x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel5.lean ====
abbrev S32x1x1024 : Shape := ⟨3, ![32, 1, 1024]⟩
abbrev S1x32x2x256 : Shape := ⟨4, ![1, 32, 2, 256]⟩
abbrev S1x1024x3072 : Shape := ⟨3, ![1, 1024, 3072]⟩
abbrev S1x3x256 : Shape := ⟨3, ![1, 3, 256]⟩
abbrev S32x768 : Shape := ⟨2, ![32, 768]⟩
abbrev S1x1024x1024 : Shape := ⟨3, ![1, 1024, 1024]⟩
abbrev S1x1024 : Shape := ⟨2, ![1, 1024]⟩
abbrev S1024x3072 : Shape := ⟨2, ![1024, 3072]⟩
abbrev S1024x1024 : Shape := ⟨2, ![1024, 1024]⟩
abbrev S32x1024 : Shape := ⟨2, ![32, 1024]⟩
abbrev S32x3072 : Shape := ⟨2, ![32, 3072]⟩
abbrev S1024x512 : Shape := ⟨2, ![1024, 512]⟩
abbrev S32x512 : Shape := ⟨2, ![32, 512]⟩
abbrev S32x2x256 : Shape := ⟨3, ![32, 2, 256]⟩
abbrev S32x1x256 : Shape := ⟨3, ![32, 1, 256]⟩
abbrev S32x256 : Shape := ⟨2, ![32, 256]⟩
abbrev S3x256 : Shape := ⟨2, ![3, 256]⟩
abbrev S1024 : Shape := ⟨1, ![1024]⟩
abbrev S1x256 : Shape := ⟨2, ![1, 256]⟩
abbrev S32 : Shape := ⟨1, ![32]⟩
abbrev S32x1 : Shape := ⟨2, ![32, 1]⟩

abbrev nBuf : Space → Nat
  | .hbm => 36
  | .vmem => 18
  | .smem => 0
  | _ => 0

abbrev bufTy : (tb : Table) → Fin (tcTables nBuf tb) → BufTy
  | .hbm, ⟨0, _⟩ => ⟨S32x1x1024, .f32⟩
  | .hbm, ⟨1, _⟩ => ⟨S1x32x2x256, .f32⟩
  | .hbm, ⟨2, _⟩ => ⟨S1x1024x3072, .f32⟩
  | .hbm, ⟨3, _⟩ => ⟨S1x3x256, .f32⟩
  | .hbm, ⟨4, _⟩ => ⟨S32x768, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1024x3072, .f32⟩
  | .hbm, ⟨10, _⟩ => ⟨S1024x3072, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S32x1024, .f32⟩
  | .hbm, ⟨16, _⟩ => ⟨S32x3072, .f32⟩
  | .hbm, ⟨17, _⟩ => ⟨S32x2x256, .f32⟩
  | .hbm, ⟨18, _⟩ => ⟨S32x1x256, .f32⟩
  | .hbm, ⟨19, _⟩ => ⟨S32x256, .f32⟩
  | .hbm, ⟨20, _⟩ => ⟨S32x1x256, .f32⟩
  | .hbm, ⟨21, _⟩ => ⟨S32x256, .f32⟩
  | .hbm, ⟨22, _⟩ => ⟨S3x256, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S32x1024, .f32⟩
  | .hbm, ⟨28, _⟩ => ⟨S32x1024, .f32⟩
  | .hbm, ⟨29, _⟩ => ⟨S32x256, .f32⟩
  | .hbm, ⟨30, _⟩ => ⟨S32x1x256, .f32⟩
  | .hbm, ⟨31, _⟩ => ⟨S32x256, .f32⟩
  | .hbm, ⟨32, _⟩ => ⟨S32x1x256, .f32⟩
  | .hbm, ⟨33, _⟩ => ⟨S32x1x256, .f32⟩
  | .hbm, ⟨34, _⟩ => ⟨S32x2x256, .f32⟩
  | .hbm, ⟨35, _⟩ => ⟨S1x32x2x256, .f32⟩
  | .local _ .vmem, ⟨0, _⟩ => ⟨S32x1024, .f32⟩
  | .local _ .vmem, ⟨1, _⟩ => ⟨S1024x512, .bf16⟩
  | .local _ .vmem, ⟨2, _⟩ => ⟨S1024x512, .bf16⟩
  | .local _ .vmem, ⟨3, _⟩ => ⟨S32x512, .f32⟩
  | .local _ .vmem, ⟨4, _⟩ => ⟨S32x512, .f32⟩
  | .local _ .vmem, ⟨5, _⟩ => ⟨S32x1024, .f32⟩
  | .local _ .vmem, ⟨6, _⟩ => ⟨S32x3072, .f32⟩
  | .local _ .vmem, ⟨7, _⟩ => ⟨S32x256, .f32⟩
  | .local _ .vmem, ⟨8, _⟩ => ⟨S32x256, .f32⟩
  | .local _ .vmem, ⟨9, _⟩ => ⟨S3x256, .f32⟩
  | .local _ .vmem, ⟨10, _⟩ => ⟨S32x768, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S32x1024, .f32⟩
  | .local _ .vmem, ⟨16, _⟩ => ⟨S32x1024, .f32⟩
  | .local _ .vmem, ⟨17, _⟩ => ⟨S32x256, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S3x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S32x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S32x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S32x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
-- ==== Reference5Ideal.lean ====
abbrev S32x1x1024 : Shape := ⟨3, ![32, 1, 1024]⟩
abbrev S1x32x2x256 : Shape := ⟨4, ![1, 32, 2, 256]⟩
abbrev S1x1024x3072 : Shape := ⟨3, ![1, 1024, 3072]⟩
abbrev S1x3x256 : Shape := ⟨3, ![1, 3, 256]⟩
abbrev S32x768 : Shape := ⟨2, ![32, 768]⟩
abbrev S1x1024x1024 : Shape := ⟨3, ![1, 1024, 1024]⟩
abbrev S1x1024 : Shape := ⟨2, ![1, 1024]⟩
abbrev S1024x3072 : Shape := ⟨2, ![1024, 3072]⟩
abbrev S32x1x3072 : Shape := ⟨3, ![32, 1, 3072]⟩
abbrev S32x1x256 : Shape := ⟨3, ![32, 1, 256]⟩
abbrev S32x2x256 : Shape := ⟨3, ![32, 2, 256]⟩
abbrev S32x3x256 : Shape := ⟨3, ![32, 3, 256]⟩

abbrev nBuf : Space → Nat
  | .hbm => 18
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x32x2x256, .f32⟩
  | .hbm, ⟨2, _⟩ => ⟨S1x1024x3072, .f32⟩
  | .hbm, ⟨3, _⟩ => ⟨S1x3x256, .f32⟩
  | .hbm, ⟨4, _⟩ => ⟨S32x768, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1024x3072, .f32⟩
  | .hbm, ⟨10, _⟩ => ⟨S32x1x3072, .f32⟩
  | .hbm, ⟨11, _⟩ => ⟨S32x1x256, .f32⟩
  | .hbm, ⟨12, _⟩ => ⟨S32x1x256, .f32⟩
  | .hbm, ⟨13, _⟩ => ⟨S32x1x256, .f32⟩
  | .hbm, ⟨14, _⟩ => ⟨S32x2x256, .f32⟩
  | .hbm, ⟨15, _⟩ => ⟨S32x3x256, .f32⟩
  | .hbm, ⟨16, _⟩ => ⟨S32x2x256, .f32⟩
  | .hbm, ⟨17, _⟩ => ⟨S1x32x2x256, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== KernelMid.lean ====
abbrev S8x2048x1024 : Shape := ⟨3, ![8, 2048, 1024]⟩
abbrev S8x2048x256 : Shape := ⟨3, ![8, 2048, 256]⟩
abbrev S8x2048x768 : Shape := ⟨3, ![8, 2048, 768]⟩
abbrev S1x1024x1024 : Shape := ⟨3, ![1, 1024, 1024]⟩
abbrev S1x1024 : Shape := ⟨2, ![1, 1024]⟩
abbrev S8x256x1024 : Shape := ⟨3, ![8, 256, 1024]⟩
abbrev S1x1024x32 : Shape := ⟨3, ![1, 1024, 32]⟩
abbrev S1x32 : Shape := ⟨2, ![1, 32]⟩
abbrev S32x1024 : Shape := ⟨2, ![32, 1024]⟩
abbrev S1x32x256x4x256 : Shape := ⟨5, ![1, 32, 256, 4, 256]⟩
abbrev S1024x32 : Shape := ⟨2, ![1024, 32]⟩
abbrev S32 : Shape := ⟨1, ![32]⟩
abbrev S32x1 : Shape := ⟨2, ![32, 1]⟩
abbrev S1024x1024 : Shape := ⟨2, ![1024, 1024]⟩
abbrev S256x1024 : Shape := ⟨2, ![256, 1024]⟩
abbrev S768x1024 : Shape := ⟨2, ![768, 1024]⟩
abbrev S1024 : Shape := ⟨1, ![1024]⟩
abbrev S32x4x256 : Shape := ⟨3, ![32, 4, 256]⟩
abbrev S32x256x4x256 : Shape := ⟨4, ![32, 256, 4, 256]⟩
abbrev S4x16384 : Shape := ⟨2, ![4, 16384]⟩
abbrev S32x128 : Shape := ⟨2, ![32, 128]⟩
abbrev S1x512x1024 : Shape := ⟨3, ![1, 512, 1024]⟩
abbrev S1x512x256 : Shape := ⟨3, ![1, 512, 256]⟩
abbrev S1x512x768 : Shape := ⟨3, ![1, 512, 768]⟩
abbrev S1x256x1024 : Shape := ⟨3, ![1, 256, 1024]⟩
abbrev S1x4x256 : Shape := ⟨3, ![1, 4, 256]⟩
abbrev S1x256x4x256 : Shape := ⟨4, ![1, 256, 4, 256]⟩
abbrev S4x512 : Shape := ⟨2, ![4, 512]⟩
abbrev S512x512 : Shape := ⟨2, ![512, 512]⟩
abbrev S512x1024 : Shape := ⟨2, ![512, 1024]⟩
abbrev S512x256 : Shape := ⟨2, ![512, 256]⟩
abbrev S512x768 : Shape := ⟨2, ![512, 768]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S32x512 : Shape := ⟨2, ![32, 512]⟩
abbrev S1x512 : Shape := ⟨2, ![1, 512]⟩
abbrev S4x256 : Shape := ⟨2, ![4, 256]⟩
abbrev S256x4x256 : Shape := ⟨3, ![256, 4, 256]⟩
abbrev S256x4 : Shape := ⟨2, ![256, 4]⟩
abbrev S256x4x1 : Shape := ⟨3, ![256, 4, 1]⟩
abbrev S4x1 : Shape := ⟨2, ![4, 1]⟩
abbrev S1x4x1 : Shape := ⟨3, ![1, 4, 1]⟩

abbrev nBuf : Space → Nat
  | .hbm => 47
  | .vmem => 39
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .bf16⟩
  | .hbm, ⟨2, _⟩ => ⟨S8x2048x768, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S8x256x1024, .bf16⟩
  | .hbm, ⟨7, _⟩ => ⟨S8x256x1024, .bf16⟩
  | .hbm, ⟨8, _⟩ => ⟨S1x1024x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024x32, .f32⟩
  | .hbm, ⟨13, _⟩ => ⟨S1x32, .f32⟩
  | .hbm, ⟨14, _⟩ => ⟨S32x1024, .f32⟩
  | .hbm, ⟨15, _⟩ => ⟨S1x32x256x4x256, .f32⟩
  | .hbm, ⟨16, _⟩ => ⟨S1x32x256x4x256, .f32⟩
  | .hbm, ⟨17, _⟩ => ⟨S1024x32, .f32⟩
  | .hbm, ⟨18, _⟩ => ⟨S32x1024, .f32⟩
  | .hbm, ⟨19, _⟩ => ⟨S32x1024, .bf16⟩
  | .hbm, ⟨20, _⟩ => ⟨S32, .f32⟩
  | .hbm, ⟨21, _⟩ => ⟨S32x1, .f32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S256x1024, .bf16⟩
  | .hbm, ⟨29, _⟩ => ⟨S768x1024, .bf16⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S32x4x256, .f32⟩
  | .hbm, ⟨39, _⟩ => ⟨S32x256x4x256, .f32⟩
  | .hbm, ⟨40, _⟩ => ⟨S32x256x4x256, .f32⟩
  | .hbm, ⟨41, _⟩ => ⟨S8x2048x1024, .f32⟩
  | .hbm, ⟨42, _⟩ => ⟨S4x16384, .i32⟩
  | .hbm, ⟨43, _⟩ => ⟨S4x16384, .f32⟩
  | .hbm, ⟨44, _⟩ => ⟨S4x16384, .i32⟩
  | .hbm, ⟨45, _⟩ => ⟨S32x128, .f32⟩
  | .hbm, ⟨46, _⟩ => ⟨S32x4x256, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x768, .bf16⟩
  | .local _ .vmem, ⟨5, _⟩ => ⟨S1x512x768, .bf16⟩
  | .local _ .vmem, ⟨6, _⟩ => ⟨S256x1024, .bf16⟩
  | .local _ .vmem, ⟨7, _⟩ => ⟨S768x1024, .bf16⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S32x1024, .bf16⟩
  | .local _ .vmem, ⟨19, _⟩ => ⟨S32x1, .f32⟩
  | .local _ .vmem, ⟨20, _⟩ => ⟨S1x4x256, .f32⟩
  | .local _ .vmem, ⟨21, _⟩ => ⟨S1x4x256, .f32⟩
  | .local _ .vmem, ⟨22, _⟩ => ⟨S1x256x4x256, .f32⟩
  | .local _ .vmem, ⟨23, _⟩ => ⟨S1x256x4x256, .f32⟩
  | .local _ .vmem, ⟨24, _⟩ => ⟨S1x256x4x256, .f32⟩
  | .local _ .vmem, ⟨25, _⟩ => ⟨S1x256x4x256, .f32⟩
  | .local _ .vmem, ⟨26, _⟩ => ⟨S1x512x1024, .f32⟩
  | .local _ .vmem, ⟨27, _⟩ => ⟨S1x512x1024, .f32⟩
  | .local _ .vmem, ⟨28, _⟩ => ⟨S4x512, .i32⟩
  | .local _ .vmem, ⟨29, _⟩ => ⟨S4x512, .i32⟩
  | .local _ .vmem, ⟨30, _⟩ => ⟨S4x512, .f32⟩
  | .local _ .vmem, ⟨31, _⟩ => ⟨S4x512, .f32⟩
  | .local _ .vmem, ⟨32, _⟩ => ⟨S4x512, .i32⟩
  | .local _ .vmem, ⟨33, _⟩ => ⟨S4x512, .i32⟩
  | .local _ .vmem, ⟨34, _⟩ => ⟨S32x128, .f32⟩
  | .local _ .vmem, ⟨35, _⟩ => ⟨S1x4x256, .f32⟩
  | .local _ .vmem, ⟨36, _⟩ => ⟨S1x4x256, .f32⟩
  | .local _ .vmem, ⟨37, _⟩ => ⟨S32x128, .f32⟩
  | .local _ .vmem, ⟨38, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_v24_3 : Ref sig .tc := ⟨.hbm, 44, rfl⟩
abbrev main_v24_4 : Ref sig .tc := ⟨.hbm, 45, rfl⟩
abbrev main_v24_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg23_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_21 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x4x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x4x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x4x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S4x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S4x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S4x512 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 1 → Memref sig .tc .vmem S32x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x4x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ReferenceMidIdeal.lean ====
abbrev S8x2048x1024 : Shape := ⟨3, ![8, 2048, 1024]⟩
abbrev S8x2048x256 : Shape := ⟨3, ![8, 2048, 256]⟩
abbrev S8x2048x768 : Shape := ⟨3, ![8, 2048, 768]⟩
abbrev S1x1024x1024 : Shape := ⟨3, ![1, 1024, 1024]⟩
abbrev S1x1024 : Shape := ⟨2, ![1, 1024]⟩
abbrev S8x256x1024 : Shape := ⟨3, ![8, 256, 1024]⟩
abbrev S1x1024x32 : Shape := ⟨3, ![1, 1024, 32]⟩
abbrev S1x32 : Shape := ⟨2, ![1, 32]⟩
abbrev S32x1024 : Shape := ⟨2, ![32, 1024]⟩
abbrev S1x32x256x4x256 : Shape := ⟨5, ![1, 32, 256, 4, 256]⟩
abbrev S_ : Shape := ⟨0, ![]⟩
abbrev S1024x1024 : Shape := ⟨2, ![1024, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .bf16⟩
  | .hbm, ⟨2, _⟩ => ⟨S8x2048x768, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S8x256x1024, .bf16⟩
  | .hbm, ⟨7, _⟩ => ⟨S8x256x1024, .bf16⟩
  | .hbm, ⟨8, _⟩ => ⟨S1x1024x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024x32, .f32⟩
  | .hbm, ⟨13, _⟩ => ⟨S1x32, .f32⟩
  | .hbm, ⟨14, _⟩ => ⟨S32x1024, .f32⟩
  | .hbm, ⟨15, _⟩ => ⟨S1x32x256x4x256, .f32⟩
  | .hbm, ⟨16, _⟩ => ⟨S1x32x256x4x256, .f32⟩
  | .hbm, ⟨17, _⟩ => ⟨S8x2048x256, .f32⟩
  | .hbm, ⟨18, _⟩ => ⟨S8x2048x768, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S1024x1024, .f32⟩
  | .hbm, ⟨24, _⟩ => ⟨S8x2048x1024, .f32⟩
  | .hbm, ⟨25, _⟩ => ⟨S8x2048x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S1024x1024, .f32⟩
  | .hbm, ⟨58, _⟩ => ⟨S8x2048x1024, .f32⟩
  | .hbm, ⟨59, _⟩ => ⟨S8x2048x4x256, .f32⟩
  | .hbm, ⟨60, _⟩ => ⟨S8x256x1024, .f32⟩
  | .hbm, ⟨61, _⟩ => ⟨S8x256x4x256, .f32⟩
  | .hbm, ⟨62, _⟩ => ⟨S8x4x2048x256, .f32⟩
  | .hbm, ⟨63, _⟩ => ⟨S_, .f32⟩
  | .hbm, ⟨64, _⟩ => ⟨S8x4x2048x256, .f32⟩
  | .hbm, ⟨65, _⟩ => ⟨S8x4x2048x256, .f32⟩
  | .hbm, ⟨66, _⟩ => ⟨S_, .f32⟩
  | .hbm, ⟨67, _⟩ => ⟨S8x4x2048, .f32⟩
  | .hbm, ⟨68, _⟩ => ⟨S_, .f32⟩
  | .hbm, ⟨69, _⟩ => ⟨S8x4x2048, .f32⟩
  | .hbm, ⟨70, _⟩ => ⟨S8x4x2048, .f32⟩
  | .hbm, ⟨71, _⟩ => ⟨S8x4x2048x1, .f32⟩
  | .hbm, ⟨72, _⟩ => ⟨S8x4x2048x256, .f32⟩
  | .hbm, ⟨73, _⟩ => ⟨S8x4x2048x256, .f32⟩
  | .hbm, ⟨74, _⟩ => ⟨S8x4x2048x256, .f32⟩
  | .hbm, ⟨75, _⟩ => ⟨S_, .f32⟩
  | .hbm, ⟨76, _⟩ => ⟨S8x4x2048, .f32⟩
  | .hbm, ⟨77, _⟩ => ⟨S8x4x2048x1, .f32⟩
  | .hbm, ⟨78, _⟩ => ⟨S8x4x2048x256, .f32⟩
  | .hbm, ⟨79, _⟩ => ⟨S8x4x2048x256, .f32⟩
  | .hbm, ⟨80, _⟩ => ⟨S8x256x1024, .f32⟩
  | .hbm, ⟨81, _⟩ => ⟨S8x256x4x256, .f32⟩
  | .hbm, ⟨82, _⟩ => ⟨S8x4x256x2048, .f32⟩
  | .hbm, ⟨83, _⟩ => ⟨S8x2048x4x256, .f32⟩
  | .hbm, ⟨84, _⟩ => ⟨S8x2048x1024, .f32⟩
  | .hbm, ⟨85, _⟩ => ⟨S_, .f32⟩
  | .hbm, ⟨86, _⟩ => ⟨S8x2048x1024, .f32⟩
  | .hbm, ⟨87, _⟩ => ⟨S8x2048x1024, .f32⟩
  | .hbm, ⟨88, _⟩ => ⟨S1024x1024, .f32⟩
  | .hbm, ⟨89, _⟩ => ⟨S8x2048x1024, .f32⟩
  | .hbm, ⟨90, _⟩ => ⟨S8x2048x1024, .f32⟩
  | .hbm, ⟨91, _⟩ => ⟨S1024, .f32⟩
  | .hbm, ⟨92, _⟩ => ⟨S1024, .f32⟩
  | .hbm, ⟨93, _⟩ => ⟨S_, .f32⟩
  | .hbm, ⟨94, _⟩ => ⟨S8x2048, .f32⟩
  | .hbm, ⟨95, _⟩ => ⟨S8x2048x1, .f32⟩
  | .hbm, ⟨96, _⟩ => ⟨S_, .f32⟩
  | .hbm, ⟨97, _⟩ => ⟨S8x2048x1, .f32⟩
  | .hbm, ⟨98, _⟩ => ⟨S8x2048x1, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S_, .f32⟩
  | .hbm, ⟨103, _⟩ => ⟨S8x2048, .f32⟩
  | .hbm, ⟨104, _⟩ => ⟨S8x2048x1, .f32⟩
  | .hbm, ⟨105, _⟩ => ⟨S_, .f32⟩
  | .hbm, ⟨106, _⟩ => ⟨S8x2048x1, .f32⟩
  | .hbm, ⟨107, _⟩ => ⟨S8x2048x1, .f32⟩
  | .hbm, ⟨108, _⟩ => ⟨S8x2048x1024, .f32⟩
  | .hbm, ⟨109, _⟩ => ⟨S8x2048x1024, .f32⟩
  | .hbm, ⟨110, _⟩ => ⟨S_, .f32⟩
  | .hbm, ⟨111, _⟩ => ⟨S8x2048x1, .f32⟩
  | .hbm, ⟨112, _⟩ => ⟨S8x2048x1, .f32⟩
  | .hbm, ⟨113, _⟩ => ⟨S8x2048x1, .f32⟩
  | .hbm, ⟨114, _⟩ => ⟨S8x2048x1024, .f32⟩
  | .hbm, ⟨115, _⟩ => ⟨S8x2048x1024, .f32⟩
  | .hbm, ⟨116, _⟩ => ⟨S1x1x1024, .f32⟩
  | .hbm, ⟨117, _⟩ => ⟨S8x2048x1024, .f32⟩
  | .hbm, ⟨118, _⟩ => ⟨S8x2048x1024, .f32⟩
  | .hbm, ⟨119, _⟩ => ⟨S1x1x1024, .f32⟩
  | .hbm, ⟨120, _⟩ => ⟨S8x2048x1024, .f32⟩
  | .hbm, ⟨121, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Proof.Moe.Cuts.lean ====
/-
  The segments of the grouped feed-forward, as arithmetic of natural numbers.

  The 66048 rows are cut at the 129 multiples of 512 (the row blocks) and at the ends of the first 31 experts'
  stretches of rows; the 160 cuts, sorted, start the 160 segments.  A segment lies in one row block and in one
  expert's stretch.  This module states what is used of the sorted cuts (`Plan`), names the block and the expert of a
  segment, and proves: consecutive segments' blocks do not go down; a block's first segment starts at the block's
  start; inside a segment the owner of a row does not change; a block's last segment reaches the block's end; every
  block has a last segment.
-/
module

public import Mathlib.Data.Nat.Count
public import Mathlib.Order.Monotone.Basic

@[expose] public section

namespace Cert.Moe

/-- The sorted cuts and the experts' ends, with what is used of them. -/
structure Plan where
  /-- where segment `s` starts -/
  cut : ℕ → ℕ
  /-- where expert `e`'s rows end -/
  ends : ℕ → ℕ
  cut_mono : ∀ i j, i ≤ j → j < 160 → cut i ≤ cut j
  cut_lt : ∀ i, i < 160 → cut i < 2 ^ 30
  starts : ∀ b, b < 129 → ∃ t, t < 160 ∧ cut t = 512 * b
  ends_cut : ∀ e, e < 31 → ∃ t, t < 160 ∧ cut t = ends e
  ends_mono : ∀ i j, i ≤ j → j < 32 → ends i ≤ ends j

namespace Plan

variable (P : Plan)

/-- The row block of segment `s` (a segment past the rows counts to the last block). -/
def blk (s : ℕ) : ℕ := min (P.cut s / 512) 128

/-- Where segment `s` ends: where the next one starts, the last one at the end of the rows. -/
def nxt (s : ℕ) : ℕ := if s = 159 then 66048 else P.cut (s + 1)

/-- The expert row `r` belongs to: as many as have ended at it, and at most the last one. -/
def owner (r : ℕ) : ℕ := min (Nat.count (fun e => P.ends e ≤ r) 32) 31

/-- The expert of segment `s`. -/
def ex (s : ℕ) : ℕ := P.owner (P.cut s)

theorem blk_le (s : ℕ) : P.blk s ≤ 128 := by unfold blk; omega

theorem blk_start (s : ℕ) : 512 * P.blk s ≤ P.cut s := by unfold blk; omega

theorem owner_lt (r : ℕ) : P.owner r < 32 := by unfold owner; omega

theorem blk_mono (i j : ℕ) (h : i ≤ j) (hj : j < 160) : P.blk i ≤ P.blk j := by
  have := P.cut_mono i j h hj
  unfold blk; omega

theorem nxt_ge_blk (s : ℕ) (hs : s < 160) : 512 * P.blk s ≤ P.nxt s := by
  unfold nxt
  split
  · have := P.blk_le s; omega
  · exact (P.blk_start s).trans (P.cut_mono _ _ (Nat.le_succ s) (by omega))

theorem nxt_lt (s : ℕ) (hs : s < 160) : P.nxt s < 2 ^ 30 := by
  unfold nxt
  split
  · decide
  · exact P.cut_lt _ (by omega)

/-- The first cut is zero. -/
theorem cut_zero : P.cut 0 = 0 := by
  obtain ⟨t, ht, e⟩ := P.starts 0 (by decide)
  have := P.cut_mono 0 t (Nat.zero_le t) ht
  omega

/-- The segment that opens a block starts at the block's start, or before it. -/
theorem open_start (s : ℕ) (hs : s < 160) (h : s = 0 ∨ P.blk s ≠ P.blk (s - 1)) : P.cut s ≤ 512 * P.blk s := by
  rcases h with rfl | h
  · rw [P.cut_zero]; exact Nat.zero_le _
  obtain ⟨t, ht, e⟩ := P.starts (P.blk s) (by have := P.blk_le s; omega)
  by_contra hc
  have hts : t < s := by
    by_contra hts
    have := P.cut_mono s t (by omega) ht
    omega
  have h1 := P.cut_mono t (s - 1) (by omega) (by omega)
  have h2 := P.blk_mono (s - 1) s (by omega) hs
  have h3 := P.blk_le s
  apply h
  have h4 : P.blk s ≤ P.blk (s - 1) := by
    show P.blk s ≤ min (P.cut (s - 1) / 512) 128
    omega
  omega

/-- No cut lies strictly inside a segment. -/
theorem no_cut (s t : ℕ) (hs : s < 160) (ht : t < 160) (h : P.cut t < P.nxt s) (hr : P.cut t < 66048) : P.cut t ≤ P.cut s := by
  by_contra hc
  have hst : s < t := by
    by_contra hst
    have := P.cut_mono t s (by omega) hs
    omega
  have h9 : s ≠ 159 := by omega
  unfold nxt at h
  rw [if_neg h9] at h
  have := P.cut_mono (s + 1) t (by omega) ht
  omega

/-- A row inside a segment belongs to the segment's expert. -/
theorem owner_of_mem (s r : ℕ) (hs : s < 160) (h1 : P.cut s ≤ r) (h2 : r < P.nxt s) (hr : r < 66048) : P.owner r = P.ex s := by
  have key : ∀ e, e < 31 → (P.ends e ≤ r ↔ P.ends e ≤ P.cut s) := by
    intro e he
    constructor
    · intro h
      obtain ⟨t, ht, et⟩ := P.ends_cut e he
      rw [← et] at h ⊢
      exact P.no_cut s t hs ht (by omega) (by omega)
    · intro h; omega
  have hc : ∀ n, n ≤ 31 → Nat.count (fun e => P.ends e ≤ r) n = Nat.count (fun e => P.ends e ≤ P.cut s) n := by
    intro n
    induction n with
    | zero => intro _; rfl
    | succ n ih =>
      intro hn
      rw [Nat.count_succ, Nat.count_succ, ih (by omega)]
      by_cases hp : P.ends n ≤ r
      · rw [if_pos hp, if_pos ((key n (by omega)).1 hp)]
      · rw [if_neg hp, if_neg (fun q => hp ((key n (by omega)).2 q))]
  have e1 : Nat.count (fun e => P.ends e ≤ r) 32 = Nat.count (fun e => P.ends e ≤ r) 31 + if P.ends 31 ≤ r then 1 else 0 :=
    Nat.count_succ _ 31
  have e2 : Nat.count (fun e => P.ends e ≤ P.cut s) 32 = Nat.count (fun e => P.ends e ≤ P.cut s) 31 + if P.ends 31 ≤ P.cut s then 1 else 0 :=
    Nat.count_succ _ 31
  unfold ex owner
  rw [e1, e2, hc 31 le_rfl]
  by_cases h31 : P.ends 31 ≤ r
  · by_cases h31' : P.ends 31 ≤ P.cut s
    · rw [if_pos h31, if_pos h31']
    · rw [if_pos h31, if_neg h31']
      have : Nat.count (fun e => P.ends e ≤ P.cut s) 31 = 31 := by
        rw [← hc 31 le_rfl, Nat.count_iff_forall]
        intro e he
        exact (P.ends_mono e 31 (by omega) (by decide)).trans h31
      omega
  · rw [if_neg h31, if_neg (fun q => h31 (q.trans h1))]

/-- The segment that closes a block reaches the block's end. -/
theorem close_end (s : ℕ) (hs : s < 160) (h : s = 159 ∨ P.blk (s + 1) ≠ P.blk s) : 512 * P.blk s + 512 ≤ P.nxt s := by
  unfold nxt
  rcases h with rfl | h
  · rw [if_pos rfl]; have := P.blk_le 159; omega
  · by_cases h9 : s = 159
    · rw [if_pos h9]; have := P.blk_le s; omega
    · rw [if_neg h9]
      have h1 := P.blk_mono s (s + 1) (by omega) (by omega)
      have h2 := P.blk_start (s + 1)
      omega

/-- Every row block has a segment that closes it. -/
theorem closes (b : ℕ) (hb : b < 129) : ∃ s, s < 160 ∧ P.blk s = b ∧ (s = 159 ∨ P.blk (s + 1) ≠ b) := by
  obtain ⟨t, ht, e⟩ := P.starts b hb
  have hbt : P.blk t = b := by unfold blk; omega
  have hex : ∀ n t, t < 160 → 160 - t ≤ n → P.blk t = b → ∃ s, s < 160 ∧ P.blk s = b ∧ (s = 159 ∨ P.blk (s + 1) ≠ b) := by
    intro n
    induction n with
    | zero => intro t ht hn _; omega
    | succ n ih =>
      intro t ht hn hbt
      by_cases h : t = 159 ∨ P.blk (t + 1) ≠ b
      · exact ⟨t, ht, hbt, h⟩
      · exact ih (t + 1) (by omega) (by omega) (by omega)
  exact hex 160 t ht (by omega) hbt

end Plan

end Cert.Moe
-- ==== Proof.Moe.Words.lean ====
/-
  The segment tables as words.  From counts in range, the running sums of the counts, the cuts in one list, the sorted
  list, and the four tables made of it are words of natural numbers: those of the plan `plan x`.
-/
module

public import proofs.«01_k».proof.Proof.Moe.Cuts
public import Idealize.ShloMosaic.Lib.Routing.Words
public import Idealize.ShloMosaic.Lib.Routing.Ops
public import Idealize.ShloMosaic.Lib.PlanTiles.Rows
public import Idealize.ShloMosaic.Lib.SortFacts
public import Idealize.ShloMosaic.Lib.WordCmp

@[expose] public section

noncomputable section

namespace Cert.Moe

open Idealize.ShloMosaic Idealize.ShloMosaic.Routing Idealize.ShloMosaic.PlanTiles

/-- How many rows expert `e` has. -/
def cnt (x : IVec (shape1 32) 32) (e : ℕ) : ℕ := if h : e < 32 then (x (ValueIdx.ix1 ⟨e, h⟩)).toNat else 0

/-- Where expert `e`'s rows end. -/
def endOf (x : IVec (shape1 32) 32) (e : ℕ) : ℕ := ((List.range (e + 1)).map (cnt x)).sum

/-- The cuts, before they are sorted. -/
def bnd (x : IVec (shape1 32) 32) (i : ℕ) : ℕ := if i < 129 then 512 * i else endOf x (i - 129)

/-- The counts are between 0 and the number of rows. -/
def InRange (x : IVec (shape1 32) 32) : Prop := ∀ i : Fin 32, (x (ValueIdx.ix1 i)).toNat ≤ 66048

theorem endOf_succ (x : IVec (shape1 32) 32) (e : ℕ) : endOf x (e + 1) = endOf x e + cnt x (e + 1) := by
  unfold endOf
  rw [List.range_succ (n := e + 1), List.map_append, List.sum_append]
  simp

theorem endOf_mono (x : IVec (shape1 32) 32) {i j : ℕ} (h : i ≤ j) : endOf x i ≤ endOf x j := by
  induction h with
  | refl => exact le_rfl
  | step _ ih => exact ih.trans (by rw [endOf_succ]; omega)

theorem endOf_le {x : IVec (shape1 32) 32} (hx : InRange x) (e : ℕ) : endOf x e ≤ 66048 * (e + 1) := by
  have hc : ∀ e, cnt x e ≤ 66048 := fun e => by
    unfold cnt; split
    · exact hx _
    · omega
  induction e with
  | zero => unfold endOf; simpa using hc 0
  | succ e ih => rw [endOf_succ]; have := hc (e + 1); omega

theorem bnd_lt {x : IVec (shape1 32) 32} (hx : InRange x) (i : ℕ) (hi : i < 160) : bnd x i < 2 ^ 30 := by
  have := endOf_le hx (i - 129)
  unfold bnd; split <;> omega

/-- The order in which the sort takes the cuts. -/
def order (x : IVec (shape1 32) 32) : Fin 160 → Fin 160 := sortedFrom fun k k' => decide (bnd x k.val < bnd x k'.val)

/-- The sorted cuts. -/
def sorted (x : IVec (shape1 32) 32) (i : ℕ) : ℕ := if h : i < 160 then bnd x (order x ⟨i, h⟩).val else 0

theorem sorted_of (x : IVec (shape1 32) 32) (j : ℕ) (hj : j < 160) : ∃ t, t < 160 ∧ sorted x t = bnd x j := by
  obtain ⟨k, hk⟩ := sortedFrom_surjective (fun k k' : Fin 160 => decide (bnd x k.val < bnd x k'.val)) ⟨j, hj⟩
  exact ⟨k.val, k.isLt, by unfold sorted order; rw [dif_pos k.isLt, hk]⟩

theorem sorted_mono (x : IVec (shape1 32) 32) (i j : ℕ) (h : i ≤ j) (hj : j < 160) : sorted x i ≤ sorted x j := by
  rcases Nat.lt_or_eq_of_le h with h | rfl
  · have := sortedFrom_noInversion (fun k k' : Fin 160 => decide (bnd x k.val < bnd x k'.val)) (fun k k' : Fin 160 => decide (bnd x k.val < bnd x k'.val))
      (fun a b hab => by simp only [decide_eq_true_eq, decide_eq_false_iff_not] at *; omega) (fun _ _ h => h)
      (fun a b c h1 h2 => by simp only [decide_eq_false_iff_not] at *; omega) ⟨i, by omega⟩ ⟨j, hj⟩ h
    unfold sorted order
    rw [dif_pos hj, dif_pos (show i < 160 by omega)]
    simp only [decide_eq_false_iff_not] at this
    omega
  · exact le_rfl

/-- The plan that counts in range make. -/
def plan (x : IVec (shape1 32) 32) (hx : InRange x) : Plan where
  cut := sorted x
  ends := endOf x
  cut_mono := sorted_mono x
  cut_lt i hi := by unfold sorted; rw [dif_pos hi]; exact bnd_lt hx _ (order x ⟨i, hi⟩).isLt
  starts b hb := by
    obtain ⟨t, ht, e⟩ := sorted_of x b (by omega)
    exact ⟨t, ht, by rw [e]; unfold bnd; rw [if_pos hb]⟩
  ends_cut e he := by
    obtain ⟨t, ht, h⟩ := sorted_of x (e + 129) (by omega)
    exact ⟨t, ht, by rw [h]; unfold bnd; rw [if_neg (by omega), Nat.add_sub_cancel]⟩
  ends_mono _ _ h _ := endOf_mono x h

/-! ## The words -/

variable {x : IVec (shape1 32) 32} (hx : InRange x)

/-- The running sums are the experts' ends. -/
theorem ends_word (x : IVec (shape1 32) 32) (init : IVec shape0 32) (hinit : init ValueIdx.ix0 = 0#32)
    (h : (shape1 32).ReduceWindows (![32] : Fin 1 → Nat) ![1] ![31] ![0] (shape1 32)) (hu : 0 < shape0.numel) (j : Fin 32) :
    Host.reduceWindow IntOp.addi ![32] ![1] ![31] ![0] x init h hu (ValueIdx.ix1 j) = BitVec.ofNat 32 (endOf x j.val) :=
  cumsum1 rfl x (cnt x) (fun i => by unfold cnt; rw [dif_pos i.isLt, BitVec.ofNat_toNat, BitVec.setWidth_eq]) init hinit h hu j

/-- The list of cuts. -/
theorem bnd_word (a : IVec (shape1 129) 32) (b : IVec (shape1 31) 32) (ha : ∀ i : Fin 129, a (ValueIdx.ix1 i) = BitVec.ofNat 32 (512 * i.val))
    (hb : ∀ i : Fin 31, b (ValueIdx.ix1 i) = BitVec.ofNat 32 (endOf x i.val)) (h : Shape.Concatenates [shape1 129, shape1 31] (shape1 160) 0) (i : Fin 160) :
    concatenate (shape1 160) 0 [⟨shape1 129, a⟩, ⟨shape1 31, b⟩] h (ValueIdx.ix1 i) = BitVec.ofNat 32 (bnd x i.val) := by
  unfold bnd
  by_cases hi : i.val < 129
  · rw [if_pos hi]
    refine (concatenate_pair_apply_left _ a b h _ rfl (ValueIdx.ix1 ⟨i.val, hi⟩) fun q => ?_).trans (ha _)
    match q with
    | ⟨0, _⟩ => rfl
  · rw [if_neg hi]
    have := i.isLt
    refine (concatenate_pair_apply_right _ a b h _ rfl rfl (ValueIdx.ix1 ⟨i.val - 129, by omega⟩) (fun q hq => ?_) ?_).trans (hb _)
    · match q with
      | ⟨0, _⟩ => exact absurd rfl hq
    · show i.val - 129 + 129 = i.val
      omega

include hx in
/-- The sorted list of cuts. -/
theorem cut_word (cmp : BitVec 32 → BitVec 32 → BitVec 1) (hc : ∀ a b, cmp a b = IntOp.cmpi .slt a b) (v : IVec (shape1 160) 32)
    (hv : ∀ i : Fin 160, v (ValueIdx.ix1 i) = BitVec.ofNat 32 (bnd x i.val)) (i : Fin 160) :
    Host.sort (shape1 160) 0 cmp v (ValueIdx.ix1 i) = BitVec.ofNat 32 ((plan x hx).cut i.val) := by
  refine (Host.sort_rank1 cmp v _).trans ?_
  have hB : (fun k k' : Fin 160 => cmp (v (Shape.Idx.ofFin k)) (v (Shape.Idx.ofFin k')) == 1#1) = fun k k' => decide (bnd x k.val < bnd x k'.val) := by
    funext k k'
    have e : ∀ k : Fin 160, v (Shape.Idx.ofFin k) = BitVec.ofNat 32 (bnd x k.val) := fun k => (congrArg v (ofFin_eq_ix1 k)).trans (hv k)
    have h1 := bnd_lt hx k.val k.isLt
    have h2 := bnd_lt hx k'.val k'.isLt
    rw [hc, e, e, Bool.eq_iff_iff, beq_iff_eq, WordCmp.cmpi_slt_ofNat_eq_one_iff (w := 32) (by omega) (by omega), decide_eq_true_eq]
  rw [hB]
  refine (congrArg v (ofFin_eq_ix1 _)).trans ((hv _).trans ?_)
  show _ = BitVec.ofNat 32 (sorted x i.val)
  unfold sorted
  rw [dif_pos i.isLt]
  rfl

include hx in
/-- Where the segments end. -/
theorem nxt_word (v : IVec (shape1 160) 32) (hv : ∀ i : Fin 160, v (ValueIdx.ix1 i) = BitVec.ofNat 32 ((plan x hx).cut i.val))
    (hs : (shape1 160).Slices ![1] (shape1 159)) (b : IVec (shape1 1) 32) (hb : b (ValueIdx.ix1 0) = BitVec.ofNat 32 66048)
    (h : Shape.Concatenates [shape1 159, shape1 1] (shape1 160) 0) (i : Fin 160) :
    concatenate (shape1 160) 0 [⟨shape1 159, extractStridedSlice (shape1 159) ![1] v hs⟩, ⟨shape1 1, b⟩] h (ValueIdx.ix1 i) = BitVec.ofNat 32 ((plan x hx).nxt i.val) := by
  have hi := i.isLt
  unfold Plan.nxt
  by_cases he : i.val = 159
  · rw [if_pos he]
    refine (concatenate_pair_apply_right _ _ b h _ rfl rfl (ValueIdx.ix1 (0 : Fin 1)) (fun q hq => ?_) ?_).trans hb
    · match q with
      | ⟨0, _⟩ => exact absurd rfl hq
    · show 0 + 159 = i.val
      omega
  · rw [if_neg he]
    refine (concatenate_pair_apply_left _ _ b h _ rfl (ValueIdx.ix1 (⟨i.val, by omega⟩ : Fin 159)) fun q => ?_).trans ?_
    · match q with
      | ⟨0, _⟩ => rfl
    · refine (slice1 1 v hs ⟨i.val, by omega⟩ (show 1 + i.val < 160 by omega)).trans ((hv _).trans ?_)
      show BitVec.ofNat 32 ((plan x hx).cut (1 + i.val)) = _
      rw [Nat.add_comm]

include hx in
/-- The table of blocks. -/
theorem blk_word (hb : shape0.BroadcastsInDim (shape1 160) (![] : Fin 0 → Fin (shape1 160).rank)) (v : IVec (shape1 160) 32)
    (hv : ∀ i : Fin 160, v (ValueIdx.ix1 i) = BitVec.ofNat 32 ((plan x hx).cut i.val)) (i : Fin 160) :
    minsi (pyDiv hb v (constantI shape0 32 512#32)) (broadcastInDim (shape1 160) ![] hb (constantI shape0 32 128#32)) (ValueIdx.ix1 i) = BitVec.ofNat 32 ((plan x hx).blk i.val) := by
  have hl := (plan x hx).cut_lt i.val i.isLt
  show IntOp.minsi (pyDiv hb v (constantI shape0 32 512#32) (ValueIdx.ix1 i)) (BitVec.ofNat 32 128) = _
  rw [pyDiv_ap hb v (constantI shape0 32 512#32) (ValueIdx.ix1 i) (hv i) (b := 512) rfl (by omega) (by omega) (by omega), minsi_word (by omega) (by omega), Nat.min_comm]
  rfl

include hx in
/-- The table of experts. -/
theorem ex_word (hb : shape0.BroadcastsInDim (shape1 160) (![] : Fin 0 → Fin (shape1 160).rank)) (msk : IVec (shape2 160 32) 1) (hw : 1 < 32)
    (h : (shape2 160 32).ReducesTo [1] (shape1 160)) (hu : 0 < shape0.numel) (v : IVec (shape1 160) 32) (w : IVec (shape1 32) 32)
    (hv : ∀ i : Fin 160, v (ValueIdx.ix1 i) = BitVec.ofNat 32 ((plan x hx).cut i.val)) (hwd : ∀ e : Fin 32, w (ValueIdx.ix1 e) = BitVec.ofNat 32 (endOf x e.val))
    (hm : ∀ (i : Fin 160) (e : Fin 32), msk (ValueIdx.ix2 i e) = IntOp.cmpi .sle (w (ValueIdx.ix1 e)) (v (ValueIdx.ix1 i))) (i : Fin 160) :
    minsi (Host.reduce IntOp.addi (extui 32 msk hw) (constantI shape0 32 0#32) h hu) (broadcastInDim (shape1 160) ![] hb (constantI shape0 32 31#32)) (ValueIdx.ix1 i)
      = BitVec.ofNat 32 ((plan x hx).ex i.val) := by
  have hl := (plan x hx).cut_lt i.val i.isLt
  have hn := Nat.count_le (p := fun e => endOf x e ≤ (plan x hx).cut i.val) (n := 32)
  show IntOp.minsi (Host.reduce IntOp.addi (extui 32 msk hw) (constantI shape0 32 0#32) h hu (ValueIdx.ix1 i)) (BitVec.ofNat 32 31) = _
  rw [reduce_count (by omega) msk hw h hu i (fun e => endOf x e ≤ (plan x hx).cut i.val) (fun e => by
    have := endOf_le hx e.val
    have := e.isLt
    rw [hm, hv, hwd, WordCmp.cmpi_sle_ofNat_eq_one_iff (w := 32) (by omega) (by omega)]), minsi_word (by omega) (by omega), Nat.min_comm]
  rfl

include hx in
/-- The two tables of rows within the block. -/
theorem row_word (hb : shape0.BroadcastsInDim (shape1 160) (![] : Fin 0 → Fin (shape1 160).rank)) (u v : IVec (shape1 160) 32) (n : ℕ → ℕ)
    (hu : ∀ i : Fin 160, u (ValueIdx.ix1 i) = BitVec.ofNat 32 ((plan x hx).blk i.val)) (hv : ∀ i : Fin 160, v (ValueIdx.ix1 i) = BitVec.ofNat 32 (n i.val))
    (hn : ∀ i : Fin 160, 512 * (plan x hx).blk i.val ≤ n i.val) (i : Fin 160) :
    subi v (muli u (broadcastInDim (shape1 160) ![] hb (constantI shape0 32 512#32))) (ValueIdx.ix1 i) = BitVec.ofNat 32 (n i.val - 512 * (plan x hx).blk i.val) := by
  show v (ValueIdx.ix1 i) - u (ValueIdx.ix1 i) * BitVec.ofNat 32 512 = _
  rw [hu, hv, ← BitVec.ofNat_mul, Nat.mul_comm, ofNat32_sub (hn i)]

end Cert.Moe

end
-- ==== Proof.MoeI.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.Routing.Ops
public import Idealize.ShloMosaic.Lib.VecWindow

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slot word after the first statement: at point 0 the slot is emptied (the word of all ones). -/
def sl1 (i : grid0.Coords) (x13 : Vec F S1 .i32) : BitVec 32 :=
  if Scalar.cmpi .ne (Scalar.extui (Scalar.cmpi .eq (BitVec.ofNat 32 (i 0).val) 0#32)) 0#32 = 1#1 then 4294967295#32 else x13 (ValueIdx.ix1 0)

/-- The word that says whether this point loads an expert: it has rows, and the slot holds another expert. -/
def ldw (i : grid0.Coords) (lo hi e : BitVec 32) (x13 : Vec F S1 .i32) : BitVec 1 :=
  Scalar.cmpi .ne (Scalar.extui (Scalar.andi (Scalar.cmpi .sgt hi lo) (Scalar.cmpi .ne (sl1 (F := F) i x13) e))) 0#32

/-- The slot after the point. -/
def sl2 (i : grid0.Coords) (lo hi e : BitVec 32) (x13 : Vec F S1 .i32) : Vec F S1 .i32 :=
  if ldw (F := F) i lo hi e x13 = 1#1 then fun _ => e else fun _ => sl1 (F := F) i x13

/-- The expert's first matrix as the scratch holds it after the point. -/
def wgu (i : grid0.Coords) (lo hi e : BitVec 32) (x6 : Vec F S1x1024x2048 .f32) (x11 : Vec F S1024x2048 .bf16) (x13 : Vec F S1 .i32) : Vec F S1024x2048 .bf16 :=
  if ldw (F := F) i lo hi e x13 = 1#1 then k0_pay1 x6 else x11

/-- The expert's second matrix as the scratch holds it after the point. -/
def wdn (i : grid0.Coords) (lo hi e : BitVec 32) (x8 : Vec F S1x1024x1024 .f32) (x12 : Vec F S1024x1024 .bf16) (x13 : Vec F S1 .i32) : Vec F S1024x1024 .bf16 :=
  if ldw (F := F) i lo hi e x13 = 1#1 then k0_pay2 x8 else x12

/-- The output block after the opening statement: zeroed where the point opens a block. -/
def y1 (i : grid0.Coords) (w1 w1p : BitVec 32) (x10 : Vec F S512x1024 .f32) : Vec F S512x1024 .f32 :=
  if k0_cond3 i w1 w1p = 1#1 then k0_pay3 else x10

/-- The output block after the point. -/
def y2 (i : grid0.Coords) (w1 w1p lo hi e : BitVec 32) (x5 : Vec F S512x1024 .f32) (x6 : Vec F S1x1024x2048 .f32) (x7 : Vec F S1x1x2048 .f32) (x8 : Vec F S1x1024x1024 .f32) (x9 : Vec F S1x1x1024 .f32)
    (x10 : Vec F S512x1024 .f32) (x11 : Vec F S1024x2048 .bf16) (x12 : Vec F S1024x1024 .bf16) (x13 : Vec F S1 .i32) : Vec F S512x1024 .f32 :=
  if k0_cond4 lo hi = 1#1 then
    k0_pay4 (k0_pay5 x5 (wgu i lo hi e x6 x11 x13) x7 (wdn i lo hi e x8 x12 x13) x9) (k0_pay6 (y1 i w1 w1p x10)) (k0_pay7 (F := F) lo hi)
  else y1 i w1 w1p x10

/-- A one-word load of a table of 160 words. -/
theorem tbl_word {κ : Kind} {sp : Space} (v : View sig κ sp S160 .i32) (f : v.ty.Contents (Elt F)) (T : Vec F S160 .i32) (hf : v.read (Elt F) f = T)
    (off : Fin 1 → ℕ) (inb : ∀ a, off a + (![1] : Fin 1 → ℕ) a ≤ S160.size a) (h : 0 < (Rect.unit (s := S160) off ![1] inb).toLoadRect.shape.numel) (k : Fin 160) (hk : off 0 = k.val) :
    v.readAt (Elt F) (Rect.unit (s := S160) off ![1] inb).toLoadRect f (Shape.Idx.first h) = T (ValueIdx.ix1 k) := by
  rw [View.readAt_apply, hf]
  refine congrArg T (funext fun a => ?_)
  fin_cases a
  exact Fin.ext (by
    show off 0 + 1 * _ = k.val
    rw [hk]; simp [Shape.Idx.first])

theorem i_lt (i : grid0.Coords) : (i 0).val < 160 := (i 0).isLt

theorem off1_val (i : grid0.Coords) : k0_off1 i 0 = (i 0).val := by
  have key : ∀ n : Fin 160, (Scalar.indexCast (BitVec.ofNat 32 n.val)).toNat = n.val := by decide
  exact key ⟨(i 0).val, i_lt i⟩

theorem off3_val (i : grid0.Coords) : k0_off3 i 0 = (i 0).val := by
  have key : ∀ n : Fin 160, (Scalar.indexCast (BitVec.ofNat 32 n.val)).toNat = n.val := by decide
  exact key ⟨(i 0).val, i_lt i⟩

theorem off2_val (i : grid0.Coords) : k0_off2 i 0 = (i 0).val - 1 := by
  have key : ∀ n : Fin 160, (Scalar.indexCast (Scalar.maxsi (Scalar.subi (BitVec.ofNat 32 n.val) 1#32) 0#32)).toNat = n.val - 1 := by decide
  exact key ⟨(i 0).val, i_lt i⟩

theorem read_dite {κ : Kind} {sp : Space} {s : Shape} {e : EltTy} (v : View sig κ sp s e) (C : Prop) [Decidable C] (a b : v.ty.Contents (Elt F)) :
    v.read (Elt F) (if _h : C then a else b) = if C then v.read (Elt F) a else v.read (Elt F) b := by
  split <;> rfl

set_option maxHeartbeats 1600000 in
theorem body_run (c : Dev nD) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .vmem S512x1024 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1024x2048 .bf16) (harg11 : arg11.IsWhole) (arg12 : Memref sig .tc .vmem S1024x1024 .bf16) (harg12 : arg12.IsWhole) (arg13 : Memref sig .tc .smem S1 .i32) (harg13 : arg13.IsWhole)
    (T1 T2 T3 T4 : Vec F S160 .i32) (x5 : Vec F S512x1024 .f32) (x6 : Vec F S1x1024x2048 .f32) (x7 : Vec F S1x1x2048 .f32) (x8 : Vec F S1x1024x1024 .f32) (x9 : Vec F S1x1x1024 .f32)
    (x10 : Vec F S512x1024 .f32) (x11 : Vec F S1024x2048 .bf16) (x12 : Vec F S1024x1024 .bf16) (x13 : Vec F S1 .i32)
    (w1 w1p lo hi e : BitVec 32) (hw1 : T1 (ValueIdx.ix1 ⟨(i 0).val, i_lt i⟩) = w1) (hw1p : T1 (ValueIdx.ix1 ⟨(i 0).val - 1, lt_of_le_of_lt (Nat.sub_le _ _) (i_lt i)⟩) = w1p)
    (hwe : T2 (ValueIdx.ix1 ⟨(i 0).val, i_lt i⟩) = e) (hwlo : T3 (ValueIdx.ix1 ⟨(i 0).val, i_lt i⟩) = lo) (hwhi : T4 (ValueIdx.ix1 ⟨(i 0).val, i_lt i⟩) = hi)
    (E : Set ℕ) (K : PUnit → sProp 𝕄) :
    iprop(owns (c : Thread nD τ) arg1 fullShare T1 ∗ owns (c : Thread nD τ) arg2 fullShare T2 ∗ owns (c : Thread nD τ) arg3 fullShare T3 ∗ owns (c : Thread nD τ) arg4 fullShare T4
      ∗ owns (c : Thread nD τ) arg5 fullShare x5 ∗ owns (c : Thread nD τ) arg6 fullShare x6 ∗ owns (c : Thread nD τ) arg7 fullShare x7 ∗ owns (c : Thread nD τ) arg8 fullShare x8
      ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (iprop(owns (c : Thread nD τ) arg1 fullShare T1 ∗ owns (c : Thread nD τ) arg2 fullShare T2 ∗ owns (c : Thread nD τ) arg3 fullShare T3 ∗ owns (c : Thread nD τ) arg4 fullShare T4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (y2 i w1 w1p lo hi e x5 x6 x7 x8 x9 x10 x11 x12 x13) ∗ owns (c : Thread nD τ) arg11 fullShare (wgu i lo hi e x6 x11 x13) ∗ owns (c : Thread nD τ) arg12 fullShare (wdn i lo hi e x8 x12 x13) ∗ owns (c : Thread nD τ) arg13 fullShare (sl2 i lo hi e x13)) -∗ K ⟨⟩))
    ⊢ wp frame (wpE (defs₀ (F := F)) Variants.none c none) E (cc0_moe_grouped_ffn i arg1 harg1 arg2 harg2 arg3 harg3 arg4 harg4 arg5 harg5 arg6 harg6 arg7 harg7 arg8 harg8 arg9 harg9 arg10 harg10 arg11 harg11 arg12 harg12 arg13 harg13) K := by
  simp only [cc0_moe_grouped_ffn_eq_skeleton]; unfold cc0_moe_grouped_ffn_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12; obtain rfl := harg13.eq_unread hf13
  sl_exec
  have q11 : ∀ w f, View.read (Elt F) arg11.view (arg11.view.writes (Elt F) f [⟨Rect.unit ![0, 0] ![1024, 2048] inb_S1024x2048_S1024x2048_0_0, w⟩]) = w :=
    fun w f => View.read_writes_full (s := S1024x2048) _ _ _ _ _
  have q12 : ∀ w f, View.read (Elt F) arg12.view (arg12.view.writes (Elt F) f [⟨Rect.unit ![0, 0] ![1024, 1024] inb_S1024x1024_S1024x1024_0_0, w⟩]) = w :=
    fun w f => View.read_writes_full (s := S1024x1024) _ _ _ _ _
  have q10 : ∀ w f, View.read (Elt F) arg10.view (arg10.view.writes (Elt F) f [⟨Rect.unit ![0, 0] ![512, 1024] inb_S512x1024_S512x1024_0_0, w⟩]) = w :=
    fun w f => View.read_writes_full (s := S512x1024) _ _ _ _ _
  have q13 : ∀ w f, View.read (Elt F) arg13.view (arg13.view.writes (Elt F) f [⟨Rect.unit ![0] ![1] inb_S1_S1_0, w⟩]) = w :=
    fun w f => View.read_writes_full (s := S1) _ _ _ _ _
  have q6 : View.readAt (Elt F) arg6.view (Rect.unit ![0, 0, 0] ![1, 1024, 2048] inb_S1x1024x2048_S1x1024x2048_0_0_0).toLoadRect (harg6.unread x6) = x6 :=
    (View.readAt_full (s := S1x1024x2048) _ _ _).trans hf6
  have q8 : View.readAt (Elt F) arg8.view (Rect.unit ![0, 0, 0] ![1, 1024, 1024] inb_S1x1024x1024_S1x1024x1024_0_0_0).toLoadRect (harg8.unread x8) = x8 :=
    (View.readAt_full (s := S1x1024x1024) _ _ _).trans hf8
  have hr0 : body_run.sl.r c i arg1 harg1 T1 = w1 := by
    unfold body_run.sl.r
    exact (tbl_word _ _ _ hf1 _ _ _ _ (off1_val i)).trans hw1
  have hr1 : body_run.sl.r_1 c i arg1 harg1 T1 = w1p := by
    unfold body_run.sl.r_1
    exact (tbl_word _ _ _ hf1 _ _ _ _ (off2_val i)).trans hw1p
  have hr2 : body_run.sl.r_2 c i arg3 harg3 T3 = lo := by
    unfold body_run.sl.r_2
    exact (tbl_word _ _ _ hf3 _ _ _ _ (off1_val i)).trans hwlo
  have hr3 : body_run.sl.r_3 c i arg4 harg4 T4 = hi := by
    unfold body_run.sl.r_3
    exact (tbl_word _ _ _ hf4 _ _ _ _ (off1_val i)).trans hwhi
  have hr6 : body_run.sl.r_6 c i arg2 harg2 T2 = e := by
    unfold body_run.sl.r_6
    exact (tbl_word _ _ _ hf2 _ _ _ _ (off1_val i)).trans hwe
  have hr7 : body_run.sl.r_7 c i arg2 harg2 T2 = e := by
    unfold body_run.sl.r_7
    exact (tbl_word _ _ _ hf2 _ _ _ _ (off3_val i)).trans hwe
  have hr5 : body_run.sl.r_5 c i arg13 harg13 x13 = sl1 (F := F) i x13 := by
    unfold body_run.sl.r_5 body_run.sl.f sl1
    rw [View.readAt_apply, read_dite]
    split
    · rw [q13]
    · rw [hf13]
      exact congrArg x13 (funext fun a => Fin.ext (by fin_cases a; simp [Shape.Idx.first]))
  have hr8 : body_run.sl.r_8 c i arg2 harg2 arg3 harg3 arg4 harg4 arg5 harg5 arg6 harg6 arg7 harg7 arg8 harg8 arg9
                harg9 arg11 harg11 arg12 harg12 arg13 harg13 T2 T3 T4 x5 x6 x7 x8 x9 x11 x12 x13 = k0_pay5 x5 (wgu i lo hi e x6 x11 x13) x7 (wdn i lo hi e x8 x12 x13) x9 := by
    unfold body_run.sl.r_8 body_run.sl.v30 body_run.sl.v52 wgu wdn ldw
    rw [hr3, hr2, hr5, hr6]
    have r5 : View.readAt (Elt F) arg5.view (Rect.unit ![0, 0] S512x1024.size inb_S512x1024_S512x1024_0_0).toLoadRect (harg5.unread x5) = x5 := (View.readAt_full _ _ _).trans hf5
    have r7 : View.readAt (Elt F) arg7.view (Rect.unit ![0, 0, 0] S1x1x2048.size inb_S1x1x2048_S1x1x2048_0_0_0).toLoadRect (harg7.unread x7) = x7 := (View.readAt_full _ _ _).trans hf7
    have r9 : View.readAt (Elt F) arg9.view (Rect.unit ![0, 0, 0] S1x1x1024.size inb_S1x1x1024_S1x1x1024_0_0_0).toLoadRect (harg9.unread x9) = x9 := (View.readAt_full _ _ _).trans hf9
    have r11 : ∀ f, View.readAt (Elt F) arg11.view (Rect.unit ![0, 0] S1024x2048.size inb_S1024x2048_S1024x2048_0_0).toLoadRect f = View.read (Elt F) arg11.view f := fun f => View.readAt_full _ _ _
    have r12 : ∀ f, View.readAt (Elt F) arg12.view (Rect.unit ![0, 0] S1024x1024.size inb_S1024x1024_S1024x1024_0_0).toLoadRect f = View.read (Elt F) arg12.view f := fun f => View.readAt_full _ _ _
    rw [r5, r7, r9, r11, r12, read_dite, read_dite, q11, q12, q6, q8, hf11, hf12]
  have hr9 : body_run.sl.r_9 c i arg1 harg1 arg10 harg10 T1 x10 = k0_pay6 (y1 i w1 w1p x10) := by
    unfold body_run.sl.r_9 body_run.sl.v64 y1
    rw [hr0, hr1, View.readAt_full, read_dite, hf10]
    rw [q10]
  have hr10 : body_run.sl.r_10 c i arg3 harg3 arg4 harg4 T3 T4 = k0_pay7 (F := F) lo hi := by
    unfold body_run.sl.r_10
    rw [hr2, hr3]
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    · ipureintro; exact hf7
    iexact H7
  isplitl [H8]
  · iexists _; isplitr
    · ipureintro; exact hf8
    iexact H8
  isplitl [H9]
  · iexists _; isplitr
    · ipureintro; exact hf9
    iexact H9
  isplitl [H10]
  · iexists _; isplitr
    rotate_left
    · iexact H10
    ipureintro
    unfold y2 y1
    rw [hr8, hr9, hr10, hr0, hr1, hr2, hr3, read_dite, read_dite, hf10]
    rw [q10, q10]
    rfl
  isplitl [H11]
  · iexists _; isplitr
    rotate_left
    · iexact H11
    ipureintro
    unfold wgu ldw
    rw [hr3, hr2, hr5, hr6, read_dite, hf11]
    rw [q11, q6]
  isplitl [H12]
  · iexists _; isplitr
    rotate_left
    · iexact H12
    ipureintro
    unfold wdn ldw
    rw [hr3, hr2, hr5, hr6, read_dite, hf12]
    rw [q12, q8]
  iexists _; isplitr
  rotate_left
  · iexact H13
  ipureintro
  unfold sl2 ldw
  rw [hr3, hr2, hr5, hr6, hr7, read_dite, read_dite, hf13]
  rw [q13, q13]
  unfold sl1
  split
  · rfl
  · funext a
    obtain rfl : a = ValueIdx.ix1 0 := funext fun b => Fin.ext (by fin_cases b; have := (a 0).isLt; simp at this ⊢; omega)
    split <;> rfl
end Cert.KernelIdeal.Moe
-- ==== Proof.MoeI.Step.lean ====
module

public import proofs.«01_k».proof.Proof.MoeI.Body
public import proofs.«01_k».proof.Proof.Moe.Cuts
public import Idealize.ShloMosaic.Lib.Pointwise.Index
public import Idealize.ShloMosaic.Lib.ValueIdx
public import Idealize.ShloMosaic.Lib.Routing.BitFacts
public import Idealize.ShloMosaic.Lib.Pipeline.Value

/-!
What one grid point computes, in terms of a plan `P` (which segment of rows each point works on): if the output block holds what
the closed form `aft` says of the point before, and the scratch holds an expert's matrices or nothing, then after the point the
output block is `aft` at this point, and the scratch again holds an expert's matrices or nothing.
-/

@[expose] public section

set_option maxRecDepth 16384

noncomputable section

namespace Cert.KernelIdeal.Moe

open Cert.KernelIdeal.Gen Cert.Moe
open Idealize.ShloMosaic

variable {F : FTy → Type} [FloatOps F]

/-! ## The conditions of the body, on words of natural numbers -/

theorem guard_iff (b : Bool) : (Scalar.cmpi .ne (Scalar.extui (BitVec.ofBool b) : BitVec 32) 0#32 = 1#1) ↔ b = true := by
  revert b; decide

theorem sgt_word (a b : ℕ) (ha : a < 2 ^ 31) (hb : b < 2 ^ 31) :
    Scalar.cmpi .sgt (BitVec.ofNat 32 a) (BitVec.ofNat 32 b) = BitVec.ofBool (decide (b < a)) := by
  rw [← Routing.slt_ofNat32 hb ha]; rfl

theorem used_iff (lo hi : ℕ) (hlo : lo < 2 ^ 31) (hhi : hi < 2 ^ 31) :
    k0_cond4 (BitVec.ofNat 32 lo) (BitVec.ofNat 32 hi) = 1#1 ↔ lo < hi := by
  unfold k0_cond4
  show Scalar.cmpi .ne (Scalar.extui (Scalar.cmpi .sgt (BitVec.ofNat 32 hi) (BitVec.ofNat 32 lo)) : BitVec 32) 0#32 = 1#1 ↔ _
  rw [sgt_word hi lo hhi hlo, guard_iff]
  simp

theorem ofNat_inj (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem first_iff (i : grid0.Coords) (s : ℕ) (hi : (i 0).val = s) :
    Scalar.cmpi .ne (Scalar.extui (Scalar.cmpi .eq (BitVec.ofNat 32 (i 0).val) 0#32) : BitVec 32) 0#32 = 1#1 ↔ s = 0 := by
  have hs : s < 160 := hi ▸ i_lt i
  have e : Scalar.cmpi .eq (BitVec.ofNat 32 (i 0).val) 0#32 = BitVec.ofBool (decide (s = 0)) := by
    rw [hi]
    show BitVec.ofBool (BitVec.ofNat 32 s == BitVec.ofNat 32 0) = _
    rw [beq_eq_decide, decide_eq_decide.mpr (ofNat_inj s 0 (by omega) (by omega))]
  rw [e, guard_iff]; simp

theorem open_iff (i : grid0.Coords) (s a b : ℕ) (hi : (i 0).val = s) (ha : a < 2 ^ 31) (hb : b < 2 ^ 31) :
    k0_cond3 i (BitVec.ofNat 32 a) (BitVec.ofNat 32 b) = 1#1 ↔ (s = 0 ∨ a ≠ b) := by
  have hs : s < 160 := hi ▸ i_lt i
  unfold k0_cond3
  show Scalar.cmpi .ne (Scalar.extui (Scalar.ori (Scalar.cmpi .eq (BitVec.ofNat 32 (i 0).val) 0#32) (Scalar.cmpi .ne (BitVec.ofNat 32 a) (BitVec.ofNat 32 b))) : BitVec 32) 0#32 = 1#1 ↔ _
  have e : Scalar.cmpi .eq (BitVec.ofNat 32 (i 0).val) 0#32 = BitVec.ofBool (decide (s = 0)) := by
    rw [hi]
    show BitVec.ofBool (BitVec.ofNat 32 s == BitVec.ofNat 32 0) = _
    rw [beq_eq_decide, decide_eq_decide.mpr (ofNat_inj s 0 (by omega) (by omega))]
  have e2 : Scalar.cmpi .ne (BitVec.ofNat 32 a) (BitVec.ofNat 32 b) = BitVec.ofBool (decide (a ≠ b)) := by
    show BitVec.ofBool (BitVec.ofNat 32 a != BitVec.ofNat 32 b) = _
    rw [bne, beq_eq_decide]
    simp [ofNat_inj a b (by omega) (by omega)]
  have e3 : ∀ p q : Bool, Scalar.ori (BitVec.ofBool p) (BitVec.ofBool q) = BitVec.ofBool (p || q) := by decide
  rw [e, e2, e3, guard_iff]; simp

theorem load_iff (i : grid0.Coords) (lo hi : ℕ) (e : BitVec 32) (x13 : Vec F S1 .i32) (hlo : lo < 2 ^ 31) (hhi : hi < 2 ^ 31) :
    ldw (F := F) i (BitVec.ofNat 32 lo) (BitVec.ofNat 32 hi) e x13 = 1#1 ↔ (lo < hi ∧ sl1 (F := F) i x13 ≠ e) := by
  unfold ldw
  have e2 : Scalar.cmpi .ne (sl1 (F := F) i x13) e = BitVec.ofBool (decide (sl1 (F := F) i x13 ≠ e)) := by
    show BitVec.ofBool (sl1 (F := F) i x13 != e) = _
    rw [bne, beq_eq_decide]; simp
  have e3 : ∀ p q : Bool, Scalar.andi (BitVec.ofBool p) (BitVec.ofBool q) = BitVec.ofBool (p && q) := by decide
  rw [sgt_word hi lo hhi hlo, e2, e3, guard_iff]; simp

/-- The mask of rows at row `r`: set where the row lies in the segment. -/
theorem mask_ap (lo hi : ℕ) (hlo : lo < 2 ^ 31) (hhi : hi < 2 ^ 31) (r : Fin 512) (z : Fin 1) :
    k0_pay7 (F := F) (BitVec.ofNat 32 lo) (BitVec.ofNat 32 hi) (ValueIdx.ix2 r z) = BitVec.ofBool (decide (lo ≤ r.val ∧ r.val < hi)) := by
  have e3 : ∀ p q : Bool, IntOp.andi (BitVec.ofBool p) (BitVec.ofBool q) = BitVec.ofBool (p && q) := by decide
  have hr : r.val < 2 ^ 31 := by have := r.isLt; omega
  have h1 : k0_pay7 (F := F) (BitVec.ofNat 32 lo) (BitVec.ofNat 32 hi) (ValueIdx.ix2 r z)
      = IntOp.andi (IntOp.cmpi .sge (BitVec.ofNat 32 r.val) (BitVec.ofNat 32 lo)) (IntOp.cmpi .slt (BitVec.ofNat 32 r.val) (BitVec.ofNat 32 hi)) := by
    unfold k0_pay7
    rw [shapeCast_self]
    have hio : iota .tc S512x1 32 [0] iota_S512x1_d0_w32 (ValueIdx.ix2 r z) = BitVec.ofNat 32 r.val := by
      show BitVec.ofNat 32 (0 * 512 + r.val) = _
      rw [Nat.zero_mul, Nat.zero_add]
    rw [← hio]
    rfl
  rw [h1]
  have e1 : IntOp.cmpi .sge (BitVec.ofNat 32 r.val) (BitVec.ofNat 32 lo) = BitVec.ofBool (decide (lo ≤ r.val)) := by
    rw [← Routing.sle_ofNat32 hlo hr]; rfl
  have e2 : IntOp.cmpi .slt (BitVec.ofNat 32 r.val) (BitVec.ofNat 32 hi) = BitVec.ofBool (decide (r.val < hi)) := by
    rw [← Routing.slt_ofNat32 hr hhi]; rfl
  rw [e1, e2, e3]; simp

theorem pay4_ap (v57 v65 : FVec F S512x1024 .f32) (mk : IVec S512x1 1) (r : Fin 512) (j : Fin 1024) :
    k0_pay4 v57 v65 mk (ValueIdx.ix2 r j) = if mk (ValueIdx.ix2 r 0) = 1#1 then v57 (ValueIdx.ix2 r j) else v65 (ValueIdx.ix2 r j) := by
  unfold k0_pay4
  show Scalar.select (broadcastTo S512x1024 mk broadcasts_S512x1_S512x1024 (ValueIdx.ix2 r j)) _ _ = _
  rw [broadcastTo_apply mk _ (ValueIdx.ix2 r j) (ValueIdx.ix2 r 0) (fun a => by fin_cases a <;> rfl)]
  rfl

theorem pay6_eq (v : Vec F S512x1024 .f32) : k0_pay6 v = v := by
  unfold k0_pay6
  exact shapeCast_self _ _

/-! ## The blocks of the arrays, and the closed form -/

/-- Block `b` of the array of rows. -/
def xBlk (A : Vec F S66048x1024 .f32) (b : ℕ) : Vec F S512x1024 .f32 := fun y =>
  A (ValueIdx.ix2 ⟨(b * 512 + (y 0).val) % 66048, Nat.mod_lt _ (by decide)⟩ (y 1))

/-- Expert `e`'s first matrix. -/
def guBlk (A : Vec F S32x1024x2048 .f32) (e : ℕ) : Vec F S1x1024x2048 .f32 := fun y =>
  A (ValueIdx.ix3 ⟨e % 32, Nat.mod_lt _ (by decide)⟩ (y 1) (y 2))

/-- Expert `e`'s first bias. -/
def bguBlk (A : Vec F S32x1x2048 .f32) (e : ℕ) : Vec F S1x1x2048 .f32 := fun y =>
  A (ValueIdx.ix3 ⟨e % 32, Nat.mod_lt _ (by decide)⟩ (y 1) (y 2))

/-- Expert `e`'s second matrix. -/
def dnBlk (A : Vec F S32x1024x1024 .f32) (e : ℕ) : Vec F S1x1024x1024 .f32 := fun y =>
  A (ValueIdx.ix3 ⟨e % 32, Nat.mod_lt _ (by decide)⟩ (y 1) (y 2))

/-- Expert `e`'s second bias. -/
def bdnBlk (A : Vec F S32x1x1024 .f32) (e : ℕ) : Vec F S1x1x1024 .f32 := fun y =>
  A (ValueIdx.ix3 ⟨e % 32, Nat.mod_lt _ (by decide)⟩ (y 1) (y 2))

/-- The five arrays the points read. -/
structure Arrs (F : FTy → Type) [FloatOps F] where
  x : Vec F S66048x1024 .f32
  gu : Vec F S32x1024x2048 .f32
  bgu : Vec F S32x1x2048 .f32
  dn : Vec F S32x1024x1024 .f32
  bdn : Vec F S32x1x1024 .f32

/-- Expert `e` applied to block `b` of the rows. -/
def ffn (A : Arrs F) (e b : ℕ) : Vec F S512x1024 .f32 :=
  k0_pay5 (xBlk A.x b) (k0_pay1 (guBlk A.gu e)) (bguBlk A.bgu e) (k0_pay2 (dnBlk A.dn e)) (bdnBlk A.bdn e)

/-- What the output block holds after point `s`: each row before the end of the segment has its owner's result, the others are zero. -/
def aft (P : Plan) (A : Arrs F) (s : ℕ) : Vec F S512x1024 .f32 := fun y =>
  if P.blk s * 512 + (y 0).val < P.nxt s then ffn A (P.owner (P.blk s * 512 + (y 0).val)) (P.blk s) y else k0_pay3 y

/-- What the scratch holds between points: no expert, or an expert's number with its matrices. -/
def Held (A : Arrs F) (x11 : Vec F S1024x2048 .bf16) (x12 : Vec F S1024x1024 .bf16) (w : BitVec 32) : Prop :=
  w = 4294967295#32 ∨ ∃ e, e < 32 ∧ w = BitVec.ofNat 32 e ∧ x11 = k0_pay1 (guBlk A.gu e) ∧ x12 = k0_pay2 (dnBlk A.dn e)

/-- The words of point `s`. -/
def wBlk (P : Plan) (s : ℕ) : BitVec 32 := BitVec.ofNat 32 (P.blk s)
def wEx (P : Plan) (s : ℕ) : BitVec 32 := BitVec.ofNat 32 (P.ex s)
def wLo (P : Plan) (s : ℕ) : BitVec 32 := BitVec.ofNat 32 (P.cut s - 512 * P.blk s)
def wHi (P : Plan) (s : ℕ) : BitVec 32 := BitVec.ofNat 32 (P.nxt s - 512 * P.blk s)

variable (P : Plan) (A : Arrs F)

theorem used_pt (s : ℕ) (hs : s < 160) : k0_cond4 (wLo P s) (wHi P s) = 1#1 ↔ P.cut s < P.nxt s := by
  have h1 := P.cut_lt s hs
  have h2 := P.nxt_lt s hs
  have h3 := P.blk_start s
  have h4 := P.nxt_ge_blk s hs
  unfold wLo wHi
  rw [used_iff _ _ (by omega) (by omega)]
  omega

theorem open_pt (i : grid0.Coords) (s : ℕ) (hi : (i 0).val = s) : k0_cond3 i (wBlk P s) (wBlk P (s - 1)) = 1#1 ↔ (s = 0 ∨ P.blk s ≠ P.blk (s - 1)) := by
  have h1 := P.blk_le s
  have h2 := P.blk_le (s - 1)
  unfold wBlk
  exact open_iff i s _ _ hi (by omega) (by omega)

theorem load_pt (i : grid0.Coords) (s : ℕ) (hs : s < 160) (x13 : Vec F S1 .i32) :
    ldw (F := F) i (wLo P s) (wHi P s) (wEx P s) x13 = 1#1 ↔ (P.cut s < P.nxt s ∧ sl1 (F := F) i x13 ≠ wEx P s) := by
  have h1 := P.cut_lt s hs
  have h2 := P.nxt_lt s hs
  have h3 := P.blk_start s
  have h4 := P.nxt_ge_blk s hs
  unfold wLo wHi
  rw [load_iff _ _ _ _ _ (by omega) (by omega)]
  exact and_congr_left fun _ => by omega

/-- The scratch after the point's first statement. -/
theorem held_sl1 (i : grid0.Coords) (s : ℕ) (hi : (i 0).val = s) (x11 : Vec F S1024x2048 .bf16) (x12 : Vec F S1024x1024 .bf16) (x13 : Vec F S1 .i32)
    (h : s ≠ 0 → Held A x11 x12 (x13 (ValueIdx.ix1 0))) : Held A x11 x12 (sl1 (F := F) i x13) := by
  unfold sl1
  by_cases h0 : s = 0
  · rw [if_pos ((first_iff i s hi).mpr h0)]; exact .inl rfl
  · rw [if_neg (fun e => h0 ((first_iff i s hi).mp e))]; exact h h0

/-- The scratch after the point. -/
theorem held_step (i : grid0.Coords) (s : ℕ) (hi : (i 0).val = s) (x11 : Vec F S1024x2048 .bf16) (x12 : Vec F S1024x1024 .bf16) (x13 : Vec F S1 .i32)
    (h : s ≠ 0 → Held A x11 x12 (x13 (ValueIdx.ix1 0))) :
    Held A (wgu i (wLo P s) (wHi P s) (wEx P s) (guBlk A.gu (P.ex s)) x11 x13) (wdn i (wLo P s) (wHi P s) (wEx P s) (dnBlk A.dn (P.ex s)) x12 x13)
      (sl2 (F := F) i (wLo P s) (wHi P s) (wEx P s) x13 (ValueIdx.ix1 0)) := by
  have h1 := held_sl1 A i s hi x11 x12 x13 h
  unfold wgu wdn sl2
  by_cases hl : ldw (F := F) i (wLo P s) (wHi P s) (wEx P s) x13 = 1#1
  · rw [if_pos hl, if_pos hl, if_pos hl]
    exact .inr ⟨P.ex s, P.owner_lt _, rfl, rfl, rfl⟩
  · rw [if_neg hl, if_neg hl, if_neg hl]
    exact h1

/-- Where the point has rows, the scratch then holds its expert's matrices. -/
theorem held_used (i : grid0.Coords) (s : ℕ) (hi : (i 0).val = s) (hu : P.cut s < P.nxt s) (x11 : Vec F S1024x2048 .bf16) (x12 : Vec F S1024x1024 .bf16) (x13 : Vec F S1 .i32)
    (h : s ≠ 0 → Held A x11 x12 (x13 (ValueIdx.ix1 0))) :
    wgu i (wLo P s) (wHi P s) (wEx P s) (guBlk A.gu (P.ex s)) x11 x13 = k0_pay1 (guBlk A.gu (P.ex s))
      ∧ wdn i (wLo P s) (wHi P s) (wEx P s) (dnBlk A.dn (P.ex s)) x12 x13 = k0_pay2 (dnBlk A.dn (P.ex s)) := by
  have hs : s < 160 := hi ▸ i_lt i
  have h1 := held_sl1 A i s hi x11 x12 x13 h
  have he : P.ex s < 32 := P.owner_lt _
  unfold wgu wdn
  by_cases hl : ldw (F := F) i (wLo P s) (wHi P s) (wEx P s) x13 = 1#1
  · rw [if_pos hl, if_pos hl]; exact ⟨rfl, rfl⟩
  · rw [if_neg hl, if_neg hl]
    have hw : sl1 (F := F) i x13 = wEx P s := by
      by_contra hne
      exact hl ((load_pt P i s hs x13).mpr ⟨hu, hne⟩)
    rw [hw] at h1
    rcases h1 with h1 | ⟨e, he', hee, h11, h12⟩
    · exact absurd ((ofNat_inj (P.ex s) 4294967295 (by omega) (by omega)).mp h1) (by omega)
    · have := (ofNat_inj (P.ex s) e (by omega) (by omega)).mp hee
      subst this
      exact ⟨h11, h12⟩

theorem mask_pt (s : ℕ) (hs : s < 160) (r : Fin 512) :
    k0_pay7 (F := F) (wLo P s) (wHi P s) (ValueIdx.ix2 r 0) = 1#1 ↔ (P.cut s ≤ P.blk s * 512 + r.val ∧ P.blk s * 512 + r.val < P.nxt s) := by
  have h1 := P.cut_lt s hs
  have h2 := P.nxt_lt s hs
  have h3 := P.blk_start s
  have h4 := P.nxt_ge_blk s hs
  unfold wLo wHi
  rw [mask_ap _ _ (by omega) (by omega)]
  have : ∀ b : Bool, BitVec.ofBool b = 1#1 ↔ b = true := by decide
  rw [this, decide_eq_true_iff]
  omega

/-- The output block after the point. -/
theorem out_step (i : grid0.Coords) (s : ℕ) (hi : (i 0).val = s) (x10 : Vec F S512x1024 .f32) (x11 : Vec F S1024x2048 .bf16) (x12 : Vec F S1024x1024 .bf16) (x13 : Vec F S1 .i32)
    (h : s ≠ 0 → Held A x11 x12 (x13 (ValueIdx.ix1 0)))
    (hx : ¬ (s = 0 ∨ P.blk s ≠ P.blk (s - 1)) → x10 = aft P A (s - 1)) :
    y2 i (wBlk P s) (wBlk P (s - 1)) (wLo P s) (wHi P s) (wEx P s) (xBlk A.x (P.blk s)) (guBlk A.gu (P.ex s)) (bguBlk A.bgu (P.ex s)) (dnBlk A.dn (P.ex s)) (bdnBlk A.bdn (P.ex s)) x10 x11 x12 x13
      = aft P A s := by
  have hs : s < 160 := hi ▸ i_lt i
  funext y
  obtain ⟨r, j, rfl⟩ : ∃ (r : Fin 512) (j : Fin 1024), y = ValueIdx.ix2 r j := ⟨y 0, y 1, funext fun a => by fin_cases a <;> rfl⟩
  have hr : r.val < 512 := r.isLt
  have hb := P.blk_le s
  -- the opened block, at a row outside the segment
  have hy1 : ¬ (P.cut s ≤ P.blk s * 512 + r.val ∧ P.blk s * 512 + r.val < P.nxt s) → y1 i (wBlk P s) (wBlk P (s - 1)) x10 (ValueIdx.ix2 r j) = aft P A s (ValueIdx.ix2 r j) := by
    intro hm
    unfold y1
    by_cases ho : s = 0 ∨ P.blk s ≠ P.blk (s - 1)
    · rw [if_pos ((open_pt P i s hi).mpr ho)]
      have := P.open_start s hs ho
      unfold aft
      rw [if_neg (show ¬ (P.blk s * 512 + r.val < P.nxt s) by omega)]
    · rw [if_neg (fun e => ho ((open_pt P i s hi).mp e)), hx ho]
      have h0 : s ≠ 0 := fun e => ho (.inl e)
      have hbb : P.blk s = P.blk (s - 1) := by by_contra e; exact ho (.inr e)
      have hn : P.nxt (s - 1) = P.cut s := by
        unfold Plan.nxt
        rw [if_neg (by omega), Nat.sub_add_cancel (by omega)]
      have hc : P.cut s ≤ P.nxt s ∨ s = 159 := by
        by_cases e : s = 159
        · exact .inr e
        · left; unfold Plan.nxt; rw [if_neg e]; exact P.cut_mono _ _ (by omega) (by omega)
      unfold aft
      rw [← hbb, hn]
      by_cases hlt : P.blk s * 512 + r.val < P.cut s
      · have : P.blk s * 512 + r.val < P.nxt s := by
          rcases hc with hc | hc
          · omega
          · unfold Plan.nxt; rw [if_pos hc]; omega
        rw [if_pos (show P.blk s * 512 + ((ValueIdx.ix2 r j : S512x1024.Idx) 0).val < P.cut s from hlt), if_pos (show P.blk s * 512 + ((ValueIdx.ix2 r j : S512x1024.Idx) 0).val < P.nxt s from this)]
      · rw [if_neg (show ¬ P.blk s * 512 + ((ValueIdx.ix2 r j : S512x1024.Idx) 0).val < P.cut s from hlt), if_neg (show ¬ P.blk s * 512 + ((ValueIdx.ix2 r j : S512x1024.Idx) 0).val < P.nxt s from by intro h'; exact hm ⟨by omega, h'⟩)]
  unfold y2
  by_cases hu : P.cut s < P.nxt s
  · rw [if_pos ((used_pt P s hs).mpr hu), pay4_ap, pay6_eq]
    by_cases hm : P.cut s ≤ P.blk s * 512 + r.val ∧ P.blk s * 512 + r.val < P.nxt s
    · rw [if_pos ((mask_pt (F := F) P s hs r).mpr hm)]
      obtain ⟨e1, e2⟩ := held_used P A i s hi hu x11 x12 x13 h
      rw [e1, e2]
      unfold aft
      rw [if_pos (show P.blk s * 512 + ((ValueIdx.ix2 r j : S512x1024.Idx) 0).val < P.nxt s from hm.2)]
      have ho : P.owner (P.blk s * 512 + ((ValueIdx.ix2 r j : S512x1024.Idx) 0).val) = P.ex s :=
        P.owner_of_mem s _ hs hm.1 hm.2 (show P.blk s * 512 + r.val < 66048 by omega)
      rw [ho]
      rfl
    · rw [if_neg (fun e => hm ((mask_pt (F := F) P s hs r).mp e))]
      exact hy1 hm
  · rw [if_neg (fun e => hu ((used_pt P s hs).mp e))]
    exact hy1 (fun e => hu (by omega))

end Cert.KernelIdeal.Moe
-- ==== Proof.MoeI.Pipe.lean ====
module

public import proofs.«01_k».proof.Proof.MoeI.Step
public import Idealize.ShloMosaic.Lib.Pipeline.TableIdle
public import Idealize.ShloMosaic.Lib.Pipeline.Regions

/-!
The pipeline at the tables of a plan `P`: the tables pass the side condition, the windows' blocks are the ones the plan names, and the
body's triple at a grid point is the pipeline's obligation there.
-/

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (P : Plan)

/-! ## The tables -/

def tBlk : Vec F S160 .i32 := fun x => wBlk P (x 0).val
def tEx : Vec F S160 .i32 := fun x => wEx P (x 0).val
def tLo : Vec F S160 .i32 := fun x => wLo P (x 0).val
def tHi : Vec F S160 .i32 := fun x => wHi P (x 0).val

set_option backward.proofsInPublic true in
/-- The four tables of the plan. -/
def tabs : pre0.Contents (Elt F) := fun
  | ⟨0, _⟩ => tBlk (F := F) P
  | ⟨1, _⟩ => tEx (F := F) P
  | ⟨2, _⟩ => tLo (F := F) P
  | ⟨3, _⟩ => tHi (F := F) P
  | ⟨_ + 4, h⟩ => absurd h (by simp)

theorem emb_one (off : Fin 1 → ℕ) (inb : ∀ a, off a + (![1] : Fin 1 → ℕ) a ≤ S160.size a) (h : 0 < (Rect.unit (s := S160) off ![1] inb).shape.numel) (k : Fin 160) (hk : off 0 = k.val) :
    (Rect.unit (s := S160) off ![1] inb).emb (Shape.Idx.first h) = ValueIdx.ix1 k := by
  funext a
  fin_cases a
  exact Fin.ext (by
    show off 0 + 1 * _ = k.val
    rw [hk]; simp [Shape.Idx.first])

/-- The entry a block index reads is the grid point's own. -/
theorem entry_at (i : grid0.Coords) (h : 0 < (Rect.unit (s := S160) ![(Scalar.indexCast (BitVec.ofNat 32 (i 0).val)).toNat] S1.size (k0_off1_inb i)).shape.numel) :
    (Rect.unit (s := S160) ![(Scalar.indexCast (BitVec.ofNat 32 (i 0).val)).toNat] S1.size (k0_off1_inb i)).emb (Shape.Idx.first h) = ValueIdx.ix1 ⟨(i 0).val, i_lt i⟩ :=
  emb_one _ (k0_off1_inb i) h ⟨(i 0).val, i_lt i⟩ (off1_val i)

theorem toNat_small (n : ℕ) (h : n < 2 ^ 32) : (BitVec.ofNat 32 n).toNat = n := by rw [BitVec.toNat_ofNat, Nat.mod_eq_of_lt h]

theorem tr0 (i : grid0.Coords) : cc0_transform_0 k0_off1_inb numel1_S1 (tabs (F := F) P) i = ![P.blk (i 0).val, 0] := by
  have h := P.blk_le (i 0).val
  have e : ((tBlk (F := F) P) ((Rect.unit (s := S160) ![(Scalar.indexCast (BitVec.ofNat 32 (i 0).val)).toNat] S1.size (k0_off1_inb i)).emb (Shape.Idx.first (numel1_S1.symm ▸ Nat.one_pos)))).toNat = P.blk (i 0).val :=
    (congrArg (fun x => ((tBlk (F := F) P) x).toNat) (entry_at i _)).trans (toNat_small _ (lt_of_le_of_lt h (by decide)))
  show (![((tBlk (F := F) P) ((Rect.unit (s := S160) ![(Scalar.indexCast (BitVec.ofNat 32 (i 0).val)).toNat] S1.size (k0_off1_inb i)).emb (Shape.Idx.first (numel1_S1.symm ▸ Nat.one_pos)))).toNat, 0] : Fin 2 → ℕ) = _
  rw [e]
theorem tr5 (i : grid0.Coords) : cc0_transform_5 k0_off1_inb numel1_S1 (tabs (F := F) P) i = ![P.blk (i 0).val, 0] := tr0 P i
theorem tr1 (i : grid0.Coords) : cc0_transform_1 k0_off1_inb numel1_S1 (tabs (F := F) P) i = ![P.ex (i 0).val, 0, 0] := by
  have h : P.ex (i 0).val < 32 := P.owner_lt _
  have e : ((tEx (F := F) P) ((Rect.unit (s := S160) ![(Scalar.indexCast (BitVec.ofNat 32 (i 0).val)).toNat] S1.size (k0_off1_inb i)).emb (Shape.Idx.first (numel1_S1.symm ▸ Nat.one_pos)))).toNat = P.ex (i 0).val :=
    (congrArg (fun x => ((tEx (F := F) P) x).toNat) (entry_at i _)).trans (toNat_small _ (lt_trans h (by decide)))
  show (![((tEx (F := F) P) ((Rect.unit (s := S160) ![(Scalar.indexCast (BitVec.ofNat 32 (i 0).val)).toNat] S1.size (k0_off1_inb i)).emb (Shape.Idx.first (numel1_S1.symm ▸ Nat.one_pos)))).toNat, 0, 0] : Fin 3 → ℕ) = _
  rw [e]
theorem tr2 (i : grid0.Coords) : cc0_transform_2 k0_off1_inb numel1_S1 (tabs (F := F) P) i = ![P.ex (i 0).val, 0, 0] := tr1 P i
theorem tr3 (i : grid0.Coords) : cc0_transform_3 k0_off1_inb numel1_S1 (tabs (F := F) P) i = ![P.ex (i 0).val, 0, 0] := tr1 P i
theorem tr4 (i : grid0.Coords) : cc0_transform_4 k0_off1_inb numel1_S1 (tabs (F := F) P) i = ![P.ex (i 0).val, 0, 0] := tr1 P i

/-- The tables of a plan keep every block inside its array. -/
theorem ok_tabs : ok0 (F := F) (tabs P) := by
  unfold ok0
  refine ⟨fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩⟩
  · rw [tr0]; intro a; have := P.blk_le (i 0).val
    fin_cases a
    · show (P.blk (i 0).val + 1) * 512 ≤ 66048; omega
    · show (0 + 1) * 1024 ≤ 1024; omega
  · rw [tr1]; intro a; have : P.ex (i 0).val < 32 := P.owner_lt _
    fin_cases a
    · show (P.ex (i 0).val + 1) * 1 ≤ 32; omega
    · show (0 + 1) * 1024 ≤ 1024; omega
    · show (0 + 1) * 2048 ≤ 2048; omega
  · rw [tr2]; intro a; have : P.ex (i 0).val < 32 := P.owner_lt _
    fin_cases a
    · show (P.ex (i 0).val + 1) * 1 ≤ 32; omega
    · show (0 + 1) * 1 ≤ 1; omega
    · show (0 + 1) * 2048 ≤ 2048; omega
  · rw [tr3]; intro a; have : P.ex (i 0).val < 32 := P.owner_lt _
    fin_cases a
    · show (P.ex (i 0).val + 1) * 1 ≤ 32; omega
    · show (0 + 1) * 1024 ≤ 1024; omega
    · show (0 + 1) * 1024 ≤ 1024; omega
  · rw [tr4]; intro a; have : P.ex (i 0).val < 32 := P.owner_lt _
    fin_cases a
    · show (P.ex (i 0).val + 1) * 1 ≤ 32; omega
    · show (0 + 1) * 1 ≤ 1; omega
    · show (0 + 1) * 1024 ≤ 1024; omega
  · rw [tr5]; intro a; have := P.blk_le (i 0).val
    fin_cases a
    · show (P.blk (i 0).val + 1) * 512 ≤ 66048; omega
    · show (0 + 1) * 1024 ≤ 1024; omega

/-- The tables, admissible. -/
def adm : (pcfg0 (F := F)).Adm := ⟨tabs P, ok_tabs P⟩

/-- The pipeline there. -/
abbrev cfgA : Pipeline.Cfg sig Λ₀ := cfg0 (F := F) (adm P)

theorem coord (t : Fin grid0.N) : ((grid0.coords t) 0).val = t.val := by
  have h := Pipeline.Grid.coords_val (G := grid0) t 0 (S := 1) (B := 160) (by decide) rfl
  have ht : t.val < 160 := N_0 ▸ t.isLt
  rw [h]; omega

theorem idx0 (t : Fin (cfgA (F := F) P).N) : ((cfgA (F := F) P).win 0).index t = ![P.blk t.val, 0] := (tr0 P _).trans (by rw [coord])
theorem idx1 (t : Fin (cfgA (F := F) P).N) : ((cfgA (F := F) P).win 1).index t = ![P.ex t.val, 0, 0] := (tr1 P _).trans (by rw [coord])
theorem idx2 (t : Fin (cfgA (F := F) P).N) : ((cfgA (F := F) P).win 2).index t = ![P.ex t.val, 0, 0] := (tr2 P _).trans (by rw [coord])
theorem idx3 (t : Fin (cfgA (F := F) P).N) : ((cfgA (F := F) P).win 3).index t = ![P.ex t.val, 0, 0] := (tr3 P _).trans (by rw [coord])
theorem idx4 (t : Fin (cfgA (F := F) P).N) : ((cfgA (F := F) P).win 4).index t = ![P.ex t.val, 0, 0] := (tr4 P _).trans (by rw [coord])
theorem idx5 (t : Fin (cfgA (F := F) P).N) : ((cfgA (F := F) P).win 5).index t = ![P.blk t.val, 0] := (tr5 P _).trans (by rw [coord])

/-! ## The proof data -/

/-- The arrays the windows read, off the contents the region is entered with. -/
def arrs (V : (b : Ref sig .tc) → b.ty.Contents (Elt F)) : Arrs F where
  x := V main_arg1
  gu := V main_arg2
  bgu := V main_v28
  dn := V main_arg4
  bdn := V main_v29

/-- What the scratch holds before point `n`. -/
def scr (A : Arrs F) (c : Dev nD) (n : ℕ) : sProp 𝕄 :=
  iprop(∃ (x11 : Vec F S1024x2048 .bf16) (x12 : Vec F S1024x1024 .bf16) (x13 : Vec F S1 .i32), ⌜n ≠ 0 → Held A x11 x12 (x13 (ValueIdx.ix1 0))⌝
    ∗ owns (c : Thread nD τ) (Memref.whole cc0_scratch0) fullShare x11 ∗ owns (c : Thread nD τ) (Memref.whole cc0_scratch1) fullShare x12 ∗ owns (c : Thread nD τ) (Memref.whole cc0_scratch2) fullShare x13)

def dat (V : (b : Ref sig .tc) → b.ty.Contents (Elt F)) (c : Dev nD) : Dat τ (Elt F) Unit ℕ (UR sig nD τ) ℕ (cfgA (F := F) P) c where
  A w := V (Pipeline.arrRef spec0 w)
  after w t := match w with
    | ⟨0, _⟩ => xBlk (arrs V).x (P.blk t.val)
    | ⟨1, _⟩ => guBlk (arrs V).gu (P.ex t.val)
    | ⟨2, _⟩ => bguBlk (arrs V).bgu (P.ex t.val)
    | ⟨3, _⟩ => dnBlk (arrs V).dn (P.ex t.val)
    | ⟨4, _⟩ => bdnBlk (arrs V).bdn (P.ex t.val)
    | ⟨5, _⟩ => aft P (arrs V) t.val
    | ⟨_ + 6, h⟩ => absurd h (Nat.not_lt.2 (Nat.le_add_left _ _))
  Φ t := iprop(Pipeline.prefHeld pre0 c (fun _ => fullShare) (tabs (F := F) P) ∗ scr (arrs V) c t.val)
  q _ := fullShare
  owed _ := 0

/-! ## What the windows find -/

/-- A window's block is the block of its array at the index times the block's extents. -/
theorem block0 (V : (b : Ref sig .tc) → b.ty.Contents (Elt F)) (c : Dev nD) (t : Fin (cfgA (F := F) P).N) : (dat P V c).blockOf 0 t = xBlk (arrs V).x (P.blk t.val) := by
  refine funext fun (y : S512x1024.Idx) => ?_
  have h := P.blk_le t.val
  have hy : ((y : S512x1024.Idx) 0).val < 512 := (y 0).isLt
  show V main_arg1 ((((cfgA (F := F) P).win 0).rect t).emb y) = V main_arg1 _
  refine congrArg (V main_arg1) (funext fun a => Fin.ext ?_)
  refine (Pipeline.Window.rect_emb_val ((cfgA (F := F) P).win 0) t y a rfl).trans ?_
  rw [idx0]
  fin_cases a
  · show P.blk t.val * 512 + (y 0).val = (P.blk t.val * 512 + (y 0).val) % 66048
    rw [Nat.mod_eq_of_lt]
    omega
  · show 0 * 1024 + (y 1).val = (y 1).val
    omega

theorem block1 (V : (b : Ref sig .tc) → b.ty.Contents (Elt F)) (c : Dev nD) (t : Fin (cfgA (F := F) P).N) : (dat P V c).blockOf 1 t = guBlk (arrs V).gu (P.ex t.val) := by
  refine funext fun (y : S1x1024x2048.Idx) => ?_
  have h : P.ex t.val < 32 := P.owner_lt _
  have hy : ((y : S1x1024x2048.Idx) 0).val < 1 := (y 0).isLt
  show V main_arg2 ((((cfgA (F := F) P).win 1).rect t).emb y) = V main_arg2 _
  refine congrArg (V main_arg2) (funext fun a => Fin.ext ?_)
  refine (Pipeline.Window.rect_emb_val ((cfgA (F := F) P).win 1) t y a rfl).trans ?_
  rw [idx1]
  fin_cases a
  · show P.ex t.val * 1 + (y 0).val = P.ex t.val % 32
    rw [Nat.mod_eq_of_lt h]
    omega
  · show 0 * 1024 + (y 1).val = (y 1).val
    omega
  · show 0 * 2048 + (y 2).val = (y 2).val
    omega

theorem block2 (V : (b : Ref sig .tc) → b.ty.Contents (Elt F)) (c : Dev nD) (t : Fin (cfgA (F := F) P).N) : (dat P V c).blockOf 2 t = bguBlk (arrs V).bgu (P.ex t.val) := by
  refine funext fun (y : S1x1x2048.Idx) => ?_
  have h : P.ex t.val < 32 := P.owner_lt _
  have hy : ((y : S1x1x2048.Idx) 0).val < 1 := (y 0).isLt
  show V main_v28 ((((cfgA (F := F) P).win 2).rect t).emb y) = V main_v28 _
  refine congrArg (V main_v28) (funext fun a => Fin.ext ?_)
  refine (Pipeline.Window.rect_emb_val ((cfgA (F := F) P).win 2) t y a rfl).trans ?_
  rw [idx2]
  fin_cases a
  · show P.ex t.val * 1 + (y 0).val = P.ex t.val % 32
    rw [Nat.mod_eq_of_lt h]
    omega
  · show 0 * 1 + (y 1).val = (y 1).val
    omega
  · show 0 * 2048 + (y 2).val = (y 2).val
    omega

theorem block3 (V : (b : Ref sig .tc) → b.ty.Contents (Elt F)) (c : Dev nD) (t : Fin (cfgA (F := F) P).N) : (dat P V c).blockOf 3 t = dnBlk (arrs V).dn (P.ex t.val) := by
  refine funext fun (y : S1x1024x1024.Idx) => ?_
  have h : P.ex t.val < 32 := P.owner_lt _
  have hy : ((y : S1x1024x1024.Idx) 0).val < 1 := (y 0).isLt
  show V main_arg4 ((((cfgA (F := F) P).win 3).rect t).emb y) = V main_arg4 _
  refine congrArg (V main_arg4) (funext fun a => Fin.ext ?_)
  refine (Pipeline.Window.rect_emb_val ((cfgA (F := F) P).win 3) t y a rfl).trans ?_
  rw [idx3]
  fin_cases a
  · show P.ex t.val * 1 + (y 0).val = P.ex t.val % 32
    rw [Nat.mod_eq_of_lt h]
    omega
  · show 0 * 1024 + (y 1).val = (y 1).val
    omega
  · show 0 * 1024 + (y 2).val = (y 2).val
    omega

theorem block4 (V : (b : Ref sig .tc) → b.ty.Contents (Elt F)) (c : Dev nD) (t : Fin (cfgA (F := F) P).N) : (dat P V c).blockOf 4 t = bdnBlk (arrs V).bdn (P.ex t.val) := by
  refine funext fun (y : S1x1x1024.Idx) => ?_
  have h : P.ex t.val < 32 := P.owner_lt _
  have hy : ((y : S1x1x1024.Idx) 0).val < 1 := (y 0).isLt
  show V main_v29 ((((cfgA (F := F) P).win 4).rect t).emb y) = V main_v29 _
  refine congrArg (V main_v29) (funext fun a => Fin.ext ?_)
  refine (Pipeline.Window.rect_emb_val ((cfgA (F := F) P).win 4) t y a rfl).trans ?_
  rw [idx4]
  fin_cases a
  · show P.ex t.val * 1 + (y 0).val = P.ex t.val % 32
    rw [Nat.mod_eq_of_lt h]
    omega
  · show 0 * 1 + (y 1).val = (y 1).val
    omega
  · show 0 * 1024 + (y 2).val = (y 2).val
    omega

section before

variable (V : (b : Ref sig .tc) → b.ty.Contents (Elt F)) (c : Dev nD) (t : Fin (cfgA (F := F) P).N)

theorem before0 (d) : (dat P V c).before 0 t d = xBlk (arrs V).x (P.blk t.val) :=
  (Dat.before_in_eq_fetched (dat P V c) 0 rfl (fun _ => rfl) (fun _ _ _ => rfl) (fun t => (block0 P V c t).symm) t d).trans (block0 P V c t)
theorem before1 (d) : (dat P V c).before 1 t d = guBlk (arrs V).gu (P.ex t.val) :=
  (Dat.before_in_eq_fetched (dat P V c) 1 rfl (fun _ => rfl) (fun _ _ _ => rfl) (fun t => (block1 P V c t).symm) t d).trans (block1 P V c t)
theorem before2 (d) : (dat P V c).before 2 t d = bguBlk (arrs V).bgu (P.ex t.val) :=
  (Dat.before_in_eq_fetched (dat P V c) 2 rfl (fun _ => rfl) (fun _ _ _ => rfl) (fun t => (block2 P V c t).symm) t d).trans (block2 P V c t)
theorem before3 (d) : (dat P V c).before 3 t d = dnBlk (arrs V).dn (P.ex t.val) :=
  (Dat.before_in_eq_fetched (dat P V c) 3 rfl (fun _ => rfl) (fun _ _ _ => rfl) (fun t => (block3 P V c t).symm) t d).trans (block3 P V c t)
theorem before4 (d) : (dat P V c).before 4 t d = bdnBlk (arrs V).bdn (P.ex t.val) :=
  (Dat.before_in_eq_fetched (dat P V c) 4 rfl (fun _ => rfl) (fun _ _ _ => rfl) (fun t => (block4 P V c t).symm) t d).trans (block4 P V c t)

end before

/-! ## The output window's schedule -/

/-- A point opens a block when it is the first or the block differs from the point before. -/
def Opens (s : ℕ) : Prop := s = 0 ∨ P.blk s ≠ P.blk (s - 1)

theorem flush5 (t : Fin (cfgA (F := F) P).N) : ((cfgA (F := F) P).win 5).flush t = true ↔ (t.val + 1 = 160 ∨ (t.val + 1 < 160 ∧ P.blk (t.val + 1) ≠ P.blk t.val)) := by
  have hN : grid0.N = 160 := N_0
  unfold Pipeline.Window.flush
  rw [show ((cfgA (F := F) P).win 5).isOut = true from rfl, Bool.true_and, Bool.or_eq_true, decide_eq_true_iff, decide_eq_true_iff]
  refine or_congr (iff_of_eq (congrArg (fun n => t.val + 1 = n) hN)) ?_
  constructor
  · rintro ⟨h, hn⟩
    rw [idx5, idx5] at hn
    exact ⟨lt_of_lt_of_eq h hN, fun e => hn (by rw [show (⟨t.val + 1, h⟩ : Fin (cfgA (F := F) P).N).val = t.val + 1 from rfl, e])⟩
  · rintro ⟨h, hn⟩
    refine ⟨lt_of_lt_of_eq h hN.symm, fun e => hn ?_⟩
    rw [idx5, idx5] at e
    exact congrFun e 0

theorem atD_eq (T : Vec F S160 .i32) (w : ℕ → BitVec 32) (hT : ∀ x, T x = w (x 0).val) (off : Fin 1 → ℕ) (n : ℕ) (hn : n < 160) (ho : off 0 = n) :
    (if h : ∀ a, off a + 1 ≤ S160.size a then T (fun a => ⟨off a, h a⟩) else default) = w n := by
  have h : ∀ a, off a + 1 ≤ S160.size a := by
    intro a; fin_cases a
    show off 0 + 1 ≤ 160
    omega
  rw [dif_pos h, hT]
  exact congrArg w ho

/-- The output window is idle where the point neither opens a block nor has rows. -/
theorem idle5 (t : Fin (cfgA (F := F) P).N) : (cfgA (F := F) P).idle 5 (grid0.coords t) = true ↔ (¬ Opens P t.val ∧ ¬ P.cut t.val < P.nxt t.val) := by
  have ht : t.val < 160 := N_0 ▸ t.isLt
  have hc := coord t
  have e1 : (tabs (F := F) P).atD 0 (k0_off1 (grid0.coords t)) = wBlk P t.val := atD_eq (tBlk P) (wBlk P) (fun _ => rfl) _ _ ht ((off1_val _).trans hc)
  have e2 : (tabs (F := F) P).atD 0 (k0_off2 (grid0.coords t)) = wBlk P (t.val - 1) := atD_eq (tBlk P) (wBlk P) (fun _ => rfl) _ _ (by omega) ((off2_val _).trans (by rw [hc]))
  have e3 : (tabs (F := F) P).atD 2 (k0_off1 (grid0.coords t)) = wLo P t.val := atD_eq (tLo P) (wLo P) (fun _ => rfl) _ _ ht ((off1_val _).trans hc)
  have e4 : (tabs (F := F) P).atD 3 (k0_off1 (grid0.coords t)) = wHi P t.val := atD_eq (tHi P) (wHi P) (fun _ => rfl) _ _ ht ((off1_val _).trans hc)
  show (!(k0_cond3 (grid0.coords t) ((tabs (F := F) P).atD 0 (k0_off1 (grid0.coords t))) ((tabs (F := F) P).atD 0 (k0_off2 (grid0.coords t))) == 1#1) && !(k0_cond4 ((tabs (F := F) P).atD 2 (k0_off1 (grid0.coords t))) ((tabs (F := F) P).atD 3 (k0_off1 (grid0.coords t))) == 1#1)) = true ↔ _
  rw [e1, e2, e3, e4, Bool.and_eq_true, Bool.not_eq_true', Bool.not_eq_true', beq_eq_false_iff_ne, beq_eq_false_iff_ne]
  exact and_congr (not_congr (open_pt P _ _ hc)) (not_congr (used_pt P _ ht))

/-- The buffer is fresh exactly where a block opens. -/
theorem fresh5 : ∀ n, n < 160 → ((cfgA (F := F) P).fresh 5 n = true ↔ Opens P n)
  | 0, _ => ⟨fun _ => Or.inl rfl, fun _ => rfl⟩
  | n + 1, h => by
    have hN : n < (cfgA (F := F) P).N := (N_0.symm ▸ (by omega : n < 160) : n < grid0.N)
    rw [Pipeline.Cfg.fresh_succ _ 5 n hN, Bool.or_eq_true, Bool.and_eq_true, flush5, fresh5 n (by omega)]
    rw [show (cfgA (F := F) P).idle 5 ((cfgA (F := F) P).grid.coords ⟨n, hN⟩) = true ↔ _ from idle5 P ⟨n, hN⟩]
    unfold Opens
    rw [Nat.add_sub_cancel]
    constructor
    · rintro ((h1 | h1) | h1)
      · exact absurd h1 (by simp only; omega)
      · exact Or.inr h1.2
      · exact absurd h1.2 h1.1.1
    · rintro (h1 | h1)
      · omega
      · exact Or.inl (Or.inr ⟨h, h1⟩)

/-- A point without rows leaves the block as it was. -/
theorem aft_carry (A : Arrs F) (s : ℕ) (hs : s < 160) (h1 : ¬ Opens P s) (h2 : ¬ P.cut s < P.nxt s) : aft P A s = aft P A (s - 1) := by
  unfold Opens at h1
  have h0 : s ≠ 0 := fun h => h1 (Or.inl h)
  have hb : P.blk s = P.blk (s - 1) := by by_contra h; exact h1 (Or.inr h)
  funext y
  have hy : (y 0).val < 512 := (y 0).isLt
  have hl := P.blk_le (s - 1)
  have hn : P.nxt (s - 1) = P.cut s := by
    unfold Plan.nxt
    rw [if_neg (by omega), Nat.sub_add_cancel (by omega)]
  unfold aft
  rw [hb, hn]
  have key : (P.blk (s - 1) * 512 + (y 0).val < P.nxt s) ↔ (P.blk (s - 1) * 512 + (y 0).val < P.cut s) := by
    by_cases h9 : s = 159
    · have : P.nxt s = 66048 := by unfold Plan.nxt; rw [if_pos h9]
      omega
    · have e : P.nxt s = P.cut (s + 1) := by unfold Plan.nxt; rw [if_neg h9]
      have := P.cut_mono s (s + 1) (by omega) (by omega)
      omega
  rw [if_congr key rfl rfl]

theorem before5 (V : (b : Ref sig .tc) → b.ty.Contents (Elt F)) (c : Dev nD) (t : Fin (cfgA (F := F) P).N) (h : ¬ Opens P t.val) (d) :
    (dat P V c).before 5 t d = aft P (arrs V) (t.val - 1) := by
  have ht : t.val < 160 := N_0 ▸ t.isLt
  rw [Dat.before_out_traj (dat P V c) 5 rfl (fun _ _ => rfl) (fun t _ hi _ => aft_carry P (arrs V) t.val (N_0 ▸ t.isLt) ((idle5 P t).mp hi).1 ((idle5 P t).mp hi).2) t.val t rfl d,
    if_neg (fun hf => h ((fresh5 P t.val ht).mp hf))]
  rfl

end Cert.KernelIdeal.Moe
-- ==== Proof.MoeI.Oblig.lean ====
module

public import proofs.«01_k».proof.Proof.MoeI.Pipe

/-!
The pipeline's obligation at every grid point: the body's triple applied at the tables of a plan, its post restated as the proof data's.
-/

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (P : Plan)

/-- Owning a whole buffer at `X` is holding it at `X`. -/
theorem owns_whole_pt (c : Dev nD) (b : Ref sig .tc) (X : b.ty.Contents (Elt F)) :
    (owns (c : Thread nD τ) (Memref.whole b) fullShare X : sProp 𝕄) = (((c : Thread nD τ).loc b) ↦{fullShare} X) := by
  rw [owns_whole_eq]
  refine Entails.antisymm (show iprop(∃ f : Buf (Elt F) ((c : Thread nD τ).loc b), ⌜f = X⌝ ∗ (((c : Thread nD τ).loc b) ↦{fullShare} f)) ⊢ (((c : Thread nD τ).loc b) ↦{fullShare} X : sProp 𝕄) from ?_)
    (show (((c : Thread nD τ).loc b) ↦{fullShare} X : sProp 𝕄) ⊢ iprop(∃ f : Buf (Elt F) ((c : Thread nD τ).loc b), ⌜f = X⌝ ∗ (((c : Thread nD τ).loc b) ↦{fullShare} f)) from ?_)
  · iintro ⟨%f, %hf, H⟩
    subst hf
    iexact H
  · iintro H
    iexists X
    isplitr
    · ipureintro; rfl
    · iexact H

/-- The tables held, one by one. -/
theorem prefHeld_eq (c : Dev nD) : (Pipeline.prefHeld pre0 c (fun _ => fullShare) (tabs (F := F) P) : sProp 𝕄)
    = iprop(owns (c : Thread nD τ) (Memref.whole main_v12) fullShare (tBlk (F := F) P) ∗ owns (c : Thread nD τ) (Memref.whole main_v21) fullShare (tEx (F := F) P)
      ∗ owns (c : Thread nD τ) (Memref.whole main_v24) fullShare (tLo (F := F) P) ∗ owns (c : Thread nD τ) (Memref.whole main_v27) fullShare (tHi (F := F) P)) := by
  unfold Pipeline.prefHeld
  rw [bigSep_univ_eq_bigSepL [(0 : Fin 4), (1 : Fin 4), (2 : Fin 4), (3 : Fin 4)] (by decide) (by decide)]
  rw [owns_whole_pt, owns_whole_pt, owns_whole_pt, owns_whole_pt]
  rfl

/-- The row of the body table, at the pipeline's arguments. -/
theorem defs₀_row (t : Fin grid0.N) (s : (w : Fin 6) → Fin ((spec0 w).nbuf)) : (defs₀ (F := F) .tc (0 : Fin 1) (t, s))
    = cc0_moe_grouped_ffn (grid0.coords t) (Memref.whole main_v12) (Memref.isWhole_whole _) (Memref.whole main_v21) (Memref.isWhole_whole _) (Memref.whole main_v24) (Memref.isWhole_whole _) (Memref.whole main_v27) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole cc0_scratch0) (Memref.isWhole_whole _) (Memref.whole cc0_scratch1) (Memref.isWhole_whole _) (Memref.whole cc0_scratch2) (Memref.isWhole_whole _) := by
  unfold defs₀; rw [Defs.onTc_tc]

/-- The output window's part of the post, whichever way the schedule goes: the block after the point. -/
theorem post5 (V : (b : Ref sig .tc) → b.ty.Contents (Elt F)) (c : Dev nD) (t : Fin (cfgA (F := F) P).N) :
    (owns (c : Thread nD τ) (((cfgA (F := F) P).win 5).stage ((cfgA (F := F) P).slots t 5)) fullShare (aft P (arrs V) t.val) : sProp 𝕄)
    ⊢ (match (cfgA (F := F) P).idle 5 ((cfgA (F := F) P).grid.coords t) with
      | true => match ((cfgA (F := F) P).win 5).flush t with
        | false => iprop(∃ d, owns (c : Thread nD τ) (((cfgA (F := F) P).win 5).stage ((cfgA (F := F) P).slots t 5)) fullShare ((dat P V c).before 5 t d))
        | true => owns (c : Thread nD τ) (((cfgA (F := F) P).win 5).stage ((cfgA (F := F) P).slots t 5)) fullShare ((dat P V c).after 5 t)
      | false => owns (c : Thread nD τ) (((cfgA (F := F) P).win 5).stage ((cfgA (F := F) P).slots t 5)) fullShare ((dat P V c).after 5 t)) := by
  rcases hi : (cfgA (F := F) P).idle 5 ((cfgA (F := F) P).grid.coords t) with _ | _
  · exact .rfl
  · rcases hf : ((cfgA (F := F) P).win 5).flush t with _ | _
    · have h := (idle5 P t).mp hi
      have e : aft P (arrs V) t.val = (dat P V c).before 5 t (aft P (arrs V) t.val) :=
        (aft_carry P (arrs V) t.val (N_0 ▸ t.isLt) h.1 h.2).trans (before5 P V c t h.1 _).symm
      iintro H
      iexists (aft P (arrs V) t.val)
      ihave H' := (Entails.of_eq (congrArg (owns (c : Thread nD τ) (((cfgA (F := F) P).win 5).stage ((cfgA (F := F) P).slots t 5)) fullShare) e)) $$ H
      iexact H'
    · exact .rfl

set_option maxHeartbeats 1600000 in
theorem body_obligation (V : (b : Ref sig .tc) → b.ty.Contents (Elt F)) (c : Dev nD) : BodyObligation (dat P V c) (defs₀ (F := F)) Variants.none () Set.univ := fun t => by
  have ht : t.val < 160 := N_0 ▸ t.isLt
  have hc : ((grid0.coords t) 0).val = t.val := coord t
  rw [bigSep_W0, bigSep_W0]
  refine (show iprop((Pipeline.prefHeld pre0 c (fun _ => fullShare) (tabs (F := F) P) ∗ scr (arrs V) c t.val) ∗ (dat P V c).owesAt () t.castSucc ∗ (∃ d, owns (c : Thread nD τ) (((cfgA (F := F) P).win 0).stage ((cfgA (F := F) P).slots t 0)) fullShare ((dat P V c).before 0 t d)) ∗ (∃ d, owns (c : Thread nD τ) (((cfgA (F := F) P).win 1).stage ((cfgA (F := F) P).slots t 1)) fullShare ((dat P V c).before 1 t d)) ∗ (∃ d, owns (c : Thread nD τ) (((cfgA (F := F) P).win 2).stage ((cfgA (F := F) P).slots t 2)) fullShare ((dat P V c).before 2 t d)) ∗ (∃ d, owns (c : Thread nD τ) (((cfgA (F := F) P).win 3).stage ((cfgA (F := F) P).slots t 3)) fullShare ((dat P V c).before 3 t d)) ∗ (∃ d, owns (c : Thread nD τ) (((cfgA (F := F) P).win 4).stage ((cfgA (F := F) P).slots t 4)) fullShare ((dat P V c).before 4 t d)) ∗ (∃ d, owns (c : Thread nD τ) (((cfgA (F := F) P).win 5).stage ((cfgA (F := F) P).slots t 5)) fullShare ((dat P V c).before 5 t d)))
    ⊢ wp frame (wpE (defs₀ (F := F)) Variants.none c none) Set.univ (cc0_moe_grouped_ffn (grid0.coords t) (Memref.whole main_v12) (Memref.isWhole_whole _) (Memref.whole main_v21) (Memref.isWhole_whole _) (Memref.whole main_v24) (Memref.isWhole_whole _) (Memref.whole main_v27) (Memref.isWhole_whole _) (((cfgA (F := F) P).win 0).stage ((cfgA (F := F) P).slots t 0)) (hstage0_0 (((cfgA (F := F) P).slots t 0).cast nbuf0_0)) (((cfgA (F := F) P).win 1).stage ((cfgA (F := F) P).slots t 1)) (hstage0_1 (((cfgA (F := F) P).slots t 1).cast nbuf0_1)) (((cfgA (F := F) P).win 2).stage ((cfgA (F := F) P).slots t 2)) (hstage0_2 (((cfgA (F := F) P).slots t 2).cast nbuf0_2)) (((cfgA (F := F) P).win 3).stage ((cfgA (F := F) P).slots t 3)) (hstage0_3 (((cfgA (F := F) P).slots t 3).cast nbuf0_3)) (((cfgA (F := F) P).win 4).stage ((cfgA (F := F) P).slots t 4)) (hstage0_4 (((cfgA (F := F) P).slots t 4).cast nbuf0_4)) (((cfgA (F := F) P).win 5).stage ((cfgA (F := F) P).slots t 5)) (hstage0_5 (((cfgA (F := F) P).slots t 5).cast nbuf0_5)) (Memref.whole cc0_scratch0) (Memref.isWhole_whole _) (Memref.whole cc0_scratch1) (Memref.isWhole_whole _) (Memref.whole cc0_scratch2) (Memref.isWhole_whole _)) (fun _ => iprop((Pipeline.prefHeld pre0 c (fun _ => fullShare) (tabs (F := F) P) ∗ scr (arrs V) c (t.val + 1)) ∗ (dat P V c).owesAt () t.succ ∗ owns (c : Thread nD τ) (((cfgA (F := F) P).win 0).stage ((cfgA (F := F) P).slots t 0)) fullShare (xBlk (arrs V).x (P.blk t.val)) ∗ owns (c : Thread nD τ) (((cfgA (F := F) P).win 1).stage ((cfgA (F := F) P).slots t 1)) fullShare (guBlk (arrs V).gu (P.ex t.val)) ∗ owns (c : Thread nD τ) (((cfgA (F := F) P).win 2).stage ((cfgA (F := F) P).slots t 2)) fullShare (bguBlk (arrs V).bgu (P.ex t.val)) ∗ owns (c : Thread nD τ) (((cfgA (F := F) P).win 3).stage ((cfgA (F := F) P).slots t 3)) fullShare (dnBlk (arrs V).dn (P.ex t.val)) ∗ owns (c : Thread nD τ) (((cfgA (F := F) P).win 4).stage ((cfgA (F := F) P).slots t 4)) fullShare (bdnBlk (arrs V).bdn (P.ex t.val)) ∗ (match (cfgA (F := F) P).idle 5 ((cfgA (F := F) P).grid.coords t) with
      | true => match ((cfgA (F := F) P).win 5).flush t with
        | false => iprop(∃ d, owns (c : Thread nD τ) (((cfgA (F := F) P).win 5).stage ((cfgA (F := F) P).slots t 5)) fullShare ((dat P V c).before 5 t d))
        | true => owns (c : Thread nD τ) (((cfgA (F := F) P).win 5).stage ((cfgA (F := F) P).slots t 5)) fullShare ((dat P V c).after 5 t)
      | false => owns (c : Thread nD τ) (((cfgA (F := F) P).win 5).stage ((cfgA (F := F) P).slots t 5)) fullShare ((dat P V c).after 5 t)))) from ?_)
  rw [prefHeld_eq]
  unfold scr
  iintro ⟨⟨⟨T1, T2, T3, T4⟩, ⟨%x11, %x12, %x13, %hH, S0, S1, S2⟩⟩, HO, ⟨%d0, H0⟩, ⟨%d1, H1⟩, ⟨%d2, H2⟩, ⟨%d3, H3⟩, ⟨%d4, H4⟩, ⟨%d5, H5⟩⟩
  rw [before0, before1, before2, before3, before4]
  have hs := held_step P (arrs V) (grid0.coords t) t.val hc x11 x12 x13 hH
  have ho := out_step P (arrs V) (grid0.coords t) t.val hc ((dat P V c).before 5 t d5) x11 x12 x13 hH (fun h => before5 P V c t h d5)
  iapply (body_run c (grid0.coords t) _ _ _ _ _ _ _ _ _ _ _ _ _ _ _ _ _ _ _ _ _ _ _ _ _ _ (tBlk P) (tEx P) (tLo P) (tHi P) _ _ _ _ _ _ x11 x12 x13
    (wBlk P t.val) (wBlk P (t.val - 1)) (wLo P t.val) (wHi P t.val) (wEx P t.val) (congrArg (wBlk P) hc) (congrArg (fun n => wBlk P (n - 1)) hc) (congrArg (wEx P) hc) (congrArg (wLo P) hc) (congrArg (wHi P) hc))
  isplitl [T1]; · iexact T1
  isplitl [T2]; · iexact T2
  isplitl [T3]; · iexact T3
  isplitl [T4]; · iexact T4
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  rw [ho]
  iintro ⟨T1, T2, T3, T4, H0, H1, H2, H3, H4, H5, S0, S1, S2⟩
  isplitl [T1 T2 T3 T4 S0 S1 S2]
  · isplitl [T1 T2 T3 T4]
    · isplitl [T1]; · iexact T1
      isplitl [T2]; · iexact T2
      isplitl [T3]; · iexact T3
      iexact T4
    iexists _, _, _
    isplitr; swap
    · isplitl [S0]; · iexact S0
      isplitl [S1]; · iexact S1
      iexact S2
    ipureintro; exact fun _ => hs
  isplitl [HO]
  · iexact HO
  isplitl [H0]; · iexact H0
  isplitl [H1]; · iexact H1
  isplitl [H2]; · iexact H2
  isplitl [H3]; · iexact H3
  isplitl [H4]; · iexact H4
  iapply (post5 P V c t)
  iexact H5

end Cert.KernelIdeal.Moe
-- ==== Proof.MoeI.Run.lean ====
module

public import proofs.«01_k».proof.Proof.MoeI.Oblig
public import Idealize.ShloMosaic.Lib.StableHlo.RunRead

/-!
The run of the whole program: six stretches of host operations and the region. The region is entered with the tables of a plan (a
hypothesis here), and the run ends with the arguments unchanged, the result array at what the pipeline writes back and every counter at zero.
-/

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-! ## The host operations -/

/-- The buffers after each stretch of host operations. -/
def V0 (c : Dev nD) : Valuation τ sig (Elt F) := fun b => (s₀ m ρ).mem ((c : Dev nD), b)
def V1 (c : Dev nD) : Valuation τ sig (Elt F) := StableHlo.after hostOps0 (V0 m ρ c)
def V2 (c : Dev nD) : Valuation τ sig (Elt F) := StableHlo.after hostOps0_1 (V1 m ρ c)
def V3 (c : Dev nD) : Valuation τ sig (Elt F) := StableHlo.after hostOps0_2 (V2 m ρ c)
def V4 (c : Dev nD) : Valuation τ sig (Elt F) := StableHlo.after hostOps0_3 (V3 m ρ c)
def V5 (c : Dev nD) : Valuation τ sig (Elt F) := StableHlo.after hostOps0_4 (V4 m ρ c)
def V6 (c : Dev nD) : Valuation τ sig (Elt F) := StableHlo.after hostOps0_5 (V5 m ρ c)

/-- What the region finds in a buffer. -/
def V (c : Dev nD) (b : Ref sig .tc) : Buf (Elt F) ((c : Thread nD τ).loc b) := V6 m ρ c b

def W0 : List (Ref sig .tc) := [main_call0_call0_c, main_call0_call0_v0, main_v0]
def W1 : List (Ref sig .tc) := [main_v1, main_c, main_v2, main_v3, main_v4, main_v5]
def W2 : List (Ref sig .tc) := [main_v6]
def W3 : List (Ref sig .tc) := [main_v7, main_c_0, main_v8, main_v9, main_c_1]
def W4 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v10]
def W5 : List (Ref sig .tc) := [main_c_2, main_v11, main_v12, main_v13, main_v14, main_v15, main_v16, main_v17, main_v18, main_c_3, main_v19, main_c_4, main_v20, main_v21, main_c_5, main_v22, main_v23, main_v24, main_c_6, main_v25, main_v26, main_v27, main_v28, main_v29]

/-- A buffer that no host operation writes reaches the region as launched. -/
theorem V_of_unwritten (c : Dev nD) (b : Ref sig .tc) (h : b ∉ W0 ∧ b ∉ W1 ∧ b ∉ W2 ∧ b ∉ W3 ∧ b ∉ W4 ∧ b ∉ W5) : V m ρ c b = m ((c : Thread nD τ).loc b) := by
  obtain ⟨h0, h1, h2, h3, h4, h5⟩ := h
  have e0 : V1 m ρ c b = V0 m ρ c b := StableHlo.after_unwritten (ops := hostOps0) W0 rfl h0 _
  have e1 : V2 m ρ c b = V1 m ρ c b := StableHlo.after_unwritten (ops := hostOps0_1) W1 rfl h1 _
  have e2 : V3 m ρ c b = V2 m ρ c b := StableHlo.after_unwritten (ops := hostOps0_2) W2 rfl h2 _
  have e3 : V4 m ρ c b = V3 m ρ c b := StableHlo.after_unwritten (ops := hostOps0_3) W3 rfl h3 _
  have e4 : V5 m ρ c b = V4 m ρ c b := StableHlo.after_unwritten (ops := hostOps0_4) W4 rfl h4 _
  have e5 : V6 m ρ c b = V5 m ρ c b := StableHlo.after_unwritten (ops := hostOps0_5) W5 rfl h5 _
  show V6 m ρ c b = V0 m ρ c b
  rw [e5, e4, e3, e2, e1, e0]

/-- The buffers the host operations run within: the unscoped ones. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The region -/

variable (P : Plan)

/-- The tables, as the launch takes them. -/
abbrev admF : (p : Fin 1) → (pcfgs (F := F) p).Adm := fun _ => adm P

/-- The pipeline's proof data at the contents the region finds. -/
def dats (p : Fin 1) (c : Dev nD) : Dat τ (Elt F) Unit ℕ (UR sig nD τ) ℕ (Pipeline.pin (pcfgs (F := F)) (admF P) p) c := dat P (V m ρ c) c

theorem A_eq (c : Dev nD) (w : Fin 6) : (dats m ρ P 0 c).A w = V m ρ c (Pipeline.arrRef spec0 w) := by
  dsimp only [dats, dat]

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

def hseg0 : Pipeline.HostSeg (Name := ℕ) (U := UR sig nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V0 m ρ) R
def hseg1 : Pipeline.HostSeg (Name := ℕ) (U := UR sig nD τ) (pcfgs (F := F)) defs₀ Variants.none L lv :=
  Pipeline.HostSeg.ofOps _ _ _ _ _ ucRefs hostOps0_1 (fun op h => sub_ucRefs op ((List.forall_iff_forall_mem.mp hostOps0_1_sub) op h))
    (by intro _ h; (repeat (cases h with | head => rfl | tail _ h => ?_)); exact nomatch h) (V1 m ρ) R
def hseg2 : Pipeline.HostSeg (Name := ℕ) (U := UR sig nD τ) (pcfgs (F := F)) defs₀ Variants.none L lv :=
  Pipeline.HostSeg.ofOps _ _ _ _ _ ucRefs hostOps0_2 (fun op h => sub_ucRefs op ((List.forall_iff_forall_mem.mp hostOps0_2_sub) op h))
    (by intro _ h; (repeat (cases h with | head => rfl | tail _ h => ?_)); exact nomatch h) (V2 m ρ) R
def hseg3 : Pipeline.HostSeg (Name := ℕ) (U := UR sig nD τ) (pcfgs (F := F)) defs₀ Variants.none L lv :=
  Pipeline.HostSeg.ofOps _ _ _ _ _ ucRefs hostOps0_3 (fun op h => sub_ucRefs op ((List.forall_iff_forall_mem.mp hostOps0_3_sub) op h))
    (by intro _ h; (repeat (cases h with | head => rfl | tail _ h => ?_)); exact nomatch h) (V3 m ρ) R
def hseg4 : Pipeline.HostSeg (Name := ℕ) (U := UR sig nD τ) (pcfgs (F := F)) defs₀ Variants.none L lv :=
  Pipeline.HostSeg.ofOps _ _ _ _ _ ucRefs hostOps0_4 (fun op h => sub_ucRefs op ((List.forall_iff_forall_mem.mp hostOps0_4_sub) op h))
    (by intro _ h; (repeat (cases h with | head => rfl | tail _ h => ?_)); exact nomatch h) (V4 m ρ) R
def hseg5 : Pipeline.HostSeg (Name := ℕ) (U := UR sig nD τ) (pcfgs (F := F)) defs₀ Variants.none L lv :=
  Pipeline.HostSeg.ofOps _ _ _ _ _ ucRefs hostOps0_5 (fun op h => sub_ucRefs op ((List.forall_iff_forall_mem.mp hostOps0_5_sub) op h))
    (by intro _ h; (repeat (cases h with | head => rfl | tail _ h => ?_)); exact nomatch h) (V5 m ρ) R

/-- The arguments that are no window's array, held. -/
def restHeld (c : Dev nD) : sProp 𝕄 :=
  iprop((((c : Thread nD τ).loc main_arg0) ↦{fullShare} V m ρ c main_arg0) ∗ (((c : Thread nD τ).loc main_arg3) ↦{fullShare} V m ρ c main_arg3)
    ∗ (((c : Thread nD τ).loc main_arg5) ↦{fullShare} V m ρ c main_arg5))

theorem restHeld_of (c : Dev nD) : (Pipeline.unscopedRestP pre0 spec0 c (V m ρ c) : sProp 𝕄) ⊢ restHeld m ρ c := by
  classical
  have hsub : ({main_arg0, main_arg3, main_arg5} : Finset (Ref sig .tc)) ⊆ ((Finset.univ.filter fun b : Ref sig .tc => ¬ b.isScoped) \ Finset.univ.image (Pipeline.arrRef spec0)) \ Finset.univ.image pre0.ref := by
    intro b hb
    rw [Finset.mem_sdiff, Finset.mem_sdiff, Finset.mem_filter]
    simp only [Finset.mem_insert, Finset.mem_singleton] at hb
    rcases hb with rfl | rfl | rfl
    · exact ⟨⟨⟨Finset.mem_univ _, by decide⟩, by decide⟩, by decide⟩
    · exact ⟨⟨⟨Finset.mem_univ _, by decide⟩, by decide⟩, by decide⟩
    · exact ⟨⟨⟨Finset.mem_univ _, by decide⟩, by decide⟩, by decide⟩
  unfold Pipeline.unscopedRestP restHeld
  refine (bigSep_subset hsub).trans ?_
  rw [show ({main_arg0, main_arg3, main_arg5} : Finset (Ref sig .tc)) = insert main_arg0 (insert main_arg3 {main_arg5}) from rfl, BI.bigSep_insert (by decide), BI.bigSep_insert (by decide), BI.bigSep_singleton]
  exact Entails.of_eq (rfl : restHeld m ρ c = restHeld m ρ c)

/-- What the region leaves. -/
def Tₙ (c : Dev nD) : sProp 𝕄 :=
  iprop((dats m ρ P 0 c).arrays ((dats m ρ P 0 c).arrAt · grid0.N) ∗ restHeld m ρ c)

set_option backward.isDefEq.respectTransparency.types false in
/-- The region: entered with the buffers as the host operations leave them, left with the arrays at what the pipeline writes. -/
def reg0 (hT : ∀ c k, V m ρ c (pre0.ref k) = tabs (F := F) P k) : Pipeline.RegionSeg (pcfgs (F := F)) (admF P) (dats m ρ P) () defs₀ Variants.none L lv 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation P (V m ρ c) c).loose
  hwaits := Pipeline.hwaits_of_owed_zero _ _ _ _ L lv 0 fun _ _ => rfl
  pre c := iprop(StableHlo.held (c : Thread nD τ) ucRefs (V6 m ρ c) ∗ R c)
  post c := iprop(Tₙ m ρ P c ∗ R c)
  X c := iprop(emp)
  Y c := iprop(emp)
  Z c := restHeld m ρ c
  hentry c := by
    have hu : StableHlo.held (c : Thread nD τ) ucRefs (V6 m ρ c) = (unscopedBufs c (V m ρ c) : sProp 𝕄) := (unscopedBufs_held c _).symm
    rw [hu]
    have hp : (Pipeline.prefHeld pre0 c (fun _ => fullShare) (fun k => V m ρ c (pre0.ref k)) : sProp 𝕄) ⊢ Pipeline.prefHeld pre0 c (fun _ => fullShare) (tabs (F := F) P) :=
      Entails.of_eq (congrArg (fun f => (Pipeline.prefHeld pre0 c (fun _ => fullShare) f : sProp 𝕄)) (funext (hT c)))
    have hsplit := (Pipeline.arrays_of_unscopedBufs (pcfgs (F := F)) (admF P) (dats m ρ P) winFacts0 arr_whole0 c
      ((dats m ρ P 0 c).share_full fun _ => rfl) (V m ρ c) (A_eq m ρ P c)).trans (BIClass.sep_mono (Entails.of_eq rfl) ((Entails.of_eq (Pipeline.unscopedRest_split preFacts0 c (V m ρ c))).trans (BIClass.sep_mono hp (restHeld_of m ρ c))))
    iintro ⟨⟨Hub, HO⟩, -, -⟩
    ihave H := hsplit $$ Hub
    icases H with ⟨Ha, Hp, Hr⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m ρ P 0 c).Φ 0 = iprop(Pipeline.prefHeld pre0 c (fun _ => fullShare) (tabs (F := F) P) ∗ scr (arrs (V m ρ c)) c 0) from rfl]
    unfold scr
    iintro ⟨-, Hp, Hr⟩
    isplitl [Hp]; · iexact Hp
    ihave Hs := (Entails.of_eq (scopedRest0_eq c)) $$ Hr
    icases Hs with ⟨⟨%f0, H0⟩, ⟨%f1, H1⟩, ⟨%f2, H2⟩⟩
    iexists f0, f1, f2
    isplitr; · ipureintro; exact fun h => absurd rfl h
    ihave H0' := (Entails.of_eq (owns_whole_pt c cc0_scratch0 f0).symm) $$ H0
    ihave H1' := (Entails.of_eq (owns_whole_pt c cc0_scratch1 f1).symm) $$ H1
    ihave H2' := (Entails.of_eq (owns_whole_pt c cc0_scratch2 f2).symm) $$ H2
    isplitl [H0']; · iexact H0'
    isplitl [H1']; · iexact H1'
    iexact H2'
  hout c := by
    rw [show (dats m ρ P 0 c).Φ (Fin.last (cfgA (F := F) P).N) = iprop(Pipeline.prefHeld pre0 c (fun _ => fullShare) (tabs (F := F) P) ∗ scr (arrs (V m ρ c)) c grid0.N) from rfl]
    unfold scr
    iintro ⟨-, ⟨%f0, %f1, %f2, -, H0, H1, H2⟩⟩
    isplitr; · iempintro
    isplitr; · unfold Pipeline.ownSems0; rw [show (Finset.univ : Finset PEmpty) = ∅ from rfl, BI.bigSep_empty]; iempintro
    ihave H0' := (Entails.of_eq (owns_whole_pt c cc0_scratch0 f0)) $$ H0
    ihave H1' := (Entails.of_eq (owns_whole_pt c cc0_scratch1 f1)) $$ H1
    ihave H2' := (Entails.of_eq (owns_whole_pt c cc0_scratch2 f2)) $$ H2
    iapply (Entails.of_eq (scopedRest0_eq c).symm)
    isplitl [H0']; · iexists f0; iexact H0'
    isplitl [H1']; · iexists f1; iexact H1'
    iexists f2; iexact H2'
  hexit c := by
    unfold Tₙ
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-! ## The run -/

def segs (hT : ∀ c k, V m ρ c (pre0.ref k) = tabs (F := F) P k) : List (Pipeline.Seg (pcfgs (F := F)) (admF P) (dats m ρ P) () defs₀ Variants.none L lv) :=
  [.host (hseg0 m ρ), .host (hseg1 m ρ), .host (hseg2 m ρ), .host (hseg3 m ρ), .host (hseg4 m ρ), .host (hseg5 m ρ), .region (reg0 m ρ P hT)]

theorem main_wp (hT : ∀ c k, V m ρ c (pre0.ref k) = tabs (F := F) P k) (c : Dev nD) (Q : PUnit → sProp 𝕄) :
    wp frame (wpE defs Variants.none.lift (c.tc : Thread nD τ) none) Set.univ (Pipeline.Seg.run (segs m ρ P hT)) Q
      ⊢ wp frame (wpE defs Variants.none.lift (c.tc : Thread nD τ) none) Set.univ (main (F := F) c) Q := by
  rw [main_chain c, Pipeline.Seg.run_eq_chain]
  simp only [segs, List.map, Pipeline.Seg.prog, hseg0, hseg1, hseg2, hseg3, hseg4, hseg5, Pipeline.HostSeg.ofOps]
  exact .rfl

set_option backward.isDefEq.respectTransparency.types false in
/-- The run: it ends, with each window's array as the pipeline leaves it, the other arguments as launched, and every counter at zero. -/
theorem run_main (hT : ∀ c k, V m ρ c (pre0.ref k) = tabs (F := F) P k) :
    θ_run defs (onTc (τ := τ) (main (F := F))) (s₀ m ρ) (fun r => (∀ c : Dev nD,
      (∀ w : Fin 6, r.2.mem (((spec0 w).arr.view.loc (c : Thread nD τ))) = (dats m ρ P 0 c).arrAt w grid0.N)
      ∧ r.2.mem ((c : Thread nD τ).loc main_arg0) = m ((c : Thread nD τ).loc main_arg0)
      ∧ r.2.mem ((c : Thread nD τ).loc main_arg3) = m ((c : Thread nD τ).loc main_arg3)
      ∧ r.2.mem ((c : Thread nD τ).loc main_arg5) = m ((c : Thread nD τ).loc main_arg5)) ∧ r.2.sem = fun _ => 0) :=
  Pipeline.θ_run_regions_kit_sems (pcfgs (F := F)) (admF P) (dats m ρ P) () (cellOf_inj (admF P)) EP defs₀ Variants.none L lv m ρ main (segs m ρ P hT)
    (fun c Q => main_wp m ρ P hT c Q)
    (by simp only [segs, Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) (admF P)) (cellOf_inj (admF P))) (Pipeline.launchToks (Pipeline.pin (pcfgs (F := F)) (admF P)) (cellOf_inj (admF P))))
    (hu₀ := by
      iintro Hu
      ihave HP := (Entails.of_eq (ownU_emb₁ _)) $$ Hu
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V0 m ρ c) ∗ R c)) (Tₙ := Tₙ m ρ P)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V0 m ρ c) from unscopedBufs_held c (V0 m ρ c)]
      iintro ⟨⟨Hh, -, HO, -, -, -⟩, -⟩
      imodintro
      isplitl [Hh]; · iexact Hh
      iexists ∅; iexact HO)
    (QY := fun c s => (∀ w : Fin 6, s.mem (((spec0 w).arr.view.loc (c : Thread nD τ))) = (dats m ρ P 0 c).arrAt w grid0.N)
      ∧ s.mem ((c : Thread nD τ).loc main_arg0) = m ((c : Thread nD τ).loc main_arg0)
      ∧ s.mem ((c : Thread nD τ).loc main_arg3) = m ((c : Thread nD τ).loc main_arg3)
      ∧ s.mem ((c : Thread nD τ).loc main_arg5) = m ((c : Thread nD τ).loc main_arg5))
    (hfin := fun c s' => by
      unfold Tₙ restHeld
      rw [V_of_unwritten m ρ c main_arg0 (by decide), V_of_unwritten m ρ c main_arg3 (by decide), V_of_unwritten m ρ c main_arg5 (by decide)]
      iintro ⟨⟨Ha, H0, H3, H5⟩, HSI⟩
      icombine HSI H0 gives %h0
      icombine HSI H3 gives %h3
      icombine HSI H5 gives %h5
      ihave Hr := (Pipeline.arrays_read (pcfgs (F := F)) (admF P) (dats m ρ P) arr_whole0 c ((dats m ρ P 0 c).share_full fun _ => rfl) _ s') $$ [Ha HSI]
      · isplitl [Ha] <;> iassumption
      icases Hr with ⟨%ha, HSI⟩
      imodintro
      isplitr; · ipureintro; exact ⟨ha, Buf.eq_of_forall_mem_univ h0, Buf.eq_of_forall_mem_univ h3, Buf.eq_of_forall_mem_univ h5⟩
      iexact HSI)
    (hQ := fun _ h hz => ⟨h, funext fun g => hz g (.inr (by revert g; decide))⟩)

end Cert.KernelIdeal.Moe
-- ==== Proof.MoeI.Tables.lean ====
module

public import proofs.«01_k».proof.Proof.MoeI.Run
public import proofs.«01_k».proof.Proof.Moe.Words

/-!
What the host operations leave: the region finds the tables of the plan that the counts make, and the biases with an axis of extent one put in.
-/

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.ShloMosaic.Routing

variable {F : FTy → Type} [FloatOps F]
variable (m : (ℓ : Loc nD τ sig) → Buf (Elt F) ℓ) (ρ : Dev nD → PrngReg) (c : Dev nD)

/-- The counts the run is launched on. -/
def counts : IVec (shape1 32) 32 := m ((c : Thread nD τ).loc main_arg0)

/-! ## Each stretch, over any contents before it -/

section Stretches
variable (W : Valuation τ sig (Elt F))

theorem after0 : StableHlo.after hostOps0 W main_v0 = Host.reduceWindow IntOp.addi ![32] ![1] ![31] ![0] (W main_arg0) (broadcastInDim S_ ![] bcast_S_S_ (constantI S_ 32 0#32)) reduceWindows_S32_S32_w32s1p31_0 h_S_ := by
  after_reads_simp
  simp -implicitDefEqProofs only [StableHlo.TRef.toBuf, StableHlo.TRef.ofBuf, cast_eq]

theorem after1 : StableHlo.after hostOps0_1 W main_v5 = concatenate S160 0 [⟨S129, muli (iotaInDim S129 32 0) (broadcastInDim S129 ![] bcast_S_S129 (constantI S_ 32 512#32))⟩,
    ⟨S31, extractStridedSlice S31 ![0] (W main_v0) slices_S32_S31_0⟩] concatenates_S129_S31_S160_d0 := by
  have h3 : StableHlo.upto hostOps0_1 W 5 main_v3 = muli (iotaInDim S129 32 0) (broadcastInDim S129 ![] bcast_S_S129 (constantI S_ 32 512#32)) := by after_reads_simp
  have h4 : StableHlo.upto hostOps0_1 W 5 main_v4 = extractStridedSlice S31 ![0] (W main_v0) slices_S32_S31_0 := by after_reads_simp
  after_reads_simp
  exact congrArg₂ (fun a b => concatenate S160 0 [⟨S129, a⟩, ⟨S31, b⟩] concatenates_S129_S31_S160_d0) h3 h4

theorem after2 : StableHlo.after hostOps0_2 W main_v6 = Host.sort S160 0 comparator_i32_d0 (W main_v5) := by
  after_reads_simp
  rfl

theorem after3 : StableHlo.after hostOps0_3 W main_v9 = concatenate S160 0 [⟨S159, extractStridedSlice S159 ![1] (W main_v6) slices_S160_S159_1⟩,
    ⟨S1, broadcastInDim S1 ![] bcast_S_S1 (constantI S_ 32 66048#32)⟩] concatenates_S159_S1_S160_d0 := by
  have h7 : StableHlo.upto hostOps0_3 W 3 main_v7 = extractStridedSlice S159 ![1] (W main_v6) slices_S160_S159_1 := by after_reads_simp
  have h8 : StableHlo.upto hostOps0_3 W 3 main_v8 = broadcastInDim S1 ![] bcast_S_S1 (constantI S_ 32 66048#32) := by after_reads_simp
  after_reads_simp
  exact congrArg₂ (fun a b => concatenate S160 0 [⟨S159, a⟩, ⟨S1, b⟩] concatenates_S159_S1_S160_d0) h7 h8

theorem after3_c : StableHlo.after hostOps0_3 W main_c_1 = constantI S_ 32 512#32 := by
  after_reads_simp

theorem after4 : StableHlo.after hostOps0_4 W main_v10 = pyDiv bcast_S_S160 (W main_v6) (W main_c_1) := by
  after_reads_simp
  rfl

theorem after5_v12 : StableHlo.after hostOps0_5 W main_v12 = minsi (W main_v10) (broadcastInDim S160 ![] bcast_S_S160 (constantI S_ 32 128#32)) := by
  after_reads_simp

theorem after5_v21 : StableHlo.after hostOps0_5 W main_v21 = minsi (Host.reduce IntOp.addi (extui 32 (cmpi .sle
      (broadcastInDim S160x32 ![0, 1] bcast_S1x32_S160x32_0_1 (broadcastInDim S1x32 ![1] bcast_S32_S1x32_1 (W main_v0)))
      (broadcastInDim S160x32 ![0, 1] bcast_S160x1_S160x32_0_1 (broadcastInDim S160x1 ![0] bcast_S160_S160x1_0 (W main_v6)))) natLt_1_32) (constantI S_ 32 0#32) reducesTo_S160x32_S160_d1 h_S_)
    (broadcastInDim S160 ![] bcast_S_S160 (constantI S_ 32 31#32)) := by
  after_reads_simp

theorem after5_v24 : StableHlo.after hostOps0_5 W main_v24 = subi (W main_v6) (muli (minsi (W main_v10) (broadcastInDim S160 ![] bcast_S_S160 (constantI S_ 32 128#32))) (broadcastInDim S160 ![] bcast_S_S160 (constantI S_ 32 512#32))) := by
  after_reads_simp

theorem after5_v27 : StableHlo.after hostOps0_5 W main_v27 = subi (W main_v9) (muli (minsi (W main_v10) (broadcastInDim S160 ![] bcast_S_S160 (constantI S_ 32 128#32))) (broadcastInDim S160 ![] bcast_S_S160 (constantI S_ 32 512#32))) := by
  after_reads_simp

theorem after5_v28 : StableHlo.after hostOps0_5 W main_v28 = shapeCast S32x1x2048 (W main_arg3) shapeCasts_S32x2048_S32x1x2048 := by
  after_reads_simp
  rfl

theorem after5_v29 : StableHlo.after hostOps0_5 W main_v29 = shapeCast S32x1x1024 (W main_arg5) shapeCasts_S32x1024_S32x1x1024 := by
  after_reads_simp
  rfl

end Stretches

/-! ## The run's tables -/

theorem V5_v0 : V5 m ρ c main_v0 = V1 m ρ c main_v0 := by
  have e1 : V2 m ρ c main_v0 = V1 m ρ c main_v0 := StableHlo.after_unwritten (ops := hostOps0_1) W1 rfl (by decide) _
  have e2 : V3 m ρ c main_v0 = V2 m ρ c main_v0 := StableHlo.after_unwritten (ops := hostOps0_2) W2 rfl (by decide) _
  have e3 : V4 m ρ c main_v0 = V3 m ρ c main_v0 := StableHlo.after_unwritten (ops := hostOps0_3) W3 rfl (by decide) _
  have e4 : V5 m ρ c main_v0 = V4 m ρ c main_v0 := StableHlo.after_unwritten (ops := hostOps0_4) W4 rfl (by decide) _
  rw [e4, e3, e2, e1]

theorem V4_v6 : V4 m ρ c main_v6 = V3 m ρ c main_v6 := StableHlo.after_unwritten (ops := hostOps0_3) W3 rfl (by decide) _
theorem V5_v6 : V5 m ρ c main_v6 = V3 m ρ c main_v6 := by
  have e4 : V5 m ρ c main_v6 = V4 m ρ c main_v6 := StableHlo.after_unwritten (ops := hostOps0_4) W4 rfl (by decide) _
  rw [e4, V4_v6]
theorem V5_v9 : V5 m ρ c main_v9 = V4 m ρ c main_v9 := StableHlo.after_unwritten (ops := hostOps0_4) W4 rfl (by decide) _

theorem v0_word (j : Fin 32) : V5 m ρ c main_v0 (ValueIdx.ix1 j) = BitVec.ofNat 32 (endOf (counts m c) j.val) := by
  rw [V5_v0]
  exact (congrFun (after0 (V0 m ρ c)) _).trans (ends_word (counts m c) _ rfl _ _ j)

theorem v5_word (i : Fin 160) : V2 m ρ c main_v5 (ValueIdx.ix1 i) = BitVec.ofNat 32 (bnd (counts m c) i.val) := by
  refine (congrFun (after1 (V1 m ρ c)) _).trans (bnd_word (x := counts m c) _ _ (fun j => ?_) (fun j => ?_) _ i)
  · show BitVec.ofNat 32 j.val * BitVec.ofNat 32 512 = _
    rw [← BitVec.ofNat_mul, Nat.mul_comm]
  · refine (slice1 0 (V1 m ρ c main_v0) slices_S32_S31_0 j (by omega)).trans ?_
    have h := v0_word m ρ c ⟨0 + j.val, by omega⟩
    rw [V5_v0] at h
    exact h.trans (congrArg (fun n => BitVec.ofNat 32 (endOf (counts m c) n)) (Nat.zero_add j.val))

variable (hx : InRange (counts m c))

theorem v6_word (i : Fin 160) : V3 m ρ c main_v6 (ValueIdx.ix1 i) = BitVec.ofNat 32 ((plan (counts m c) hx).cut i.val) :=
  (congrFun (after2 (V2 m ρ c)) _).trans (cut_word hx comparator_i32_d0 (fun _ _ => rfl) (V2 m ρ c main_v5) (v5_word m ρ c) i)

theorem v9_word (i : Fin 160) : V4 m ρ c main_v9 (ValueIdx.ix1 i) = BitVec.ofNat 32 ((plan (counts m c) hx).nxt i.val) :=
  (congrFun (after3 (V3 m ρ c)) _).trans (nxt_word hx (V3 m ρ c main_v6) (v6_word m ρ c hx) _ _ rfl _ i)

theorem v12_word (i : Fin 160) : minsi (V5 m ρ c main_v10) (broadcastInDim S160 ![] bcast_S_S160 (constantI S_ 32 128#32)) (ValueIdx.ix1 i) = BitVec.ofNat 32 ((plan (counts m c) hx).blk i.val) := by
  have e : V5 m ρ c main_v10 = pyDiv bcast_S_S160 (V3 m ρ c main_v6) (constantI S_ 32 512#32) := by
    refine (after4 (V4 m ρ c)).trans ?_
    rw [V4_v6]
    exact congrArg (pyDiv bcast_S_S160 (V3 m ρ c main_v6)) (after3_c (V3 m ρ c))
  rw [e]
  exact blk_word hx bcast_S_S160 (V3 m ρ c main_v6) (v6_word m ρ c hx) i

/-- The region finds the plan's tables. -/
theorem tables_at (k : Fin pre0.K) : V m ρ c (pre0.ref k) = tabs (F := F) (plan (counts m c) hx) k := by
  have e1 : ∀ x : S160.Idx, x = ValueIdx.ix1 (x 0) := fun x => funext fun a => by match a with | ⟨0, _⟩ => rfl
  match k with
  | ⟨0, _⟩ =>
    refine funext fun (x : S160.Idx) => ?_
    refine (congrFun (after5_v12 (V5 m ρ c)) x).trans ?_
    rw [e1 x]
    exact v12_word m ρ c hx (x 0)
  | ⟨1, _⟩ =>
    refine funext fun (x : S160.Idx) => ?_
    refine (congrFun (after5_v21 (V5 m ρ c)) x).trans ?_
    rw [e1 x]
    refine ex_word hx bcast_S_S160 _ natLt_1_32 _ _ (V5 m ρ c main_v6) (V5 m ρ c main_v0) (fun i => ?_) (v0_word m ρ c) (fun i e => ?_) (x 0)
    · rw [V5_v6]; exact v6_word m ρ c hx i
    · exact congrArg₂ (IntOp.cmpi .sle) (bcCols _ _ _ i e) (bcRows _ _ _ i e)
  | ⟨2, _⟩ =>
    refine funext fun (x : S160.Idx) => ?_
    refine (congrFun (after5_v24 (V5 m ρ c)) x).trans ?_
    rw [e1 x]
    exact row_word hx bcast_S_S160 _ _ (plan (counts m c) hx).cut (v12_word m ρ c hx) (fun i => by rw [V5_v6]; exact v6_word m ρ c hx i) (fun i => Plan.blk_start _ _) (x 0)
  | ⟨3, _⟩ =>
    refine funext fun (x : S160.Idx) => ?_
    refine (congrFun (after5_v27 (V5 m ρ c)) x).trans ?_
    rw [e1 x]
    exact row_word hx bcast_S_S160 _ _ (plan (counts m c) hx).nxt (v12_word m ρ c hx) (fun i => by rw [V5_v9]; exact v9_word m ρ c hx i) (fun i => Plan.nxt_ge_blk _ _ i.isLt) (x 0)

end Cert.KernelIdeal.Moe
-- ==== Proof.MoeI.Final.lean ====
module

public import proofs.«01_k».proof.Proof.MoeI.Tables
public import proofs.«01_k».proof.Pre_counts_in_range

/-!
The run of the whole program from counts in range: the result array row by row, the arguments unchanged, the counters at zero.
-/

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.ShloMosaic.Routing
open Idealize.SL.Sem

variable {F : FTy → Type} [FloatOps F]

/-- Row `r` of the result: the row's owner applied to the row's block, at the row's place in it. -/
def outRows (P : Plan) (A : Arrs F) : Vec F S66048x1024 .f32 := fun z =>
  ffn A (P.owner (z 0).val) ((z 0).val / 512) (ValueIdx.ix2 ⟨(z 0).val % 512, Nat.mod_lt _ (by decide)⟩ (z 1))

set_option backward.isDefEq.respectTransparency.types false in
/-- What the pipeline leaves in the result array. -/
theorem final_out (P : Plan) (V : (b : Ref sig .tc) → b.ty.Contents (Elt F)) (c : Dev nD) : (dat P V c).arrAt 5 grid0.N = outRows P (arrs V) := by
  have hN : grid0.N = 160 := N_0
  refine funext fun z => ?_
  refine (dat P V c).arrAt_forall_of_cover 5 (fun (i : S66048x1024.Idx) v => v = outRows P (arrs V) i) (fun t ht y => ?_) (fun (i : S66048x1024.Idx) => ?_) z
  · have hb := P.blk_le t.val
    have ht' := lt_of_lt_of_eq t.isLt hN
    obtain ⟨y', hyy⟩ : ∃ y' : S512x1024.Idx, y' = y := ⟨y, rfl⟩
    have hy : (y' 0).val < 512 := (y' 0).isLt
    have hend : 512 * P.blk t.val + 512 ≤ P.nxt t.val := P.close_end t.val ht' (by
      rcases (flush5 P t).mp ht with h | ⟨_, h⟩
      · exact Or.inl (by omega)
      · exact Or.inr h)
    obtain ⟨z', hz⟩ : ∃ z' : S66048x1024.Idx, z' = (((cfgA (F := F) P).win 5).rect t).emb y := ⟨_, rfl⟩
    have e : ∀ a : Fin 2, (z' a).val = (![P.blk t.val, 0] : Fin 2 → Nat) a * (![512, 1024] : Fin 2 → Nat) a + (y' a).val := by
      intro a
      rw [hz, hyy]
      refine (Pipeline.Window.rect_emb_val ((cfgA (F := F) P).win 5) t y a rfl).trans ?_
      rw [idx5]
      match a with
      | ⟨0, _⟩ => rfl
      | ⟨1, _⟩ => rfl
    have e0 : (z' 0).val = P.blk t.val * 512 + (y' 0).val := e 0
    have e1 : (z' 1).val = (y' 1).val := (e 1).trans (by show 0 * 1024 + (y' 1).val = _; omega)
    suffices hs : aft P (arrs V) t.val y' = outRows P (arrs V) z' by
      rw [hz, hyy] at hs; exact hs
    unfold aft outRows
    rw [if_pos (by omega)]
    refine congr (congrArg₂ (ffn (arrs V)) (congrArg P.owner e0.symm) (by omega)) (funext fun a => Fin.ext ?_)
    match a with
    | ⟨0, _⟩ => show (y' 0).val = (z' 0).val % 512; omega
    | ⟨1, _⟩ => exact e1.symm
  · have hi : (i 0).val < 66048 := (i 0).isLt
    obtain ⟨s, hs, hb, hl⟩ := P.closes ((i 0).val / 512) (by omega)
    have hsN : s < (cfgA (F := F) P).N := lt_of_lt_of_eq hs hN.symm
    refine ⟨⟨s, hsN⟩, (flush5 P ⟨s, hsN⟩).mpr ?_, ?_⟩
    · by_cases h9 : s = 159
      · exact Or.inl (by show s + 1 = 160; omega)
      · exact Or.inr ⟨by show s + 1 < 160; omega, fun e => (hl.resolve_left h9) (e.trans hb)⟩
    · refine Finset.mem_map.mpr ⟨(ValueIdx.ix2 ⟨(i 0).val % 512, Nat.mod_lt _ (by decide)⟩ (i 1) : S512x1024.Idx), Finset.mem_univ _, funext fun a => Fin.ext ?_⟩
      refine (Pipeline.Window.rect_emb_val ((cfgA (F := F) P).win 5) ⟨s, hsN⟩ _ a rfl).trans ?_
      rw [idx5]
      match a with
      | ⟨0, _⟩ => show P.blk s * 512 + (i 0).val % 512 = (i 0).val; rw [hb]; omega
      | ⟨1, _⟩ => show 0 * 1024 + (i 1).val = (i 1).val; omega

/-- The input arrays are as they were. -/
theorem final_in0 (P : Plan) (V : (b : Ref sig .tc) → b.ty.Contents (Elt F)) (c : Dev nD) : (dat P V c).arrAt 0 grid0.N = V main_arg1 := (dat P V c).arrAt_in 0 rfl _
theorem final_in1 (P : Plan) (V : (b : Ref sig .tc) → b.ty.Contents (Elt F)) (c : Dev nD) : (dat P V c).arrAt 1 grid0.N = V main_arg2 := (dat P V c).arrAt_in 1 rfl _
theorem final_in3 (P : Plan) (V : (b : Ref sig .tc) → b.ty.Contents (Elt F)) (c : Dev nD) : (dat P V c).arrAt 3 grid0.N = V main_arg4 := (dat P V c).arrAt_in 3 rfl _

/-- The precondition says that the counts are in range. -/
theorem inRange_of_pre [Cert.Pre_counts_in_range.Facts] (a0 : IVec (shape1 32) 32) (a1 : FVec F S66048x1024 .f32) (a2 : FVec F S32x1024x2048 .f32) (a3 : FVec F S32x2048 .f32)
    (a4 : FVec F S32x1024x1024 .f32) (a5 : FVec F S32x1024 .f32) (h : Cert.Pre_counts_in_range.fn (F := F) a0 a1 a2 a3 a4 a5 = fun _ => 1#1) : InRange a0 := by
  intro i
  have e := congrFun h (ValueIdx.ix1 i)
  have e' : IntOp.andi (IntOp.cmpi .sge (a0 (ValueIdx.ix1 i)) 0#32) (IntOp.cmpi .sle (a0 (ValueIdx.ix1 i)) 66048#32) = 1#1 := e
  have key : ∀ v : BitVec 32, IntOp.andi (IntOp.cmpi .sge v 0#32) (IntOp.cmpi .sle v 66048#32) = 1#1 → v.toNat ≤ 66048 := by
    intro v hv
    have hb : (∀ a b : BitVec 1, IntOp.andi a b = 1#1 → a = 1#1 ∧ b = 1#1) := by decide
    obtain ⟨h1, h2⟩ := hb _ _ hv
    rw [WordCmp.cmpi_sge_eq, WordCmp.ofBool_decide_eq_one_iff] at h1
    rw [WordCmp.cmpi_sle_eq, WordCmp.ofBool_decide_eq_one_iff] at h2
    have h3 : (66048#32 : BitVec 32).toInt = 66048 := by decide
    have h4 : (0#32 : BitVec 32).toInt = 0 := by decide
    rw [h3] at h2; rw [h4] at h1
    have := BitVec.toInt_eq_toNat_cond v
    split at this <;> omega
  exact key _ e'

variable (m : (ℓ : Loc nD τ sig) → Buf (Elt F) ℓ) (ρ : Dev nD → PrngReg)

/-- The arrays the kernel computes from, off the launch. -/
def inputs (c : Dev nD) : Arrs F where
  x := m ((c : Thread nD τ).loc main_arg1)
  gu := m ((c : Thread nD τ).loc main_arg2)
  bgu := shapeCast S32x1x2048 (m ((c : Thread nD τ).loc main_arg3)) shapeCasts_S32x2048_S32x1x2048
  dn := m ((c : Thread nD τ).loc main_arg4)
  bdn := shapeCast S32x1x1024 (m ((c : Thread nD τ).loc main_arg5)) shapeCasts_S32x1024_S32x1x1024

theorem V5_arg3 (c : Dev nD) : V5 m ρ c main_arg3 = m ((c : Thread nD τ).loc main_arg3) :=
  (StableHlo.after_unwritten (ops := hostOps0_5) (r := main_arg3) W5 rfl (by decide) _).symm.trans (V_of_unwritten m ρ c main_arg3 (by decide))
theorem V5_arg5 (c : Dev nD) : V5 m ρ c main_arg5 = m ((c : Thread nD τ).loc main_arg5) :=
  (StableHlo.after_unwritten (ops := hostOps0_5) (r := main_arg5) W5 rfl (by decide) _).symm.trans (V_of_unwritten m ρ c main_arg5 (by decide))

theorem arrs_V (c : Dev nD) : arrs (V m ρ c) = inputs m c := by
  unfold arrs inputs
  have h3 : V m ρ c main_v28 = shapeCast S32x1x2048 (m ((c : Thread nD τ).loc main_arg3)) shapeCasts_S32x2048_S32x1x2048 :=
    (after5_v28 (V5 m ρ c)).trans (congrArg (fun x => shapeCast S32x1x2048 x shapeCasts_S32x2048_S32x1x2048) (V5_arg3 m ρ c))
  have h5 : V m ρ c main_v29 = shapeCast S32x1x1024 (m ((c : Thread nD τ).loc main_arg5)) shapeCasts_S32x1024_S32x1x1024 :=
    (after5_v29 (V5 m ρ c)).trans (congrArg (fun x => shapeCast S32x1x1024 x shapeCasts_S32x1024_S32x1x1024) (V5_arg5 m ρ c))
  rw [h3, h5, V_of_unwritten m ρ c main_arg1 (by decide), V_of_unwritten m ρ c main_arg2 (by decide), V_of_unwritten m ρ c main_arg4 (by decide)]

set_option backward.isDefEq.respectTransparency.types false in
/-- The whole run. -/
theorem run (hx : ∀ c, InRange (counts m c)) :
    θ_run defs (onTc (τ := τ) (main (F := F))) ⟨m, fun _ => 0, ρ⟩ (fun r => (∀ c : Dev nD,
      r.2.mem ((c : Thread nD τ).loc main_v30) = outRows (plan (counts m c) (hx c)) (inputs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) := by
  have one : ∀ c c' : Dev nD, c = c' := by decide
  obtain ⟨c₀⟩ : Nonempty (Dev nD) := ⟨0⟩
  refine (θ_run defs _ _).mono ?_ (run_main m ρ (plan (counts m c₀) (hx c₀)) fun c k => by rw [one c c₀]; exact tables_at m ρ c₀ (hx c₀) k)
  rintro r ⟨h, hs⟩
  refine ⟨fun c => ?_, hs⟩
  have hc : c = c₀ := one _ _
  rw [hc]
  obtain ⟨hw, h0, h3, h5⟩ := h c₀
  have ho : (dats m ρ (plan (counts m c₀) (hx c₀)) 0 c₀).arrAt 5 grid0.N = outRows (plan (counts m c₀) (hx c₀)) (inputs m c₀) :=
    (final_out _ (V m ρ c₀) c₀).trans (congrArg _ (arrs_V m ρ c₀))
  have h1 := (final_in0 (plan (counts m c₀) (hx c₀)) (V m ρ c₀) c₀).trans (V_of_unwritten m ρ c₀ main_arg1 (by decide))
  have h2 := (final_in1 (plan (counts m c₀) (hx c₀)) (V m ρ c₀) c₀).trans (V_of_unwritten m ρ c₀ main_arg2 (by decide))
  have h4 := (final_in3 (plan (counts m c₀) (hx c₀)) (V m ρ c₀) c₀).trans (V_of_unwritten m ρ c₀ main_arg4 (by decide))
  exact ⟨(hw 5).trans ho, h0, (hw 0).trans h1, (hw 1).trans h2, h3, (hw 3).trans h4, h5⟩

end Cert.KernelIdeal.Moe
-- ==== Proof.Moe.Row.lean ====
/-
  One row through one expert, over the extended reals: the row times the gate and up weights, plus their bias; the
  clipped gated unit of the two halves; that times the down weights, plus their bias.
-/
module

public import Idealize.ShloMosaic.PureOps.Ideal.Laws

@[expose] public section

noncomputable section

namespace Cert.Moe

open Idealize.ShloMosaic

/-- The bound 7 of the clips. -/
def lim : EReal := Ideal.ofBits .f32 0x40E00000#32
/-- The bound −7. -/
def neglim : EReal := Ideal.ofBits .f32 0xC0E00000#32
/-- The slope 1.702 of the gate. -/
def slope : EReal := Ideal.ofBits .f32 0x3FD9DB23#32

/-- Gate and up of one row: column `f` of the row times the weights, plus the bias. -/
def gateUp (x : Fin 1024 → EReal) (W : Fin 1024 → Fin 2048 → EReal) (b : Fin 2048 → EReal) (f : Fin 2048) : EReal := ∑ k, x k * W k f + b f

/-- The gated unit of a gate `g` and an up `u`. -/
def unit (g u : EReal) : EReal := (min lim (max neglim u) + 1) * min g lim * Ideal.logistic (slope * min g lim)

/-- The row's result in column `j`. -/
def expert (x : Fin 1024 → EReal) (W : Fin 1024 → Fin 2048 → EReal) (b : Fin 2048 → EReal) (D : Fin 1024 → Fin 1024 → EReal) (d : Fin 1024 → EReal) (j : Fin 1024) : EReal :=
  ∑ f : Fin 1024, unit (gateUp x W b ⟨f.val, by omega⟩) (gateUp x W b ⟨1024 + f.val, by omega⟩) * D f j + d j

end Cert.Moe
-- ==== Proof.Moe.KernelValue.lean ====
/-
  What the kernel stores into a row of a block is the row's expert applied to the row.
-/
module

public import proofs.«01_k».proof.Proof.MoeI.Step
public import proofs.«01_k».proof.Proof.Moe.Row
public import Idealize.ShloMosaic.Lib.Pointwise

@[expose] public section

set_option maxRecDepth 16384

noncomputable section

namespace Cert.KernelIdeal.Moe

open Cert.KernelIdeal.Gen Cert.Moe
open Idealize.ShloMosaic

theorem pay5_row (x : Vec Ideal S512x1024 .f32) (W : Vec Ideal S1x1024x2048 .f32) (b : Vec Ideal S1x1x2048 .f32) (D : Vec Ideal S1x1024x1024 .f32) (d : Vec Ideal S1x1x1024 .f32)
    (r : Fin 512) (j : Fin 1024) : k0_pay5 x (k0_pay1 W) b (k0_pay2 D) d (ix2 r j)
      = expert (fun k => x (ix2 r k)) (fun k f => W (ix3 0 k f)) (fun f => b (ix3 0 0 f)) (fun f j => D (ix3 0 f j)) (fun j => d (ix3 0 0 j)) j := by
  pointwise [k0_pay5, k0_pay1, k0_pay2]
  rfl

end Cert.KernelIdeal.Moe
-- ==== Proof.Moe.RefValue.lean ====
module

public import proofs.«01_k».proof.Proof.Gen.ReferenceIdeal.Read
public import proofs.«01_k».proof.Proof.Moe.Row
public import proofs.«01_k».proof.Proof.Moe.Words
public import Idealize.ShloMosaic.Lib.Pointwise

@[expose] public section

set_option maxRecDepth 16384

noncomputable section

namespace Cert.ReferenceIdeal.Moe

open Cert.ReferenceIdeal Cert.ReferenceIdeal.Gen Cert.ReferenceIdeal.Read Cert.Moe
open Idealize.ShloMosaic

/-- The reference's element, from what its gathers give. -/
theorem element (x0 : (⟨S32, .i32⟩ : BufTy).Contents (Elt Ideal)) (x1 : (⟨S66048x1024, .f32⟩ : BufTy).Contents (Elt Ideal)) (x2 : (⟨S32x1024x2048, .f32⟩ : BufTy).Contents (Elt Ideal))
    (x3 : (⟨S32x2048, .f32⟩ : BufTy).Contents (Elt Ideal)) (x4 : (⟨S32x1024x1024, .f32⟩ : BufTy).Contents (Elt Ideal)) (x5 : (⟨S32x1024, .f32⟩ : BufTy).Contents (Elt Ideal))
    (r : Fin 66048) (j : Fin 1024) : val_main_v59 (F := Ideal) x0 x1 x2 x3 x4 x5 (ix2 r j)
      = expert (fun k => x1 (ix2 r k)) (fun k f => val_main_v17 x0 x2 (ix3 r k f)) (fun f => val_main_v25 x0 x3 (ix2 r f)) (fun f j => val_main_v50 x0 x4 (ix3 r f j)) (fun j => val_main_v58 x0 x5 (ix2 r j)) j := by
  pointwise [val_main_v18, val_main_v26, val_main_v27, val_main_v28, val_main_cst, val_main_v29, val_main_v30, val_main_cst_5, val_main_cst_6, val_main_call1_v0, val_main_call1_v1, val_main_call1_v2,
    val_main_call1_v3, val_main_call1_v4, val_main_v31, val_main_cst_7, val_main_v32, val_main_v33, val_main_v34, val_main_cst_8, val_main_v35, val_main_v36, val_main_v37, val_main_v38, val_main_cst_9,
    val_main_v39, val_main_cst_10, val_main_v40, val_main_v41, val_main_v42, val_main_v43, val_main_v51, val_main_v59]
  rfl

/-- A table of matrices gathered along its first axis: where the index word is `e`'s, the `e`-th matrix. -/
theorem gather_matrix {nb A B n : ℕ} (wf : GatherDims.WF (⟨3, ![nb, A, B]⟩ : Shape) (⟨2, ![n, 1]⟩ : Shape) (⟨3, ![n, A, B]⟩ : Shape) [1, 2] [0] [] [0] [] 1 ![1, A, B])
    (x : (⟨3, ![nb, A, B]⟩ : Shape).Idx → EReal) (idx : IVec (⟨2, ![n, 1]⟩ : Shape) 32) (r : Fin n) (k : Fin A) (f : Fin B) (e : Fin nb) (hnb : nb < 2 ^ 31)
    (he : idx (ix2 r 0) = BitVec.ofNat 32 e.val) :
    Host.gather (⟨[1, 2], [0], [], [], [0], 1, ![1, A, B], wf⟩ : GatherDims (⟨3, ![nb, A, B]⟩ : Shape) (⟨2, ![n, 1]⟩ : Shape) (⟨3, ![n, A, B]⟩ : Shape)) x idx (ix3 r k f) = x (ix3 e k f) := by
  generalize hd : (⟨[1, 2], [0], [], [], [0], 1, ![1, A, B], wf⟩ : GatherDims (⟨3, ![nb, A, B]⟩ : Shape) (⟨2, ![n, 1]⟩ : Shape) (⟨3, ![n, A, B]⟩ : Shape)) = d
  unfold Host.gather
  refine congrArg x (funext fun a => Fin.ext ?_)
  show d.start (ix3 r k f) idx a + d.batchCoord (ix3 r k f) a + d.offCoord (ix3 r k f) a = _
  have hb : d.batchCoord (ix3 r k f) a = 0 := by subst hd; rfl
  rw [hb, Nat.add_zero]
  match a with
  | ⟨0, _⟩ =>
    have hs : d.start (ix3 r k f) idx (0 : Fin 3) = min (idx (ix2 r 0)).toInt.toNat (nb - 1) := by
      subst hd
      refine (congrArg (fun i => min (idx i).toInt.toNat (nb - 1)) (funext fun b => ?_) : _)
      match b with
      | ⟨0, _⟩ => rfl
      | ⟨1, _⟩ => rfl
    have ho : d.offCoord (ix3 r k f) (0 : Fin 3) = 0 := by subst hd; rfl
    have hl := e.isLt
    have ht : (BitVec.ofNat 32 e.val).toInt = (e.val : ℤ) := WordCmp.toInt_ofNat_of_lt (w := 32) (by omega)
    show d.start (ix3 r k f) idx (0 : Fin 3) + d.offCoord (ix3 r k f) (0 : Fin 3) = e.val
    rw [hs, ho, he, ht, Int.toNat_natCast]
    omega
  | ⟨1, _⟩ =>
    have hs : d.start (ix3 r k f) idx (1 : Fin 3) = 0 := by subst hd; rfl
    have ho : d.offCoord (ix3 r k f) (1 : Fin 3) = k.val := by subst hd; rfl
    show d.start (ix3 r k f) idx (1 : Fin 3) + d.offCoord (ix3 r k f) (1 : Fin 3) = k.val
    rw [hs, ho, Nat.zero_add]
  | ⟨2, _⟩ =>
    have hs : d.start (ix3 r k f) idx (2 : Fin 3) = 0 := by subst hd; rfl
    have ho : d.offCoord (ix3 r k f) (2 : Fin 3) = f.val := by subst hd; rfl
    show d.start (ix3 r k f) idx (2 : Fin 3) + d.offCoord (ix3 r k f) (2 : Fin 3) = f.val
    rw [hs, ho, Nat.zero_add]

variable {x : IVec S32 32} (hx : InRange x)

include hx in
/-- The running sums of the counts. -/
theorem end_word (e : Fin 32) : val_main_v1 (F := Ideal) x (ValueIdx.ix1 e) = BitVec.ofNat 32 (endOf x e.val) := by
  unfold val_main_v1
  generalize hi : val_main_call0_call0_v0 (F := Ideal) = init
  exact ends_word x init (by rw [← hi, val_main_call0_call0_v0_apply]; rfl) _ _ e

include hx in
/-- Whether an expert's rows end at or before row `r`. -/
theorem mask_word (r : Fin 66048) (e : Fin 32) : (val_main_v6 (F := Ideal) x (ValueIdx.ix2 r e) = 1#1) ↔ endOf x e.val ≤ r.val := by
  have := endOf_le hx e.val
  have := e.isLt
  have := r.isLt
  have h1 : val_main_v4 (F := Ideal) x (ValueIdx.ix2 r e) = BitVec.ofNat 32 (endOf x e.val) := by
    rw [val_main_v4_apply, val_main_v2_apply]
    refine Eq.trans (congrArg (val_main_v1 (F := Ideal) x) (funext fun a => ?_)) (end_word hx e)
    match a with
    | ⟨0, _⟩ => rfl
  have h2 : val_main_v5 (F := Ideal) (ValueIdx.ix2 r e) = BitVec.ofNat 32 r.val := by
    rw [val_main_v5_apply, val_main_v3_apply]
    rfl
  rw [val_main_v6_apply, h1, h2, WordCmp.cmpi_sle_ofNat_eq_one_iff (w := 32) (by omega) (by omega)]

include hx in
/-- The reference finds each row's owner. -/
theorem owner_word (r : Fin 66048) : val_main_v10 (F := Ideal) x (ValueIdx.ix1 r) = BitVec.ofNat 32 ((plan x hx).owner r.val) := by
  have hn := Nat.count_le (p := fun e => endOf x e ≤ r.val) (n := 32)
  have h8 : val_main_v8 (F := Ideal) x (ValueIdx.ix1 r) = BitVec.ofNat 32 (Nat.count (fun e => endOf x e ≤ r.val) 32) := by
    have hm := mask_word hx r
    unfold val_main_v8 val_main_v7 val_main_c
    generalize val_main_v6 (F := Ideal) x = msk at hm ⊢
    exact Routing.reduce_count (by omega) msk natLt_1_32 reducesTo_S66048x32_S66048_d1 h_S_ r (fun e => endOf x e ≤ r.val) hm
  rw [val_main_v10_apply, val_main_v9_apply, h8, val_main_c_0_apply]
  refine (PlanTiles.minsi_word (by omega) (by omega)).trans ?_
  rw [Nat.min_comm]
  rfl

/-- A word of a small natural is not negative, so the reference's wrap keeps it. -/
theorem wrap_word {n : ℕ} (hn : n < 32) (w : BitVec 32) (hw : w = BitVec.ofNat 32 n) : Scalar.select (IntOp.cmpi .slt w 0#32) (w + 32#32) w = BitVec.ofNat 32 n := by
  have h : ¬ (IntOp.cmpi .slt w 0#32 = 1) := by
    rw [hw, show (0#32 : BitVec 32) = BitVec.ofNat 32 0 from rfl]
    intro h
    have := (WordCmp.cmpi_slt_ofNat_eq_one_iff (w := 32) (by omega) (by omega)).mp h
    omega
  unfold Scalar.select
  rw [if_neg h, hw]

include hx in
/-- The index into the gate and up matrices. -/
theorem index_word_gu (r : Fin 66048) : val_main_v16 (F := Ideal) x (ix2 r 0) = BitVec.ofNat 32 ((plan x hx).owner r.val) := by
  have hi : idx_main_v16 (ix2 r 0) = ValueIdx.ix1 r := funext fun a => match a with
    | ⟨0, _⟩ => rfl
  have hw := owner_word hx r
  rw [val_main_v16_apply, hi, val_main_v15_apply, val_main_v12_apply, val_main_v14_apply, val_main_v11_apply, val_main_v13_apply, val_main_c_1_apply, val_main_c_2_apply]
  generalize val_main_v10 (F := Ideal) x (ValueIdx.ix1 r) = w at hw ⊢
  exact wrap_word ((plan x hx).owner_lt r.val) w hw

include hx in
/-- The index into their biases. -/
theorem index_word_bgu (r : Fin 66048) : val_main_v24 (F := Ideal) x (ix2 r 0) = BitVec.ofNat 32 ((plan x hx).owner r.val) := by
  have hi : idx_main_v24 (ix2 r 0) = ValueIdx.ix1 r := funext fun a => match a with
    | ⟨0, _⟩ => rfl
  have hw := owner_word hx r
  rw [val_main_v24_apply, hi, val_main_v23_apply, val_main_v20_apply, val_main_v22_apply, val_main_v19_apply, val_main_v21_apply, val_main_c_3_apply, val_main_c_4_apply]
  generalize val_main_v10 (F := Ideal) x (ValueIdx.ix1 r) = w at hw ⊢
  exact wrap_word ((plan x hx).owner_lt r.val) w hw

include hx in
/-- The index into the down matrices. -/
theorem index_word_dn (r : Fin 66048) : val_main_v49 (F := Ideal) x (ix2 r 0) = BitVec.ofNat 32 ((plan x hx).owner r.val) := by
  have hi : idx_main_v49 (ix2 r 0) = ValueIdx.ix1 r := funext fun a => match a with
    | ⟨0, _⟩ => rfl
  have hw := owner_word hx r
  rw [val_main_v49_apply, hi, val_main_v48_apply, val_main_v45_apply, val_main_v47_apply, val_main_v44_apply, val_main_v46_apply, val_main_c_11_apply, val_main_c_12_apply]
  generalize val_main_v10 (F := Ideal) x (ValueIdx.ix1 r) = w at hw ⊢
  exact wrap_word ((plan x hx).owner_lt r.val) w hw

include hx in
/-- The index into their biases. -/
theorem index_word_bdn (r : Fin 66048) : val_main_v57 (F := Ideal) x (ix2 r 0) = BitVec.ofNat 32 ((plan x hx).owner r.val) := by
  have hi : idx_main_v57 (ix2 r 0) = ValueIdx.ix1 r := funext fun a => match a with
    | ⟨0, _⟩ => rfl
  have hw := owner_word hx r
  rw [val_main_v57_apply, hi, val_main_v56_apply, val_main_v53_apply, val_main_v55_apply, val_main_v52_apply, val_main_v54_apply, val_main_c_13_apply, val_main_c_14_apply]
  generalize val_main_v10 (F := Ideal) x (ValueIdx.ix1 r) = w at hw ⊢
  exact wrap_word ((plan x hx).owner_lt r.val) w hw

include hx in
/-- The reference: each row's expert, applied to it. -/
theorem reference_row (x1 : S66048x1024.Idx → EReal) (x2 : S32x1024x2048.Idx → EReal) (x3 : S32x2048.Idx → EReal) (x4 : S32x1024x1024.Idx → EReal) (x5 : S32x1024.Idx → EReal)
    (r : Fin 66048) (j : Fin 1024) (e : Fin 32) (he : (plan x hx).owner r.val = e.val) :
    val_main_v59 (F := Ideal) x x1 x2 x3 x4 x5 (ix2 r j)
      = expert (fun k => x1 (ix2 r k)) (fun k f => x2 (ix3 e k f)) (fun f => x3 (ix2 e f)) (fun f j => x4 (ix3 e f j)) (fun j => x5 (ix2 e j)) j := by
  have h1 : ∀ k f, val_main_v17 (F := Ideal) x x2 (ix3 r k f) = x2 (ix3 e k f) := fun k f =>
    gather_matrix _ x2 _ r k f e (by omega) ((index_word_gu hx r).trans (by rw [he]))
  have h2 : ∀ f, val_main_v25 (F := Ideal) x x3 (ix2 r f) = x3 (ix2 e f) := fun f => by
    unfold val_main_v25
    rw [ix2_eq_valueIdx, ix2_eq_valueIdx]
    exact Routing.gather_row _ rfl rfl rfl rfl rfl x3 _ r f e ((congrArg _ (ix2_eq_valueIdx r 0).symm).trans ((index_word_bgu hx r).trans (by rw [he]))) (by omega)
  have h3 : ∀ k f, val_main_v50 (F := Ideal) x x4 (ix3 r k f) = x4 (ix3 e k f) := fun k f =>
    gather_matrix _ x4 _ r k f e (by omega) ((index_word_dn hx r).trans (by rw [he]))
  have h4 : ∀ f, val_main_v58 (F := Ideal) x x5 (ix2 r f) = x5 (ix2 e f) := fun f => by
    unfold val_main_v58
    rw [ix2_eq_valueIdx, ix2_eq_valueIdx]
    exact Routing.gather_row _ rfl rfl rfl rfl rfl x5 _ r f e ((congrArg _ (ix2_eq_valueIdx r 0).symm).trans ((index_word_bdn hx r).trans (by rw [he]))) (by omega)
  rw [element]
  simp only [h1, h2, h3, h4]

end Cert.ReferenceIdeal.Moe
-- ==== Proof.Moe.Agree.lean ====
/-
  The two sides agree: what the kernel leaves in row `r` is the row's expert applied to the row, which is what the reference computes.
-/
module

public import proofs.«01_k».proof.Proof.Moe.KernelValue
public import proofs.«01_k».proof.Proof.Moe.RefValue
public import proofs.«01_k».proof.Proof.MoeI.Final

@[expose] public section

set_option maxRecDepth 16384

noncomputable section

namespace Cert.KernelIdeal.Moe

open Cert.KernelIdeal.Gen Cert.Moe
open Idealize.ShloMosaic

/-- The first biases reshaped to one row for each expert, read at an element. -/
theorem bias_gu_apply (b : Vec Ideal S32x2048 .f32) (e : Fin 32) (f : Fin 2048) : shapeCast S32x1x2048 b shapeCasts_S32x2048_S32x1x2048 (ix3 e 0 f) = b (ix2 e f) := by
  pointwise []

/-- The second biases reshaped to one row for each expert, read at an element. -/
theorem bias_dn_apply (b : Vec Ideal S32x1024 .f32) (e : Fin 32) (f : Fin 1024) : shapeCast S32x1x1024 b shapeCasts_S32x1024_S32x1x1024 (ix3 e 0 f) = b (ix2 e f) := by
  pointwise []

/-- One element of the output, as the mathematics of its row. -/
theorem kernel_row (P : Plan) (x : Vec Ideal S66048x1024 .f32) (gu : Vec Ideal S32x1024x2048 .f32) (b : Vec Ideal S32x2048 .f32) (dn : Vec Ideal S32x1024x1024 .f32)
    (d : Vec Ideal S32x1024 .f32) (r : Fin 66048) (j : Fin 1024) (e : Fin 32) (he : P.owner r.val = e.val) :
    outRows (F := Ideal) P ⟨x, gu, shapeCast S32x1x2048 b shapeCasts_S32x2048_S32x1x2048, dn, shapeCast S32x1x1024 d shapeCasts_S32x1024_S32x1x1024⟩ (ix2 r j)
      = expert (fun k => x (ix2 r k)) (fun k f => gu (ix3 e k f)) (fun f => b (ix2 e f)) (fun f j => dn (ix3 e f j)) (fun j => d (ix2 e j)) j := by
  have hl := e.isLt
  have hr := r.isLt
  have hx : ∀ k : Fin 1024, xBlk (F := Ideal) x (r.val / 512) (ix2 (⟨r.val % 512, Nat.mod_lt _ (by decide)⟩ : Fin 512) k) = x (ix2 r k) := fun k =>
    congrArg x ((ix2_eq_valueIdx _ _).symm.trans (congrArg (fun q => ix2 q k) (Fin.ext (by show (r.val / 512 * 512 + r.val % 512) % 66048 = r.val; omega))))
  have hq : (⟨e.val % 32, Nat.mod_lt _ (by decide)⟩ : Fin 32) = e := Fin.ext (Nat.mod_eq_of_lt hl)
  have h1 : ∀ (k : Fin 1024) (f : Fin 2048), guBlk (F := Ideal) gu e.val (ix3 0 k f) = gu (ix3 e k f) := fun k f =>
    congrArg gu ((ix3_eq_valueIdx _ _ _).symm.trans (congrArg (fun q => ix3 q k f) hq))
  have h3 : ∀ (k : Fin 1024) (f : Fin 1024), dnBlk (F := Ideal) dn e.val (ix3 0 k f) = dn (ix3 e k f) := fun k f =>
    congrArg dn ((ix3_eq_valueIdx _ _ _).symm.trans (congrArg (fun q => ix3 q k f) hq))
  have h2 : ∀ f : Fin 2048, bguBlk (F := Ideal) (shapeCast S32x1x2048 b shapeCasts_S32x2048_S32x1x2048) e.val (ix3 0 0 f) = b (ix2 e f) := fun f =>
    (congrArg (shapeCast S32x1x2048 b shapeCasts_S32x2048_S32x1x2048) ((ix3_eq_valueIdx _ _ _).symm.trans (congrArg (fun q => ix3 q 0 f) hq))).trans
      (bias_gu_apply b e f)
  have h4 : ∀ f : Fin 1024, bdnBlk (F := Ideal) (shapeCast S32x1x1024 d shapeCasts_S32x1024_S32x1x1024) e.val (ix3 0 0 f) = d (ix2 e f) := fun f =>
    (congrArg (shapeCast S32x1x1024 d shapeCasts_S32x1024_S32x1x1024) ((ix3_eq_valueIdx _ _ _).symm.trans (congrArg (fun q => ix3 q 0 f) hq))).trans
      (bias_dn_apply d e f)
  show ffn (F := Ideal) _ (P.owner r.val) (r.val / 512) (ValueIdx.ix2 (⟨r.val % 512, Nat.mod_lt _ (by decide)⟩ : Fin 512) j) = _
  rw [he, ← ix2_eq_valueIdx]
  unfold ffn
  refine (pay5_row _ _ _ _ _ _ _).trans ?_
  simp only [hx, h1, h2, h3, h4]

/-- The kernel's array is the reference's. -/
theorem agree {n : IVec S32 32} (hn : InRange n) (x : Vec Ideal S66048x1024 .f32) (gu : Vec Ideal S32x1024x2048 .f32) (b : Vec Ideal S32x2048 .f32)
    (dn : Vec Ideal S32x1024x1024 .f32) (d : Vec Ideal S32x1024 .f32) :
    Cert.ReferenceIdeal.Read.val_main_v59 (F := Ideal) n x gu b dn d
      = outRows (F := Ideal) (plan n hn) ⟨x, gu, shapeCast S32x1x2048 b shapeCasts_S32x2048_S32x1x2048, dn, shapeCast S32x1x1024 d shapeCasts_S32x1024_S32x1x1024⟩ := by
  funext z
  obtain ⟨r, j, rfl⟩ : ∃ (r : Fin 66048) (j : Fin 1024), z = ix2 r j := ⟨z 0, z 1, funext fun a => match a with
    | ⟨0, _⟩ => rfl
    | ⟨1, _⟩ => rfl⟩
  have he := (plan n hn).owner_lt r.val
  exact (Cert.ReferenceIdeal.Moe.reference_row hn x gu b dn d r j ⟨(plan n hn).owner r.val, he⟩ rfl).trans
    (kernel_row (plan n hn) x gu b dn d r j ⟨(plan n hn).owner r.val, he⟩ rfl).symm

end Cert.KernelIdeal.Moe
-- ==== Proof.MemKv.lean ====
/-
  The memory keys and values: what the kernel leaves in its four results is the two products, with heads split and rounded.
-/
module

public import proofs.«01_k».proof.Proof.Gen.Kernel2Ideal.Frame
public import proofs.«01_k».proof.Proof.Gen.Reference2Ideal.Run
public import proofs.«01_k».proof.Proof.Gen.Reference2Ideal.Read
public import proofs.«01_k».proof.Defs
public import Idealize.ShloMosaic.Lib.Pipeline.ValueKit

@[expose] public section

set_option maxRecDepth 16384

noncomputable section

namespace Cert.Kernel2Ideal.MemKv

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- One projection of the memory tokens, heads split. -/
abbrev heads (X : FVec Ideal S8x256x1024 .f32) (W : FVec Ideal S1x1024x1024 .f32) : FVec Ideal S8x256x4x256 .f32 :=
  shapeCast S8x256x4x256 (Cert.Reference2Ideal.Read.val_main_v1 (F := Ideal) X W) (by decide)

/-- The block a window stages at each point: the point's sequence, or the whole matrix. -/
theorem idx : ∀ t : Fin cfg0.N, win0_0.index t = ![t.val, 0, 0] ∧ win0_1.index t = ![0, 0] ∧ win0_2.index t = ![0, 0] ∧ win0_3.index t = ![t.val, 0, 0, 0]
    ∧ win0_4.index t = ![t.val, 0, 0, 0] ∧ win0_5.index t = ![t.val, 0, 0] ∧ win0_6.index t = ![t.val, 0, 0] :=
  (by decide +kernel : ∀ t : Fin grid0.N, _)

/-- The two matrices as the kernel finds them. -/
theorem cast_at (Y : FVec Ideal S1x1024x1024 .f32) (k j : Fin 1024) : (truncf .bf16 (shapeCast S1024x1024 Y shapeCasts_S1x1024x1024_S1024x1024 : FVec Ideal S1024x1024 .f32) bitsLt_bf16_f32 : FVec Ideal S1024x1024 .bf16) (ix2 k j) = Y (ix3 0 k j) := by
  pointwise
theorem wk_eq (c : Dev nD) : V m c main_v1 = (truncf .bf16 (shapeCast S1024x1024 (m ((c : Thread nD τ).loc main_arg1)) shapeCasts_S1x1024x1024_S1024x1024 : FVec Ideal S1024x1024 .f32) bitsLt_bf16_f32 : FVec Ideal S1024x1024 .bf16) := by
  simp only [V, V0, hostOps0, List.flatten_cons, List.flatten_nil, List.append_nil]
  after_results
  rfl
theorem wv_eq (c : Dev nD) : V m c main_v3 = (truncf .bf16 (shapeCast S1024x1024 (m ((c : Thread nD τ).loc main_arg2)) shapeCasts_S1x1024x1024_S1024x1024 : FVec Ideal S1024x1024 .f32) bitsLt_bf16_f32 : FVec Ideal S1024x1024 .bf16) := by
  simp only [V, V0, hostOps0, List.flatten_cons, List.flatten_nil, List.append_nil]
  after_results
  rfl
theorem wk_blk (c : Dev nD) (t : Fin cfg0.N) (k j : Fin 1024) : iblk m c 1 t (ix2 k j) = m ((c : Thread nD τ).loc main_arg1) (ix3 0 k j) := by
  have e : (win0_1.blk t).view.emb (ix2 k j) = ix2 k j := by blk_ext [idx t]
  refine Eq.trans ?_ (cast_at _ k j)
  rw [← wk_eq m c]
  blk_simp [iblk]
  rw [e]
theorem wv_blk (c : Dev nD) (t : Fin cfg0.N) (k j : Fin 1024) : iblk m c 2 t (ix2 k j) = m ((c : Thread nD τ).loc main_arg2) (ix3 0 k j) := by
  have e : (win0_2.blk t).view.emb (ix2 k j) = ix2 k j := by blk_ext [idx t]
  refine Eq.trans ?_ (cast_at _ k j)
  rw [← wv_eq m c]
  blk_simp [iblk]
  rw [e]

theorem point3 (c : Dev nD) (t : Fin cfg0.N) (y) : k0_pay4 (iblk m c 0 t) (iblk m c 1 t) y
    = heads (m ((c : Thread nD τ).loc main_arg0)) (m ((c : Thread nD τ).loc main_arg1)) (((cfg0.win 3).blk t).view.emb y) := by
  pointwise [k0_pay4, k0_pay2, k0_pay1, heads, Cert.Reference2Ideal.Read.val_main_v1, Cert.Reference2Ideal.Read.val_main_v0]
  refine Finset.sum_congr rfl fun x _ => congrArg₂ (fun a b : EReal => a * b) ?_ ((wk_blk m c t x ⟨(y 2).val * 256 + (y 3).val, by idx_bounds y; omega⟩).trans ?_)
  · blk_ext! [iblk, V, idx t]
  · blk_ext! [iblk, V, idx t]
theorem point4 (c : Dev nD) (t : Fin cfg0.N) (y) : k0_pay5 (iblk m c 0 t) (iblk m c 2 t) y
    = heads (m ((c : Thread nD τ).loc main_arg0)) (m ((c : Thread nD τ).loc main_arg2)) (((cfg0.win 4).blk t).view.emb y) := by
  pointwise [k0_pay5, k0_pay3, k0_pay1, heads, Cert.Reference2Ideal.Read.val_main_v1, Cert.Reference2Ideal.Read.val_main_v0]
  refine Finset.sum_congr rfl fun x _ => congrArg₂ (fun a b : EReal => a * b) ?_ ((wv_blk m c t x ⟨(y 2).val * 256 + (y 3).val, by idx_bounds y; omega⟩).trans ?_)
  · blk_ext! [iblk, V, idx t]
  · blk_ext! [iblk, V, idx t]
theorem point5 (c : Dev nD) (t : Fin cfg0.N) (y) : k0_pay6 (iblk m c 0 t) (iblk m c 1 t) y
    = Cert.Reference2Ideal.Read.val_main_v6 (m ((c : Thread nD τ).loc main_arg0)) (m ((c : Thread nD τ).loc main_arg1)) (((cfg0.win 5).blk t).view.emb y) := by
  pointwise [k0_pay6, k0_pay2, k0_pay1, Cert.Reference2Ideal.Read.val_main_v6, Cert.Reference2Ideal.Read.val_main_v1, Cert.Reference2Ideal.Read.val_main_v0]
  refine Finset.sum_congr rfl fun x _ => congrArg₂ (fun a b : EReal => a * b) ?_ ((wk_blk m c t x (y 2)).trans ?_)
  · blk_ext! [iblk, V, idx t]
  · blk_ext! [iblk, V, idx t]
theorem point6 (c : Dev nD) (t : Fin cfg0.N) (y) : k0_pay7 (iblk m c 0 t) (iblk m c 2 t) y
    = Cert.Reference2Ideal.Read.val_main_v7 (m ((c : Thread nD τ).loc main_arg0)) (m ((c : Thread nD τ).loc main_arg2)) (((cfg0.win 6).blk t).view.emb y) := by
  pointwise [k0_pay7, k0_pay3, k0_pay1, Cert.Reference2Ideal.Read.val_main_v7, Cert.Reference2Ideal.Read.val_main_v3, Cert.Reference2Ideal.Read.val_main_v2]
  refine Finset.sum_congr rfl fun x _ => congrArg₂ (fun a b : EReal => a * b) ?_ ((wv_blk m c t x (y 2)).trans ?_)
  · blk_ext! [iblk, V, idx t]
  · blk_ext! [iblk, V, idx t]

theorem final3 (c : Dev nD) : (dats m 0 c).arrAt 3 (cfgs 0).N
    = heads (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y
theorem final4 (c : Dev nD) : (dats m 0 c).arrAt 4 (cfgs 0).N
    = heads (m ((c : Thread nD τ).loc main_arg0)) (m ((c : Thread nD τ).loc main_arg2)) := by
  refine (dats m 0 c).arrAt_eq_of_covers 4 _ (by decide +kernel) fun t _ y => ?_
  blk_simp
  rw [after0_4]; frame_out
  exact point4 m c t y
theorem final5 (c : Dev nD) : (dats m 0 c).arrAt 5 (cfgs 0).N
    = Cert.Reference2Ideal.Read.val_main_v6 (m ((c : Thread nD τ).loc main_arg0)) (m ((c : Thread nD τ).loc main_arg1)) := by
  refine (dats m 0 c).arrAt_eq_of_covers 5 _ (by decide +kernel) fun t _ y => ?_
  blk_simp
  rw [after0_5]; frame_out
  exact point5 m c t y
theorem final6 (c : Dev nD) : (dats m 0 c).arrAt 6 (cfgs 0).N
    = Cert.Reference2Ideal.Read.val_main_v7 (m ((c : Thread nD τ).loc main_arg0)) (m ((c : Thread nD τ).loc main_arg2)) := by
  refine (dats m 0 c).arrAt_eq_of_covers 6 _ (by decide +kernel) fun t _ y => ?_
  blk_simp
  rw [after0_6]; frame_out
  exact point6 m c t y

/-- A leading axis of extent one put on the result is the reference's split of the heads. -/
theorem lead (X : FVec Ideal S8x256x1024 .f32) (W : FVec Ideal S1x1024x1024 .f32) (h) :
    broadcastInDim S1x8x256x4x256 ![1, 2, 3, 4] h (heads X W) = Cert.Reference2Ideal.Read.val_main_v4 (F := Ideal) X W := by
  funext i
  have e : Cert.Reference2Ideal.Read.val_main_v4 (F := Ideal) X W = shapeCast _ (Cert.Reference2Ideal.Read.val_main_v1 (F := Ideal) X W) Cert.Reference2Ideal.Gen.shapeCasts_S8x256x1024_S1x8x256x4x256 := rfl
  rw [e]
  unfold heads
  generalize Cert.Reference2Ideal.Read.val_main_v1 (F := Ideal) X W = Y
  pointwise

/-- What the operations after the kernel leave in the two results with the leading axis. -/
theorem tail5_of (dats : (p : Fin _) → (c : Dev nD) → Dat τ (Elt Ideal) Unit ℕ (UR sig nD τ) ℕ (cfgs p) c) (c : Dev nD) :
    Pipeline.afterTail₀ cfgs dats 0 (V0 m) [hostOps1] c main_v5
      = broadcastInDim S1x8x256x4x256 ![1, 2, 3, 4] bcast_S8x256x4x256_S1x8x256x4x256_1_2_3_4 ((dats 0 c).arrAt 3 (cfgs 0).N) := by
  have e : Pipeline.withArrays (cfgs 0).spec c (V0 m c) (fun w => (dats 0 c).arrAt w (cfgs 0).N) (Proc.devRef .tc main_v4_0) = (dats 0 c).arrAt 3 (cfgs 0).N :=
    Pipeline.withArrays_arr (cfgs 0).spec launch0.win.arr_inj c (V0 m c) _ 3
  unfold Pipeline.afterTail₀
  generalize Pipeline.withArrays (cfgs 0).spec c (V0 m c) (fun w => (dats 0 c).arrAt w (cfgs 0).N) = W at e ⊢
  rw [← e]
  simp only [hostOps1, List.flatten_cons, List.flatten_nil, List.append_nil]
  after_results
theorem tail6_of (dats : (p : Fin _) → (c : Dev nD) → Dat τ (Elt Ideal) Unit ℕ (UR sig nD τ) ℕ (cfgs p) c) (c : Dev nD) :
    Pipeline.afterTail₀ cfgs dats 0 (V0 m) [hostOps1] c main_v6
      = broadcastInDim S1x8x256x4x256 ![1, 2, 3, 4] bcast_S8x256x4x256_S1x8x256x4x256_1_2_3_4 ((dats 0 c).arrAt 4 (cfgs 0).N) := by
  have e : Pipeline.withArrays (cfgs 0).spec c (V0 m c) (fun w => (dats 0 c).arrAt w (cfgs 0).N) (Proc.devRef .tc main_v4_1) = (dats 0 c).arrAt 4 (cfgs 0).N :=
    Pipeline.withArrays_arr (cfgs 0).spec launch0.win.arr_inj c (V0 m c) _ 4
  unfold Pipeline.afterTail₀
  generalize Pipeline.withArrays (cfgs 0).spec c (V0 m c) (fun w => (dats 0 c).arrAt w (cfgs 0).N) = W at e ⊢
  rw [← e]
  simp only [hostOps1, List.flatten_cons, List.flatten_nil, List.append_nil]
  after_results

theorem tail5 (c : Dev nD) : Pipeline.afterTail₀ cfgs (dats m) 0 (V0 m) [hostOps1] c main_v5
    = Cert.Reference2Ideal.Read.val_main_v4 (F := Ideal) (m ((c : Thread nD τ).loc main_arg0)) (m ((c : Thread nD τ).loc main_arg1)) := by
  refine (tail5_of m (dats m) c).trans ?_
  rw [final3 m c]
  exact lead _ _ _
theorem tail6 (c : Dev nD) : Pipeline.afterTail₀ cfgs (dats m) 0 (V0 m) [hostOps1] c main_v6
    = Cert.Reference2Ideal.Read.val_main_v5 (F := Ideal) (m ((c : Thread nD τ).loc main_arg0)) (m ((c : Thread nD τ).loc main_arg2)) := by
  refine (tail6_of m (dats m) c).trans ?_
  rw [final4 m c]
  exact lead _ _ _

end Cert.Kernel2Ideal.MemKv

namespace Cert.Proof

open Idealize.ShloMosaic Idealize.ShloMosaic.TcCoe Idealize.SL.Sem

/-- Over the extended reals the kernel's four results are the reference's. -/
theorem algebraic2 : @Cert.algebraic_Kernel2Ideal_Reference2Ideal Cert.Kernel2Ideal.Gen.facts Cert.Reference2Ideal.Gen.facts := by
  pair_intro
  · run_from Cert.Kernel2Ideal.Gen.run_main m g
    · exact Cert.Kernel2Ideal.Gen.W_main_arg1 m _ c
    · exact Cert.Kernel2Ideal.Gen.W_main_arg2 m _ c
  · run_from Cert.Reference2Ideal.Value.run m' g'
    · exact (Cert.Kernel2Ideal.MemKv.tail5 m c).symm
    · exact (Cert.Kernel2Ideal.MemKv.tail6 m c).symm
    · exact (Cert.Kernel2Ideal.MemKv.final5 m c).symm
    · exact (Cert.Kernel2Ideal.MemKv.final6 m c).symm

end Cert.Proof

end
-- ==== Proof.SampleProj.lean ====
/-
  The step's keys and values: the kernel's product, its column ranges cut and the heads split, is the reference's.
-/
module

public import proofs.«01_k».proof.Proof.Gen.Kernel3Ideal.Frame
public import proofs.«01_k».proof.Proof.Gen.Reference3Ideal.Run
public import proofs.«01_k».proof.Proof.Gen.Reference3Ideal.Read
public import proofs.«01_k».proof.Defs
public import Idealize.ShloMosaic.Lib.Pipeline.ValueKit

@[expose] public section

set_option maxRecDepth 16384

noncomputable section

namespace Cert.Kernel3Ideal.SampleProj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The projection of every sequence's token, the axis of extent one dropped. -/
abbrev proj (X : FVec Ideal S32x1x1024 .f32) (W : FVec Ideal S1x1024x3072 .f32) : FVec Ideal S32x3072 .f32 :=
  shapeCast S32x3072 (Cert.Reference3Ideal.Read.val_main_v1 (F := Ideal) X W) (by decide)

/-- The block a window stages at each point: all the rows, or the point's 512 columns. -/
theorem idx : ∀ t : Fin cfg0.N, win0_0.index t = ![0, 0] ∧ win0_1.index t = ![0, t.val] ∧ win0_2.index t = ![0, t.val] :=
  (by decide +kernel : ∀ t : Fin grid0.N, _)

/-- The matrix and the tokens as the kernel finds them. -/
theorem w_eq (c : Dev nD) : V m c main_v1 = (truncf .bf16 (shapeCast S1024x3072 (m ((c : Thread nD τ).loc main_arg1)) shapeCasts_S1x1024x3072_S1024x3072 : FVec Ideal S1024x3072 .f32) bitsLt_bf16_f32 : FVec Ideal S1024x3072 .bf16) := by
  simp only [V, V0, hostOps0, List.flatten_cons, List.flatten_nil, List.append_nil]
  after_results
  rfl
theorem x_eq (c : Dev nD) : V m c main_v2 = (shapeCast S32x1024 (m ((c : Thread nD τ).loc main_arg0)) shapeCasts_S32x1x1024_S32x1024 : FVec Ideal S32x1024 .f32) := by
  simp only [V, V0, hostOps0, List.flatten_cons, List.flatten_nil, List.append_nil]
  after_results
  rfl
theorem cast_w (Y : FVec Ideal S1x1024x3072 .f32) (k : Fin 1024) (j : Fin 3072) : (truncf .bf16 (shapeCast S1024x3072 Y shapeCasts_S1x1024x3072_S1024x3072 : FVec Ideal S1024x3072 .f32) bitsLt_bf16_f32 : FVec Ideal S1024x3072 .bf16) (ix2 k j) = Y (ix3 0 k j) := by
  pointwise
theorem cast_x (Y : FVec Ideal S32x1x1024 .f32) (r : Fin 32) (k : Fin 1024) : (shapeCast S32x1024 Y shapeCasts_S32x1x1024_S32x1024 : FVec Ideal S32x1024 .f32) (ix2 r k) = Y (ix3 r 0 k) := by
  pointwise
theorem w_blk (c : Dev nD) (t : Fin cfg0.N) (k : Fin 1024) (j : Fin 512) (j' : Fin 3072) (hj : j'.val = t.val * 512 + j.val) :
    iblk m c 1 t (ix2 k j) = m ((c : Thread nD τ).loc main_arg1) (ix3 0 k j') := by
  have e : (win0_1.blk t).view.emb (ix2 k j) = ix2 k j' := by blk_ext [idx t]
  refine Eq.trans ?_ (cast_w _ k j')
  rw [← w_eq m c]
  blk_simp [iblk]
  rw [e]
theorem x_blk (c : Dev nD) (t : Fin cfg0.N) (r : Fin 32) (k : Fin 1024) : iblk m c 0 t (ix2 r k) = m ((c : Thread nD τ).loc main_arg0) (ix3 r 0 k) := by
  have e : (win0_0.blk t).view.emb (ix2 r k) = ix2 r k := by blk_ext [idx t]
  refine Eq.trans ?_ (cast_x _ r k)
  rw [← x_eq m c]
  blk_simp [iblk]
  rw [e]

theorem pay_at (x : Vec Ideal S32x1024 .f32) (w : Vec Ideal S1024x512 .bf16) (r : Fin 32) (j : Fin 512) : k0_pay1 x w (ix2 r j) = ∑ k : Fin 1024, x (ix2 r k) * w (ix2 k j) := by
  pointwise [k0_pay1]
theorem proj_at (X : FVec Ideal S32x1x1024 .f32) (W : FVec Ideal S1x1024x3072 .f32) (r : Fin 32) (j : Fin 3072) : proj X W (ix2 r j) = ∑ k : Fin 1024, X (ix3 r 0 k) * W (ix3 0 k j) := by
  pointwise [proj, Cert.Reference3Ideal.Read.val_main_v1, Cert.Reference3Ideal.Read.val_main_v0]

theorem point (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  obtain ⟨r, j, rfl⟩ : ∃ (r : Fin 32) (j : Fin 512), y = ix2 r j := ⟨y 0, y 1, by blk_ext⟩
  have ht : t.val < 6 := lt_of_lt_of_eq t.isLt N_0
  have e : ((cfg0.win 2).blk t).view.emb (ix2 r j) = ix2 r (⟨t.val * 512 + j.val, by omega⟩ : Fin 3072) := by blk_ext [idx t]
  rw [e]
  refine (pay_at _ _ r j).trans (Eq.trans ?_ (proj_at _ _ r _).symm)
  exact Finset.sum_congr rfl fun k _ => congrArg₂ (fun a b : EReal => a * b) (x_blk m c t r k) (w_blk m c t k j _ rfl)

theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The keys' and the values' columns, the heads split. -/
theorem cut_k (X : FVec Ideal S32x1x1024 .f32) (W : FVec Ideal S1x1024x3072 .f32) (h h') :
    shapeCast S1x32x1x12x64 (extractStridedSlice S32x768 ![0, 1536] (proj X W) h) h' = Cert.Reference3Ideal.Read.val_main_v3 (F := Ideal) X W := by
  funext i
  unfold Cert.Reference3Ideal.Read.val_main_v3 Cert.Reference3Ideal.Read.val_main_v2 proj
  generalize Cert.Reference3Ideal.Read.val_main_v1 (F := Ideal) X W = Y
  pointwise
theorem cut_v (X : FVec Ideal S32x1x1024 .f32) (W : FVec Ideal S1x1024x3072 .f32) (h h') :
    shapeCast S1x32x1x12x64 (extractStridedSlice S32x768 ![0, 2304] (proj X W) h) h' = Cert.Reference3Ideal.Read.val_main_v5 (F := Ideal) X W := by
  funext i
  unfold Cert.Reference3Ideal.Read.val_main_v5 Cert.Reference3Ideal.Read.val_main_v4 proj
  generalize Cert.Reference3Ideal.Read.val_main_v1 (F := Ideal) X W = Y
  pointwise

/-- What the operations after the kernel leave in the two results. -/
theorem tail6_of (dats : (p : Fin _) → (c : Dev nD) → Dat τ (Elt Ideal) Unit ℕ (UR sig nD τ) ℕ (cfgs p) c) (c : Dev nD) :
    Pipeline.afterTail₀ cfgs dats 0 (V0 m) [hostOps1] c main_v6
      = shapeCast S1x32x1x12x64 (extractStridedSlice S32x768 ![0, 1536] ((dats 0 c).arrAt 2 (cfgs 0).N) slices_S32x3072_S32x768_0_1536) shapeCasts_S32x768_S1x32x1x12x64 := by
  have e : Pipeline.withArrays (cfgs 0).spec c (V0 m c) (fun w => (dats 0 c).arrAt w (cfgs 0).N) (Proc.devRef .tc main_v3) = (dats 0 c).arrAt 2 (cfgs 0).N :=
    Pipeline.withArrays_arr (cfgs 0).spec launch0.win.arr_inj c (V0 m c) _ 2
  unfold Pipeline.afterTail₀
  generalize Pipeline.withArrays (cfgs 0).spec c (V0 m c) (fun w => (dats 0 c).arrAt w (cfgs 0).N) = W at e ⊢
  rw [← e]
  simp only [hostOps1, List.flatten_cons, List.flatten_nil, List.append_nil]
  after_results
  rfl
theorem tail7_of (dats : (p : Fin _) → (c : Dev nD) → Dat τ (Elt Ideal) Unit ℕ (UR sig nD τ) ℕ (cfgs p) c) (c : Dev nD) :
    Pipeline.afterTail₀ cfgs dats 0 (V0 m) [hostOps1] c main_v7
      = shapeCast S1x32x1x12x64 (extractStridedSlice S32x768 ![0, 2304] ((dats 0 c).arrAt 2 (cfgs 0).N) slices_S32x3072_S32x768_0_2304) shapeCasts_S32x768_S1x32x1x12x64 := by
  have e : Pipeline.withArrays (cfgs 0).spec c (V0 m c) (fun w => (dats 0 c).arrAt w (cfgs 0).N) (Proc.devRef .tc main_v3) = (dats 0 c).arrAt 2 (cfgs 0).N :=
    Pipeline.withArrays_arr (cfgs 0).spec launch0.win.arr_inj c (V0 m c) _ 2
  unfold Pipeline.afterTail₀
  generalize Pipeline.withArrays (cfgs 0).spec c (V0 m c) (fun w => (dats 0 c).arrAt w (cfgs 0).N) = W at e ⊢
  rw [← e]
  simp only [hostOps1, List.flatten_cons, List.flatten_nil, List.append_nil]
  after_results
  rfl

theorem tail6 (c : Dev nD) : Pipeline.afterTail₀ cfgs (dats m) 0 (V0 m) [hostOps1] c main_v6
    = Cert.Reference3Ideal.Read.val_main_v3 (F := Ideal) (m ((c : Thread nD τ).loc main_arg0)) (m ((c : Thread nD τ).loc main_arg1)) := by
  refine (tail6_of m (dats m) c).trans ?_
  rw [final m c]
  exact cut_k _ _ _ _
theorem tail7 (c : Dev nD) : Pipeline.afterTail₀ cfgs (dats m) 0 (V0 m) [hostOps1] c main_v7
    = Cert.Reference3Ideal.Read.val_main_v5 (F := Ideal) (m ((c : Thread nD τ).loc main_arg0)) (m ((c : Thread nD τ).loc main_arg1)) := by
  refine (tail7_of m (dats m) c).trans ?_
  rw [final m c]
  exact cut_v _ _ _ _

end Cert.Kernel3Ideal.SampleProj

namespace Cert.Proof

open Idealize.ShloMosaic Idealize.ShloMosaic.TcCoe Idealize.SL.Sem

/-- Over the extended reals the kernel's two results are the reference's. -/
theorem algebraic3 : @Cert.algebraic_Kernel3Ideal_Reference3Ideal Cert.Kernel3Ideal.Gen.facts Cert.Reference3Ideal.Gen.facts := by
  pair_intro
  · run_from Cert.Kernel3Ideal.Gen.run_main m g
    · exact Cert.Kernel3Ideal.Gen.W_main_arg0 m _ c
    · exact Cert.Kernel3Ideal.Gen.W_main_arg1 m _ c
  · run_from Cert.Reference3Ideal.Value.run m' g'
    · exact (Cert.Kernel3Ideal.SampleProj.tail6 m c).symm
    · exact (Cert.Kernel3Ideal.SampleProj.tail7 m c).symm

end Cert.Proof

end
-- ==== Proof.Prompt.Host.lean ====
/-
  The prompt's projections: the operands of the projection as the kernel finds them, and its product's columns at a grid point.
-/
module

public import proofs.«01_k».proof.Proof.Gen.Kernel4Ideal.Frame
public import Idealize.ShloMosaic.Lib.Pipeline.ValueKit

@[expose] public section

set_option maxRecDepth 16384

noncomputable section

namespace Cert.Kernel4Ideal.Prompt

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

theorem w_eq (c : Dev nD) : V m c main_v92 = (truncf .bf16 (shapeCast S1024x3072 (m ((c : Thread nD τ).loc main_arg1)) shapeCasts_S1x1024x3072_S1024x3072 : FVec Ideal S1024x3072 .f32) bitsLt_bf16_f32 : FVec Ideal S1024x3072 .bf16) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl
theorem c_eq (c : Dev nD) : V m c main_v96 = (shapeCast S3x256 (m ((c : Thread nD τ).loc main_arg2)) shapeCasts_S1x3x256_S3x256 : FVec Ideal S3x256 .f32) := by
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- The block a window stages at each point: tile `t % 4` of row `t / 4`, or the whole matrix. -/
theorem idx : ∀ t : Fin cfg0.N, win0_0.index t = ![t.val / 4, t.val % 4, 0] ∧ win0_1.index t = ![0, 0] ∧ win0_2.index t = ![0, 0]
    ∧ win0_10.index t = ![t.val / 4, t.val % 4, 0] ∧ win0_11.index t = ![t.val / 4, t.val % 4, 0] ∧ win0_12.index t = ![t.val / 4, t.val % 4, 0]
    ∧ win0_13.index t = ![t.val / 4, t.val % 4, 0] ∧ win0_14.index t = ![t.val / 4, 0, 0] :=
  (by decide +kernel : ∀ t : Fin grid0.N, _)

theorem cast_w (Y : FVec Ideal S1x1024x3072 .f32) (k : Fin 1024) (j : Fin 3072) : (truncf .bf16 (shapeCast S1024x3072 Y shapeCasts_S1x1024x3072_S1024x3072 : FVec Ideal S1024x3072 .f32) bitsLt_bf16_f32 : FVec Ideal S1024x3072 .bf16) (ix2 k j) = Y (ix3 0 k j) := by
  pointwise
theorem cast_c (Y : FVec Ideal S1x3x256 .f32) (i : Fin 3) (j : Fin 256) : (shapeCast S3x256 Y shapeCasts_S1x3x256_S3x256 : FVec Ideal S3x256 .f32) (ix2 i j) = Y (ix3 0 i j) := by
  pointwise
theorem w_blk (c : Dev nD) (t : Fin cfg0.N) (k : Fin 1024) (j : Fin 3072) : iblk m c 1 t (ix2 k j) = m ((c : Thread nD τ).loc main_arg1) (ix3 0 k j) := by
  have e : (win0_1.blk t).view.emb (ix2 k j) = ix2 k j := by blk_ext [idx t]
  refine Eq.trans ?_ (cast_w _ k j)
  rw [← w_eq m c]
  blk_simp [iblk]
  rw [e]
theorem c_blk (c : Dev nD) (t : Fin cfg0.N) (i : Fin 3) (j : Fin 256) : iblk m c 2 t (ix2 i j) = m ((c : Thread nD τ).loc main_arg2) (ix3 0 i j) := by
  have e : (win0_2.blk t).view.emb (ix2 i j) = ix2 i j := by blk_ext [idx t]
  refine Eq.trans ?_ (cast_c _ i j)
  rw [← c_eq m c]
  blk_simp [iblk]
  rw [e]
theorem x_blk (c : Dev nD) (t : Fin cfg0.N) (r : Fin 512) (k : Fin 1024) (b : Fin 8) (s : Fin 2048) (hb : b.val = t.val / 4) (hs : s.val = t.val % 4 * 512 + r.val) :
    iblk m c 0 t (ix3 0 r k) = m ((c : Thread nD τ).loc main_arg0) (ix3 b s k) := by
  blk_point [iblk, V, idx t]

/-- A range of the matrix's columns, read at an entry. -/
theorem w_ld (c : Dev nD) (t : Fin cfg0.N) (o n : ℕ) (h : ∀ a, ![0, o] a + ![1024, n] a ≤ S1024x3072.size a) (k : Fin 1024) (j : Fin n) (j' : Fin 3072) (hj : j'.val = o + j.val) :
    View.ld (iblk m c 1 t) (Rect.unit ![0, o] ![1024, n] h) (ix2 k j) = m ((c : Thread nD τ).loc main_arg1) (ix3 0 k j') := by
  refine Eq.trans ?_ (w_blk m c t k j')
  have e : (Rect.unit (s := S1024x3072) ![0, o] ![1024, n] h).emb (ix2 k j) = ix2 k j' := by
    funext a
    refine Fin.ext ?_
    fin_cases a
    · show 0 + 1 * k.val = k.val
      omega
    · show o + 1 * j.val = j'.val
      omega
  exact congrArg (iblk m c 1 t) e

/-- The projection at an entry of the prompt. -/
abbrev dotAt (X : FVec Ideal S8x2048x1024 .f32) (W : FVec Ideal S1x1024x3072 .f32) (b : Fin 8) (s : Fin 2048) (j : Fin 3072) : EReal :=
  ∑ k : Fin 1024, X (ix3 b s k) * W (ix3 0 k j)

/-- The product of a tile's row with a column of the range read. -/
abbrev tileDot {n : ℕ} (x : Vec Ideal S1x512x1024 .f32) (w : Vec Ideal ⟨2, ![1024, n]⟩ .bf16) (r : Fin 512) (j : Fin n) : EReal :=
  ∑ k : Fin 1024, x (ix3 0 r k) * w (ix2 k j)

theorem dot_blk (c : Dev nD) (t : Fin cfg0.N) (o n : ℕ) (h : ∀ a, ![0, o] a + ![1024, n] a ≤ S1024x3072.size a) (r : Fin 512) (j : Fin n)
    (b : Fin 8) (s : Fin 2048) (j' : Fin 3072) (hb : b.val = t.val / 4) (hs : s.val = t.val % 4 * 512 + r.val) (hj : j'.val = o + j.val) :
    tileDot (iblk m c 0 t) (View.ld (iblk m c 1 t) (Rect.unit ![0, o] ![1024, n] h)) r j
      = dotAt (m ((c : Thread nD τ).loc main_arg0)) (m ((c : Thread nD τ).loc main_arg1)) b s j' :=
  Finset.sum_congr rfl fun k _ => congrArg₂ (fun a b : EReal => a * b) (x_blk m c t r k b s hb hs) (w_ld m c t o n h k j j' hj)

theorem pay10_at (x : Vec Ideal S1x512x1024 .f32) (w : Vec Ideal S1024x768 .bf16) (r : Fin 512) (j : Fin 768) :
    k0_pay10 (k0_pay3 x) w (ix3 0 r j) = tileDot x w r j := by
  pointwise [tileDot, k0_pay10, k0_pay3]
theorem pay11_at (x : Vec Ideal S1x512x1024 .f32) (w : Vec Ideal S1024x768 .bf16) (r : Fin 512) (j : Fin 768) :
    k0_pay11 (k0_pay3 x) w (ix3 0 r j) = tileDot x w r j := by
  pointwise [tileDot, k0_pay11, k0_pay3]
theorem pay9_at (x : Vec Ideal S1x512x1024 .f32) (w : Vec Ideal S1024x768 .bf16) (r : Fin 512) (j : Fin 768) :
    k0_pay9 (k0_pay3 x) w (ix3 0 r j) = tileDot x w r j * Scalar.ofBits (F := Ideal) .f32 0x3E000000#32 := by
  pointwise [k0_pay9, k0_pay3]
theorem pay4_at (x : Vec Ideal S1x512x1024 .f32) (w : Vec Ideal S1024x256 .bf16) (r : Fin 512) (j : Fin 256) :
    k0_pay4 x w (ix2 r j) = tileDot x w r j := by
  pointwise [tileDot, k0_pay4, k0_pay3]
theorem pay6_at (x : Vec Ideal S1x512x1024 .f32) (w w' : Vec Ideal S1024x256 .bf16) (r : Fin 512) (j : Fin 256) :
    k0_pay6 x w w' (ix2 r j) = tileDot x w r j * tileDot x w' r j := by
  pointwise [tileDot, k0_pay6, k0_pay5, k0_pay3]
theorem pay5_at (x : Vec Ideal S1x512x1024 .f32) (w w' : Vec Ideal S1024x256 .bf16) (r : Fin 512) (j : Fin 256) :
    k0_pay5 x w w' (ix2 r j) = tileDot x w r j * tileDot x w' r j := by
  pointwise [tileDot, k0_pay5, k0_pay3]
theorem pay2_at (i : S8x256.Idx) : k0_pay2 (F := Ideal) i = 0 := by
  pointwise [k0_pay2]
theorem pay7_at (x : Vec Ideal S1x512x1024 .f32) (w w' : Vec Ideal S1024x256 .bf16) (f : Vec Ideal S3x256 .f32) (p q : Vec Ideal S512x256 .f32) (r : Fin 512) (j : Fin 256) :
    k0_pay7 x w w' f p q (ix2 r j) = f (ix2 0 j) * p (ix2 r j) + f (ix2 1 j) * q (ix2 r j) + f (ix2 2 j) * k0_pay5 x w w' (ix2 r j) := by
  pointwise [k0_pay7]
theorem pay8_at (g v : FVec Ideal S512x256 .f32) (r : Fin 512) (j : Fin 256) : k0_pay8 g v (ix3 0 r j) = g (ix2 r j) * v (ix2 r j) := by
  pointwise [k0_pay8]
theorem pay13_at (s : Vec Ideal S8x256 .f32) (r : Fin 8) (j : Fin 256) : k0_pay13 s (ix3 0 r j) = s (ix2 r j) := by
  pointwise [k0_pay13]
theorem pay12_at (s : Vec Ideal S8x256 .f32) (r : Fin 8) (j : Fin 256) : k0_pay12 s (ix2 r j) = s (ix2 r j) := by
  pointwise [k0_pay12]

end Cert.Kernel4Ideal.Prompt

end
-- ==== Proof.Prompt.Value.lean ====
/-
  The prompt's projections: what the kernel's call leaves in the queries, keys and values, the gated convolution and
  the convolution's state is the reference's.
-/
module

public import proofs.«01_k».proof.Proof.Prompt.Host
public import proofs.«01_k».proof.Proof.Gen.Reference4Ideal.Run
public import proofs.«01_k».proof.Proof.Gen.Reference4Ideal.Read
public import proofs.«01_k».proof.Defs
public import Idealize.ShloMosaic.Lib.WritesUnit

@[expose] public section

set_option maxRecDepth 16384

noncomputable section

namespace Cert.Kernel4Ideal.Prompt

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The reference's projection columns, its gated input and that input after two rows of zeros. -/
abbrev refQ := Cert.Reference4Ideal.Read.val_main_v34 (F := Ideal)
abbrev refK := Cert.Reference4Ideal.Read.val_main_v6 (F := Ideal)
abbrev refV := Cert.Reference4Ideal.Read.val_main_v7 (F := Ideal)
abbrev refU := Cert.Reference4Ideal.Read.val_main_v8 (F := Ideal)
abbrev refPad := Cert.Reference4Ideal.Read.val_main_v10 (F := Ideal)
abbrev refConv := Cert.Reference4Ideal.Read.val_main_v32 (F := Ideal)

theorem refK_at (X : FVec Ideal S8x2048x1024 .f32) (W : FVec Ideal S1x1024x3072 .f32) (b : Fin 8) (s : Fin 2048) (j : Fin 768) :
    refK X W (ix3 b s j) = dotAt X W b s ⟨1536 + j.val, by omega⟩ := by
  pointwise [refK, dotAt, Cert.Reference4Ideal.Read.val_main_v6, Cert.Reference4Ideal.Read.val_main_v1, Cert.Reference4Ideal.Read.val_main_v0]
theorem refV_at (X : FVec Ideal S8x2048x1024 .f32) (W : FVec Ideal S1x1024x3072 .f32) (b : Fin 8) (s : Fin 2048) (j : Fin 768) :
    refV X W (ix3 b s j) = dotAt X W b s ⟨2304 + j.val, by omega⟩ := by
  pointwise [refV, dotAt, Cert.Reference4Ideal.Read.val_main_v7, Cert.Reference4Ideal.Read.val_main_v1, Cert.Reference4Ideal.Read.val_main_v0]
theorem refQ_at (X : FVec Ideal S8x2048x1024 .f32) (W : FVec Ideal S1x1024x3072 .f32) (b : Fin 8) (s : Fin 2048) (j : Fin 768) :
    refQ X W (ix3 b s j) = dotAt X W b s ⟨768 + j.val, by omega⟩ * Scalar.ofBits (F := Ideal) .f32 0x3E000000#32 := by
  pointwise [refQ, dotAt, Cert.Reference4Ideal.Read.val_main_v34, Cert.Reference4Ideal.Read.val_main_v33, Cert.Reference4Ideal.Read.val_main_cst_0, Cert.Reference4Ideal.Read.val_main_v5, Cert.Reference4Ideal.Read.val_main_v1, Cert.Reference4Ideal.Read.val_main_v0]
theorem refU_at (X : FVec Ideal S8x2048x1024 .f32) (W : FVec Ideal S1x1024x3072 .f32) (b : Fin 8) (s : Fin 2048) (j : Fin 256) :
    refU X W (ix3 b s j) = dotAt X W b s ⟨256 + j.val, by omega⟩ * dotAt X W b s ⟨512 + j.val, by omega⟩ := by
  pointwise [refU, dotAt, Cert.Reference4Ideal.Read.val_main_v8, Cert.Reference4Ideal.Read.val_main_v3, Cert.Reference4Ideal.Read.val_main_v4, Cert.Reference4Ideal.Read.val_main_v1, Cert.Reference4Ideal.Read.val_main_v0]
theorem refPad_lo (X : FVec Ideal S8x2048x1024 .f32) (W : FVec Ideal S1x1024x3072 .f32) (b : Fin 8) (s : Fin 2050) (j : Fin 256) (h : s.val < 2) :
    refPad X W (ix3 b s j) = 0 := by
  pointwise [refPad, Cert.Reference4Ideal.Read.val_main_v10, Cert.Reference4Ideal.Read.val_main_v9, Cert.Reference4Ideal.Read.val_main_cst]
  exact dif_pos h
theorem refPad_hi (X : FVec Ideal S8x2048x1024 .f32) (W : FVec Ideal S1x1024x3072 .f32) (b : Fin 8) (s : Fin 2050) (s' : Fin 2048) (j : Fin 256) (h : s.val = 2 + s'.val) :
    refPad X W (ix3 b s j) = refU X W (ix3 b s' j) := by
  pointwise [refPad, refU, Cert.Reference4Ideal.Read.val_main_v10]
  rw [dif_neg (by omega : ¬ s.val < 2)]
  have e : (⟨s.val - 2, by omega⟩ : Fin 2048) = s' := Fin.ext (by show s.val - 2 = s'.val; omega)
  rw [e]
theorem refConv_at (X : FVec Ideal S8x2048x1024 .f32) (W : FVec Ideal S1x1024x3072 .f32) (C : FVec Ideal S1x3x256 .f32) (b : Fin 8) (s : Fin 2048) (j : Fin 256) :
    refConv X W C (ix3 b s j) = dotAt X W b s ⟨j.val, by omega⟩
      * (C (ix3 0 0 j) * refPad X W (ix3 b ⟨s.val, by omega⟩ j) + C (ix3 0 1 j) * refPad X W (ix3 b ⟨1 + s.val, by omega⟩ j) + C (ix3 0 2 j) * refPad X W (ix3 b ⟨2 + s.val, by omega⟩ j)) := by
  pointwise [refConv, dotAt, refPad, Cert.Reference4Ideal.Read.val_main_v32, Cert.Reference4Ideal.Read.val_main_v31, Cert.Reference4Ideal.Read.val_main_v30, Cert.Reference4Ideal.Read.val_main_v29, Cert.Reference4Ideal.Read.val_main_v28, Cert.Reference4Ideal.Read.val_main_v27, Cert.Reference4Ideal.Read.val_main_v26, Cert.Reference4Ideal.Read.val_main_v25, Cert.Reference4Ideal.Read.val_main_v24, Cert.Reference4Ideal.Read.val_main_v23, Cert.Reference4Ideal.Read.val_main_v22, Cert.Reference4Ideal.Read.val_main_v21, Cert.Reference4Ideal.Read.val_main_v20, Cert.Reference4Ideal.Read.val_main_v19, Cert.Reference4Ideal.Read.val_main_v18, Cert.Reference4Ideal.Read.val_main_v17, Cert.Reference4Ideal.Read.val_main_v16, Cert.Reference4Ideal.Read.val_main_v15, Cert.Reference4Ideal.Read.val_main_v14, Cert.Reference4Ideal.Read.val_main_v13, Cert.Reference4Ideal.Read.val_main_v12, Cert.Reference4Ideal.Read.val_main_v11, Cert.Reference4Ideal.Read.val_main_v2, Cert.Reference4Ideal.Read.val_main_v1, Cert.Reference4Ideal.Read.val_main_v0]

/-! ## Queries, keys and values -/

theorem k_point (c : Dev nD) (t : Fin cfg0.N) (y) : (outsAt0 m c t.val t.isLt).2.2.1 y
    = refK (m ((c : Thread nD τ).loc main_arg0)) (m ((c : Thread nD τ).loc main_arg1)) (((cfg0.win 12).blk t).view.emb y) := by
  obtain ⟨r, j, rfl⟩ : ∃ (r : Fin 512) (j : Fin 768), y = ix3 0 r j := ⟨y 1, y 2, by blk_ext⟩
  have ht : t.val < 32 := lt_of_lt_of_eq t.isLt N_0
  have e : ((cfg0.win 12).blk t).view.emb (ix3 0 r j) = ix3 (⟨t.val / 4, by omega⟩ : Fin 8) (⟨t.val % 4 * 512 + r.val, by omega⟩ : Fin 2048) j := by blk_ext [idx t]
  rw [e]
  refine Eq.trans ?_ ((dot_blk m c t 1536 768 inb_S1024x3072_S1024x768_0_1536 r j _ _ _ rfl rfl rfl).trans (refK_at _ _ _ _ j).symm)
  by_cases h : t.val % 4 = 0
  · rw [outsAt0_A m c t h]; frame_out
    exact pay10_at _ _ r j
  · rw [outsAt0_B m c t h]; frame_out
    exact pay10_at _ _ r j
theorem v_point (c : Dev nD) (t : Fin cfg0.N) (y) : (outsAt0 m c t.val t.isLt).2.2.2.1 y
    = refV (m ((c : Thread nD τ).loc main_arg0)) (m ((c : Thread nD τ).loc main_arg1)) (((cfg0.win 13).blk t).view.emb y) := by
  obtain ⟨r, j, rfl⟩ : ∃ (r : Fin 512) (j : Fin 768), y = ix3 0 r j := ⟨y 1, y 2, by blk_ext⟩
  have ht : t.val < 32 := lt_of_lt_of_eq t.isLt N_0
  have e : ((cfg0.win 13).blk t).view.emb (ix3 0 r j) = ix3 (⟨t.val / 4, by omega⟩ : Fin 8) (⟨t.val % 4 * 512 + r.val, by omega⟩ : Fin 2048) j := by blk_ext [idx t]
  rw [e]
  refine Eq.trans ?_ ((dot_blk m c t 2304 768 inb_S1024x3072_S1024x768_0_2304 r j _ _ _ rfl rfl rfl).trans (refV_at _ _ _ _ j).symm)
  by_cases h : t.val % 4 = 0
  · rw [outsAt0_A m c t h]; frame_out
    exact pay11_at _ _ r j
  · rw [outsAt0_B m c t h]; frame_out
    exact pay11_at _ _ r j
theorem q_point (c : Dev nD) (t : Fin cfg0.N) (y) : (outsAt0 m c t.val t.isLt).2.1 y
    = refQ (m ((c : Thread nD τ).loc main_arg0)) (m ((c : Thread nD τ).loc main_arg1)) (((cfg0.win 11).blk t).view.emb y) := by
  obtain ⟨r, j, rfl⟩ : ∃ (r : Fin 512) (j : Fin 768), y = ix3 0 r j := ⟨y 1, y 2, by blk_ext⟩
  have ht : t.val < 32 := lt_of_lt_of_eq t.isLt N_0
  have e : ((cfg0.win 11).blk t).view.emb (ix3 0 r j) = ix3 (⟨t.val / 4, by omega⟩ : Fin 8) (⟨t.val % 4 * 512 + r.val, by omega⟩ : Fin 2048) j := by blk_ext [idx t]
  rw [e]
  refine Eq.trans ?_ ((congrArg (fun a : EReal => a * Scalar.ofBits (F := Ideal) .f32 0x3E000000#32) (dot_blk m c t 768 768 inb_S1024x3072_S1024x768_0_768 r j _ _ _ rfl rfl rfl)).trans (refQ_at _ _ _ _ j).symm)
  by_cases h : t.val % 4 = 0
  · rw [outsAt0_A m c t h]; frame_out
    exact pay9_at _ _ r j
  · rw [outsAt0_B m c t h]; frame_out
    exact pay9_at _ _ r j

theorem k_final (c : Dev nD) : (dats m 0 c).arrAt 12 (cfgs 0).N = refK (m ((c : Thread nD τ).loc main_arg0)) (m ((c : Thread nD τ).loc main_arg1)) := by
  refine (dats m 0 c).arrAt_eq_of_covers 12 _ (by decide +kernel) fun t _ y => ?_
  blk_simp
  rw [after0_12]
  exact k_point m c t y
theorem v_final (c : Dev nD) : (dats m 0 c).arrAt 13 (cfgs 0).N = refV (m ((c : Thread nD τ).loc main_arg0)) (m ((c : Thread nD τ).loc main_arg1)) := by
  refine (dats m 0 c).arrAt_eq_of_covers 13 _ (by decide +kernel) fun t _ y => ?_
  blk_simp
  rw [after0_13]
  exact v_point m c t y
theorem q_final (c : Dev nD) : (dats m 0 c).arrAt 11 (cfgs 0).N = refQ (m ((c : Thread nD τ).loc main_arg0)) (m ((c : Thread nD τ).loc main_arg1)) := by
  refine (dats m 0 c).arrAt_eq_of_covers 11 _ (by decide +kernel) fun t _ y => ?_
  blk_simp
  rw [after0_11]
  exact q_point m c t y

/-! ## The gated input's rows as the scratch holds them -/

/-- The gated input of a point's tile. -/
abbrev tileU (c : Dev nD) (t : Fin cfg0.N) : FVec Ideal S512x256 .f32 :=
  k0_pay6 (iblk m c 0 t) (View.ld (iblk m c 1 t) (Rect.unit ![0, 256] ![1024, 256] inb_S1024x3072_S1024x256_0_256))
    (View.ld (iblk m c 1 t) (Rect.unit ![0, 512] ![1024, 256] inb_S1024x3072_S1024x256_0_512))

abbrev stage : View sig .tc .vmem S520x256 .f32 := View.whole cc0_scratch0

/-- The piece the tile's rows are stored as: rows 8 to 519. -/
abbrev body (P : FVec Ideal S512x256 .f32) : View.Piece (Elt Ideal) S520x256 .f32 :=
  ⟨Rect.unit ![8, 0] ![512, 256] inb_S520x256_S512x256_8_0, P⟩
/-- The piece the rows before the tile are stored as: rows 0 to 7. -/
abbrev lead (Z : FVec Ideal S8x256 .f32) : View.Piece (Elt Ideal) S520x256 .f32 :=
  ⟨Rect.unit ![0, 0] ![8, 256] inb_S520x256_S8x256_0_0, Z⟩

theorem stage_body (f) (P : FVec Ideal S512x256 .f32) (L) (i : S520x256.Idx) (r : Fin 512) (j : Fin 256) (h0 : (i 0).val = 8 + r.val) (h1 : (i 1).val = j.val) :
    stage.read (Elt Ideal) (stage.writes (Elt Ideal) f (body P :: L)) i = P (ix2 r j) :=
  View.read_writes_cons_rows_of_mem stage f _ P L i (ix2 r j) rfl h0 h1
theorem stage_above (f) (P : FVec Ideal S512x256 .f32) (L) (i : S520x256.Idx) (h0 : (i 0).val < 8) :
    stage.read (Elt Ideal) (stage.writes (Elt Ideal) f (body P :: L)) i = stage.read (Elt Ideal) (stage.writes (Elt Ideal) f L) i :=
  View.read_writes_cons_rows_of_not_mem stage f _ P L i rfl rfl (Or.inl h0)
theorem stage_lead (f) (Z : FVec Ideal S8x256 .f32) (L) (i : S520x256.Idx) (r : Fin 8) (j : Fin 256) (h0 : (i 0).val = r.val) (h1 : (i 1).val = j.val) :
    stage.read (Elt Ideal) (stage.writes (Elt Ideal) f (lead Z :: L)) i = Z (ix2 r j) :=
  View.read_writes_cons_rows_of_mem stage f _ Z L i (ix2 r j) rfl (by rw [h0]; exact (Nat.zero_add _).symm) h1

/-- A load of rows `o` on, in the words of the stores before it. -/
theorem readCov_at (L : List (View.Piece (Elt Ideal) S520x256 .f32)) (o n : ℕ) (h : ∀ a, ![o, 0] a + ![n, 256] a ≤ S520x256.size a)
    (r : Fin n) (j : Fin 256) (i : Fin 520) (hi : i.val = o + r.val) :
    stage.readCov L (Rect.unit (s := S520x256) ![o, 0] ![n, 256] h).toLoadRect (ix2 r j)
      = stage.read (Elt Ideal) (stage.writes (Elt Ideal) stage.junk L) (ix2 i j) := by
  have e : (Rect.unit (s := S520x256) ![o, 0] ![n, 256] h).toLoadRect.idx (ix2 r j) = ix2 i j := by
    funext a
    refine Fin.ext ?_
    fin_cases a
    · show o + 1 * r.val = i.val
      omega
    · show 0 + 1 * j.val = j.val
      omega
  exact congrArg (stage.read (Elt Ideal) (stage.writes (Elt Ideal) stage.junk L)) e
theorem ld_at (X : Vec Ideal S520x256 .f32) (o n : ℕ) (h : ∀ a, ![o, 0] a + ![n, 256] a ≤ S520x256.size a)
    (r : Fin n) (j : Fin 256) (i : Fin 520) (hi : i.val = o + r.val) :
    View.ld X (Rect.unit (s := S520x256) ![o, 0] ![n, 256] h) (ix2 r j) = X (ix2 i j) := by
  have e : (Rect.unit (s := S520x256) ![o, 0] ![n, 256] h).toLoadRect.idx (ix2 r j) = ix2 i j := by
    funext a
    refine Fin.ext ?_
    fin_cases a
    · show o + 1 * r.val = i.val
      omega
    · show 0 + 1 * j.val = j.val
      omega
  exact congrArg X e

/-- The tile's gated input is the reference's, two rows down in the padded one. -/
theorem tileU_at (c : Dev nD) (t : Fin cfg0.N) (r : Fin 512) (j : Fin 256) (b : Fin 8) (s : Fin 2050) (hb : b.val = t.val / 4) (hs : s.val = t.val % 4 * 512 + r.val + 2) :
    tileU m c t (ix2 r j) = refPad (m ((c : Thread nD τ).loc main_arg0)) (m ((c : Thread nD τ).loc main_arg1)) (ix3 b s j) := by
  refine (pay6_at _ _ _ r j).trans (Eq.trans ?_ (((refPad_hi _ _ b s ⟨t.val % 4 * 512 + r.val, by omega⟩ j (by show s.val = 2 + (t.val % 4 * 512 + r.val); omega))).trans (refU_at _ _ b _ j)).symm)
  exact congrArg₂ (fun a b : EReal => a * b)
    (dot_blk m c t 256 256 inb_S1024x3072_S1024x256_0_256 r j b _ _ hb rfl rfl) (dot_blk m c t 512 256 inb_S1024x3072_S1024x256_0_512 r j b _ _ hb rfl rfl)

/-- What the scratch holds, from its row 6 on, when the taps are read: the padded input's rows from the tile's on. -/
abbrev Rows (c : Dev nD) (t : Fin cfg0.N) (X : Vec Ideal S520x256 .f32) : Prop :=
  ∀ (i : S520x256.Idx) (b : Fin 8) (s : Fin 2050) (j : Fin 256), b.val = t.val / 4 → s.val + 6 = t.val % 4 * 512 + (i 0).val → j.val = (i 1).val →
    X i = refPad (m ((c : Thread nD τ).loc main_arg0)) (m ((c : Thread nD τ).loc main_arg1)) (ix3 b s j)

theorem rows_A (c : Dev nD) (t : Fin cfg0.N) (h : t.val % 4 = 0) (f) :
    Rows m c t (stage.read (Elt Ideal) (stage.writes (Elt Ideal) f [body (tileU m c t), lead k0_pay2])) := by
  intro i b s j hb hs hj
  by_cases hi : (i 0).val < 8
  · refine (stage_above f _ _ i hi).trans ((stage_lead f _ _ i ⟨(i 0).val, hi⟩ j rfl hj.symm).trans ((pay2_at _).trans ?_))
    exact (refPad_lo _ _ b s j (by omega)).symm
  · have hl : (i 0).val < 520 := (i 0).isLt
    exact (stage_body f _ _ i ⟨(i 0).val - 8, by omega⟩ j (by show (i 0).val = 8 + ((i 0).val - 8); omega) hj.symm).trans
      (tileU_at m c t _ j b s hb (by show s.val = t.val % 4 * 512 + ((i 0).val - 8) + 2; omega))

/-- The tile's last rows, stored over the scratch's first. -/
theorem last_at (P : FVec Ideal S512x256 .f32) (L L' : List (View.Piece (Elt Ideal) S520x256 .f32)) (i : S520x256.Idx) (r : Fin 8) (j : Fin 256) (h0 : (i 0).val = r.val) (h1 : (i 1).val = j.val) :
    View.canon (lead (k0_pay12 (F := Ideal) (show Vec Ideal S8x256 .f32 from stage.readCov (body P :: L) (Rect.unit (s := S520x256) ![512, 0] ![8, 256] inb_S520x256_S8x256_512_0).toLoadRect)) :: L') i
      = P (ix2 (⟨504 + r.val, by omega⟩ : Fin 512) j) := by
  refine (View.read_writes_junk_apply_eq_canon stage i _).symm.trans ((stage_lead _ _ _ i r j h0 h1).trans ((pay12_at _ r j).trans ?_))
  refine (readCov_at (body P :: L) 512 8 inb_S520x256_S8x256_512_0 r j ⟨512 + r.val, by omega⟩ rfl).trans ?_
  exact stage_body _ P L (ix2 ⟨512 + r.val, by omega⟩ j) ⟨504 + r.val, by omega⟩ j (by show 512 + r.val = 8 + (504 + r.val); omega) rfl

/-- After a point, the scratch's first rows are the tile's last. -/
theorem carried (c : Dev nD) (t : Fin cfg0.N) (i : S520x256.Idx) (r : Fin 8) (j : Fin 256) (h0 : (i 0).val = r.val) (h1 : (i 1).val = j.val) :
    (outsAt0 m c t.val t.isLt).2.2.2.2.2.2 i = tileU m c t (ix2 (⟨504 + r.val, by omega⟩ : Fin 512) j) := by
  by_cases h : t.val % 4 = 0
  · rw [outsAt0_A m c t h]; frame_out
    generalize hP : k0_pay6 (F := Ideal) _ _ _ = P
    refine (last_at P _ _ i r j h0 h1).trans ?_
    rw [← hP]
    rfl
  · rw [outsAt0_B m c t h]; frame_out
    generalize hP : k0_pay6 (F := Ideal) _ _ _ = P
    refine (last_at P _ _ i r j h0 h1).trans ?_
    rw [← hP]
    rfl

theorem rows_B (c : Dev nD) (t : Fin cfg0.N) (h : ¬ t.val % 4 = 0) (f : stage.ty.Contents (Elt Ideal))
    (hf : ∀ i, stage.read (Elt Ideal) f i = (outsAt0 m c (t.val - 1) (Nat.lt_of_le_of_lt (Nat.sub_le _ _) t.isLt)).2.2.2.2.2.2 i) :
    Rows m c t (stage.read (Elt Ideal) (stage.writes (Elt Ideal) f [body (tileU m c t)])) := by
  intro i b s j hb hs hj
  by_cases hi : (i 0).val < 8
  · refine (stage_above f _ _ i hi).trans ?_
    refine Eq.trans (hf i) ?_
    refine (carried m c ⟨t.val - 1, Nat.lt_of_le_of_lt (Nat.sub_le _ _) t.isLt⟩ i ⟨(i 0).val, hi⟩ j rfl hj.symm).trans ?_
    exact tileU_at m c _ _ j b s (by show b.val = (t.val - 1) / 4; omega) (by show s.val = (t.val - 1) % 4 * 512 + (504 + (i 0).val) + 2; omega)
  · have hl : (i 0).val < 520 := (i 0).isLt
    exact (stage_body f _ _ i ⟨(i 0).val - 8, by omega⟩ j (by show (i 0).val = 8 + ((i 0).val - 8); omega) hj.symm).trans
      (tileU_at m c t _ j b s hb (by show s.val = t.val % 4 * 512 + ((i 0).val - 8) + 2; omega))

/-! ## The gated convolution and its state -/

/-- One entry of the convolution's output, the scratch's rows being the padded input's. -/
theorem conv_entry (c : Dev nD) (t : Fin cfg0.N) (p q : Vec Ideal S512x256 .f32) (r : Fin 512) (j : Fin 256)
    (b : Fin 8) (s : Fin 2048) (hb : b.val = t.val / 4) (hs : s.val = t.val % 4 * 512 + r.val)
    (hp : p (ix2 r j) = refPad (m ((c : Thread nD τ).loc main_arg0)) (m ((c : Thread nD τ).loc main_arg1)) (ix3 b ⟨s.val, by omega⟩ j))
    (hq : q (ix2 r j) = refPad (m ((c : Thread nD τ).loc main_arg0)) (m ((c : Thread nD τ).loc main_arg1)) (ix3 b ⟨1 + s.val, by omega⟩ j)) :
    k0_pay8 (k0_pay4 (iblk m c 0 t) (View.ld (iblk m c 1 t) (Rect.unit ![0, 0] ![1024, 256] inb_S1024x3072_S1024x256_0_0)))
      (k0_pay7 (iblk m c 0 t) (View.ld (iblk m c 1 t) (Rect.unit ![0, 256] ![1024, 256] inb_S1024x3072_S1024x256_0_256))
        (View.ld (iblk m c 1 t) (Rect.unit ![0, 512] ![1024, 256] inb_S1024x3072_S1024x256_0_512)) (iblk m c 2 t) p q) (ix3 0 r j)
      = refConv (m ((c : Thread nD τ).loc main_arg0)) (m ((c : Thread nD τ).loc main_arg1)) (m ((c : Thread nD τ).loc main_arg2)) (ix3 b s j) := by
  refine (pay8_at _ _ r j).trans (Eq.trans ?_ (refConv_at _ _ _ b s j).symm)
  refine congrArg₂ (fun a b : EReal => a * b) ((pay4_at _ _ r j).trans (dot_blk m c t 0 256 inb_S1024x3072_S1024x256_0_0 r j b s _ hb hs (by show j.val = 0 + j.val; omega))) ?_
  refine (pay7_at _ _ _ _ _ _ r j).trans ?_
  have hu := tileU_at m c t r j b ⟨2 + s.val, by omega⟩ hb (by show 2 + s.val = t.val % 4 * 512 + r.val + 2; omega)
  refine congrArg₂ (fun a b : EReal => a + b) (congrArg₂ (fun a b : EReal => a + b) (congrArg₂ (fun a b : EReal => a * b) (c_blk m c t 0 j) hp)
    (congrArg₂ (fun a b : EReal => a * b) (c_blk m c t 1 j) hq)) (congrArg₂ (fun a b : EReal => a * b) (c_blk m c t 2 j) ?_)
  exact ((pay5_at _ _ _ r j).trans (pay6_at _ _ _ r j).symm).trans hu

theorem conv_point (c : Dev nD) (t : Fin cfg0.N) (y) : (outsAt0 m c t.val t.isLt).1 y
    = refConv (m ((c : Thread nD τ).loc main_arg0)) (m ((c : Thread nD τ).loc main_arg1)) (m ((c : Thread nD τ).loc main_arg2)) (((cfg0.win 10).blk t).view.emb y) := by
  obtain ⟨r, j, rfl⟩ : ∃ (r : Fin 512) (j : Fin 256), y = ix3 0 r j := ⟨y 1, y 2, by blk_ext⟩
  have ht : t.val < 32 := lt_of_lt_of_eq t.isLt N_0
  have e : ((cfg0.win 10).blk t).view.emb (ix3 0 r j) = ix3 (⟨t.val / 4, by omega⟩ : Fin 8) (⟨t.val % 4 * 512 + r.val, by omega⟩ : Fin 2048) j := by blk_ext [idx t]
  rw [e]
  by_cases h : t.val % 4 = 0
  · rw [outsAt0_A m c t h]; frame_out
    refine conv_entry m c t _ _ r j _ _ rfl rfl ?_ ?_
    · refine (readCov_at _ 6 512 inb_S520x256_S512x256_6_0 r j ⟨6 + r.val, by omega⟩ rfl).trans ?_
      exact rows_A m c t h stage.junk (ix2 ⟨6 + r.val, by omega⟩ j) _ _ j rfl (by show t.val % 4 * 512 + r.val + 6 = t.val % 4 * 512 + (6 + r.val); omega) rfl
    · refine (readCov_at _ 7 512 inb_S520x256_S512x256_7_0 r j ⟨7 + r.val, by omega⟩ rfl).trans ?_
      exact rows_A m c t h stage.junk (ix2 ⟨7 + r.val, by omega⟩ j) _ _ j rfl (by show 1 + (t.val % 4 * 512 + r.val) + 6 = t.val % 4 * 512 + (7 + r.val); omega) rfl
  · rw [outsAt0_B m c t h]; frame_out
    have hf := fun i => congrFun ((Memref.isWhole_whole cc0_scratch0).read_unread (outsAt0 m c (t.val - 1) (Nat.lt_of_le_of_lt (Nat.sub_le _ _) t.isLt)).2.2.2.2.2.2) i
    refine conv_entry m c t _ _ r j _ _ rfl rfl ?_ ?_
    · refine (ld_at _ 6 512 inb_S520x256_S512x256_6_0 r j ⟨6 + r.val, by omega⟩ rfl).trans ?_
      exact rows_B m c t h _ hf (ix2 ⟨6 + r.val, by omega⟩ j) _ _ j rfl (by show t.val % 4 * 512 + r.val + 6 = t.val % 4 * 512 + (6 + r.val); omega) rfl
    · refine (ld_at _ 7 512 inb_S520x256_S512x256_7_0 r j ⟨7 + r.val, by omega⟩ rfl).trans ?_
      exact rows_B m c t h _ hf (ix2 ⟨7 + r.val, by omega⟩ j) _ _ j rfl (by show 1 + (t.val % 4 * 512 + r.val) + 6 = t.val % 4 * 512 + (7 + r.val); omega) rfl

theorem conv_final (c : Dev nD) : (dats m 0 c).arrAt 10 (cfgs 0).N = refConv (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  exact conv_point m c t y

/-- The last eight rows of the padded input. -/
abbrev refLast (X : FVec Ideal S8x2048x1024 .f32) (W : FVec Ideal S1x1024x3072 .f32) : FVec Ideal S8x8x256 .f32 :=
  extractStridedSlice S8x8x256 ![0, 2042, 0] (refPad X W) (by decide)
theorem refLast_at (X : FVec Ideal S8x2048x1024 .f32) (W : FVec Ideal S1x1024x3072 .f32) (b : Fin 8) (r : Fin 8) (j : Fin 256) :
    refLast X W (ix3 b r j) = refPad X W (ix3 b ⟨2042 + r.val, by omega⟩ j) := by
  pointwise [refLast]

theorem cs_final (c : Dev nD) : (dats m 0 c).arrAt 14 (cfgs 0).N = refLast (m ((c : Thread nD τ).loc main_arg0)) (m ((c : Thread nD τ).loc main_arg1)) := by
  refine (dats m 0 c).arrAt_eq_of_covers 14 _ (by decide +kernel) fun t hf y => ?_
  have hm : t.val % 4 = 3 := (flush0_14 t).mp hf
  have ht : t.val < 32 := lt_of_lt_of_eq t.isLt N_0
  obtain ⟨r, j, rfl⟩ : ∃ (r : Fin 8) (j : Fin 256), y = ix3 0 r j := ⟨y 1, y 2, by blk_ext⟩
  have e : ((cfg0.win 14).blk t).view.emb (ix3 0 r j) = ix3 (⟨t.val / 4, by omega⟩ : Fin 8) r j := by blk_ext [idx t]
  blk_simp
  rw [e, after0_14, outsAt0_B m c t (by omega)]; frame_out
  refine (pay13_at _ r j).trans (Eq.trans ?_ (refLast_at _ _ _ r j).symm)
  refine (readCov_at _ 512 8 inb_S520x256_S8x256_512_0 r j ⟨512 + r.val, by omega⟩ rfl).trans ?_
  refine (stage_body _ _ _ (ix2 ⟨512 + r.val, by omega⟩ j) ⟨504 + r.val, by omega⟩ j (by show 512 + r.val = 8 + (504 + r.val); omega) rfl).trans ?_
  exact tileU_at m c t _ j _ _ rfl (by show 2042 + r.val = t.val % 4 * 512 + (504 + r.val) + 2; omega)

end Cert.Kernel4Ideal.Prompt

end
-- ==== Proof.Prompt.Final.lean ====
/-
  The prompt's projections: the five results, each as the host operations after the call leave it.
-/
module

public import proofs.«01_k».proof.Proof.Prompt.Value
public import proofs.«01_k».proof.Proof.Gen.Reference4Ideal.Run
public import proofs.«01_k».proof.Proof.Gen.Reference4Ideal.Read
public import proofs.«01_k».proof.Defs

@[expose] public section

set_option maxRecDepth 16384

noncomputable section

namespace Cert.Kernel4Ideal.Prompt

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-! ## The results after the call -/

theorem tail142_of (dats : (p : Fin _) → (c : Dev nD) → Dat τ (Elt Ideal) Unit ℕ (UR sig nD τ) ℕ (cfgs p) c) (c : Dev nD) :
    Pipeline.afterTail₀ cfgs dats 0 (V0 m) [hostOps1] c main_v142
      = shapeCast S1x8x2048x12x64 ((dats 0 c).arrAt 12 (cfgs 0).N) shapeCasts_S8x2048x768_S1x8x2048x12x64 := by
  have e : Pipeline.withArrays (cfgs 0).spec c (V0 m c) (fun w => (dats 0 c).arrAt w (cfgs 0).N) (Proc.devRef .tc main_v141_2) = (dats 0 c).arrAt 12 (cfgs 0).N :=
    Pipeline.withArrays_arr (cfgs 0).spec launch0.win.arr_inj c (V0 m c) _ 12
  unfold Pipeline.afterTail₀
  generalize Pipeline.withArrays (cfgs 0).spec c (V0 m c) (fun w => (dats 0 c).arrAt w (cfgs 0).N) = W at e ⊢
  rw [← e]
  simp only [hostOps1, List.flatten_cons, List.flatten_nil, List.append_nil]
  after_results
  rfl
theorem tail143_of (dats : (p : Fin _) → (c : Dev nD) → Dat τ (Elt Ideal) Unit ℕ (UR sig nD τ) ℕ (cfgs p) c) (c : Dev nD) :
    Pipeline.afterTail₀ cfgs dats 0 (V0 m) [hostOps1] c main_v143
      = shapeCast S1x8x2048x12x64 ((dats 0 c).arrAt 13 (cfgs 0).N) shapeCasts_S8x2048x768_S1x8x2048x12x64 := by
  have e : Pipeline.withArrays (cfgs 0).spec c (V0 m c) (fun w => (dats 0 c).arrAt w (cfgs 0).N) (Proc.devRef .tc main_v141_3) = (dats 0 c).arrAt 13 (cfgs 0).N :=
    Pipeline.withArrays_arr (cfgs 0).spec launch0.win.arr_inj c (V0 m c) _ 13
  unfold Pipeline.afterTail₀
  generalize Pipeline.withArrays (cfgs 0).spec c (V0 m c) (fun w => (dats 0 c).arrAt w (cfgs 0).N) = W at e ⊢
  rw [← e]
  simp only [hostOps1, List.flatten_cons, List.flatten_nil, List.append_nil]
  after_results
  rfl
theorem tail145_of (dats : (p : Fin _) → (c : Dev nD) → Dat τ (Elt Ideal) Unit ℕ (UR sig nD τ) ℕ (cfgs p) c) (c : Dev nD) :
    Pipeline.afterTail₀ cfgs dats 0 (V0 m) [hostOps1] c main_v145
      = shapeCast S1x8x2x256 (extractStridedSlice S8x2x256 ![0, 6, 0] ((dats 0 c).arrAt 14 (cfgs 0).N) slices_S8x8x256_S8x2x256_0_6_0) shapeCasts_S8x2x256_S1x8x2x256 := by
  have e : Pipeline.withArrays (cfgs 0).spec c (V0 m c) (fun w => (dats 0 c).arrAt w (cfgs 0).N) (Proc.devRef .tc main_v141_4) = (dats 0 c).arrAt 14 (cfgs 0).N :=
    Pipeline.withArrays_arr (cfgs 0).spec launch0.win.arr_inj c (V0 m c) _ 14
  unfold Pipeline.afterTail₀
  generalize Pipeline.withArrays (cfgs 0).spec c (V0 m c) (fun w => (dats 0 c).arrAt w (cfgs 0).N) = W at e ⊢
  rw [← e]
  simp only [hostOps1, List.flatten_cons, List.flatten_nil, List.append_nil]
  after_results
  rfl

theorem tail142 (c : Dev nD) : Pipeline.afterTail₀ cfgs (dats m) 0 (V0 m) [hostOps1] c main_v142
    = Cert.Reference4Ideal.Read.val_main_v35 (F := Ideal) (m ((c : Thread nD τ).loc main_arg0)) (m ((c : Thread nD τ).loc main_arg1)) := by
  refine (tail142_of m (dats m) c).trans ?_
  rw [k_final m c]
  rfl
theorem tail143 (c : Dev nD) : Pipeline.afterTail₀ cfgs (dats m) 0 (V0 m) [hostOps1] c main_v143
    = Cert.Reference4Ideal.Read.val_main_v36 (F := Ideal) (m ((c : Thread nD τ).loc main_arg0)) (m ((c : Thread nD τ).loc main_arg1)) := by
  refine (tail143_of m (dats m) c).trans ?_
  rw [v_final m c]
  rfl

/-- The state is the padded input's last two rows. -/
theorem cut_state (X : FVec Ideal S8x2048x1024 .f32) (W : FVec Ideal S1x1024x3072 .f32) (h h') :
    shapeCast S1x8x2x256 (extractStridedSlice S8x2x256 ![0, 6, 0] (refLast X W) h) h' = Cert.Reference4Ideal.Read.val_main_v38 (F := Ideal) X W := by
  funext i
  unfold Cert.Reference4Ideal.Read.val_main_v38 Cert.Reference4Ideal.Read.val_main_v37 refLast refPad
  generalize Cert.Reference4Ideal.Read.val_main_v10 (F := Ideal) X W = Y
  pointwise
  have h2 : (i 2).val < 2 := (i 2).isLt
  have e : (⟨2042 + (6 + (i 2).val), by omega⟩ : Fin 2050) = ⟨2048 + (i 2).val, by omega⟩ := Fin.ext (by show 2042 + (6 + (i 2).val) = 2048 + (i 2).val; omega)
  rw [e]
theorem tail145 (c : Dev nD) : Pipeline.afterTail₀ cfgs (dats m) 0 (V0 m) [hostOps1] c main_v145
    = Cert.Reference4Ideal.Read.val_main_v38 (F := Ideal) (m ((c : Thread nD τ).loc main_arg0)) (m ((c : Thread nD τ).loc main_arg1)) := by
  refine (tail145_of m (dats m) c).trans ?_
  rw [cs_final m c]
  exact cut_state _ _ _ _

end Cert.Kernel4Ideal.Prompt

namespace Cert.Proof

open Idealize.ShloMosaic Idealize.ShloMosaic.TcCoe Idealize.SL.Sem

-- the comparison of the run's unwindowed arguments walks the long line of host operations
set_option maxHeartbeats 4000000 in
/-- Over the extended reals the kernel's five results are the reference's. -/
theorem algebraic4 : @Cert.algebraic_Kernel4Ideal_Reference4Ideal Cert.Kernel4Ideal.Gen.facts Cert.Reference4Ideal.Gen.facts := by
  pair_intro
  · run_from Cert.Kernel4Ideal.Gen.run_main m g
    · exact Cert.Kernel4Ideal.Gen.W_main_arg1 m _ c
    · exact Cert.Kernel4Ideal.Gen.W_main_arg2 m _ c
    · exact Cert.Kernel4Ideal.Gen.W_main_arg3 m _ c
    · exact Cert.Kernel4Ideal.Gen.W_main_arg4 m _ c
    · exact Cert.Kernel4Ideal.Gen.W_main_arg5 m _ c
    · exact Cert.Kernel4Ideal.Gen.W_main_arg6 m _ c
    · exact Cert.Kernel4Ideal.Gen.W_main_arg7 m _ c
    · exact Cert.Kernel4Ideal.Gen.W_main_arg8 m _ c
  · run_from Cert.Reference4Ideal.Value.run m' g'
    · exact (Cert.Kernel4Ideal.Prompt.conv_final m c).symm
    · exact (Cert.Kernel4Ideal.Prompt.q_final m c).symm
    · exact (Cert.Kernel4Ideal.Prompt.tail142 m c).symm
    · exact (Cert.Kernel4Ideal.Prompt.tail143 m c).symm
    · exact (Cert.Kernel4Ideal.Prompt.tail145 m c).symm

end Cert.Proof

end
-- ==== Proof.Mid.Row.lean ====
/-
  The middle of the layer on one row: the layer norm, the attention over the memory, and the two spellings of it.
-/
module

public import Idealize.ShloMosaic.Lib.Pipeline.ValueKit

@[expose] public section

noncomputable section

namespace Cert.Mid

open Idealize.ShloMosaic

/-- The literals both programs print. -/
abbrev cA : EReal := Ideal.ofBits .f32 0x3F9837F0#32
abbrev cN : EReal := Ideal.ofBits .f32 0x44800000#32
abbrev cE : EReal := Ideal.ofBits .f32 0x3727C5AC#32
abbrev cS : EReal := Ideal.ofBits .f32 0x3D800000#32
abbrev cI : EReal := Ideal.ofBits .f32 0xFF800000#32

theorem cN_eq : cN = ((1024 : ℝ) : EReal) := by
  simp [cN, Ideal.ofBits, Ideal.ieee]
  rw [← EReal.coe_mul]; norm_num
theorem cE_pos : ∃ r : ℝ, 0 < r ∧ cE = (r : EReal) := by
  refine ⟨_, ?_, by simp only [cE, Ideal.ofBits, Ideal.ieee]; simp; rfl⟩
  positivity
theorem cS_eq : cS = ((1 / 16 : ℝ) : EReal) := by
  simp [cS, Ideal.ofBits, Ideal.ieee]
  rw [← EReal.coe_mul]; norm_num
theorem cI_eq : cI = ⊥ := by
  simp [cI, Ideal.ofBits, Ideal.ieee]

/-! ## Finite extended reals -/

def Fin' (x : EReal) : Prop := ∃ r : ℝ, x = (r : EReal)

theorem fin_iff {x : EReal} : Fin' x ↔ x ≠ ⊤ ∧ x ≠ ⊥ :=
  ⟨fun ⟨r, h⟩ => h ▸ ⟨EReal.coe_ne_top r, EReal.coe_ne_bot r⟩, fun ⟨h, h'⟩ => ⟨x.toReal, (EReal.coe_toReal h h').symm⟩⟩
theorem Fin'.add {x y : EReal} : Fin' x → Fin' y → Fin' (x + y) := fun ⟨a, h⟩ ⟨b, h'⟩ => ⟨a + b, by rw [h, h', EReal.coe_add]⟩
theorem Fin'.sub {x y : EReal} : Fin' x → Fin' y → Fin' (x - y) := fun ⟨a, h⟩ ⟨b, h'⟩ => ⟨a - b, by rw [h, h', EReal.coe_sub]⟩
theorem Fin'.mul {x y : EReal} : Fin' x → Fin' y → Fin' (x * y) := fun ⟨a, h⟩ ⟨b, h'⟩ => ⟨a * b, by rw [h, h', EReal.coe_mul]⟩
theorem Fin'.sum {n : ℕ} {f : Fin n → EReal} (h : ∀ k, Fin' (f k)) : Fin' (∑ k, f k) := by
  classical
  choose g hg using h
  refine ⟨∑ k, g k, ?_⟩
  rw [Finset.sum_congr rfl fun k _ => hg k]
  exact (map_sum (⟨⟨fun r : ℝ => (r : EReal), EReal.coe_zero⟩, EReal.coe_add⟩ : ℝ →+ EReal) g Finset.univ).symm

/-- A sum with an infinite term is infinite. -/
theorem sum_not_fin {n : ℕ} {f : Fin n → EReal} (h : ∃ k, ¬ Fin' (f k)) : ¬ Fin' (∑ k, f k) := by
  classical
  obtain ⟨k, hk⟩ := h
  rw [← Finset.add_sum_erase Finset.univ f (Finset.mem_univ k)]
  intro hs
  apply hk
  rw [fin_iff] at hs ⊢
  generalize ∑ x ∈ Finset.univ.erase k, f x = z at hs
  generalize f k = x at hs ⊢
  induction x using EReal.rec with
  | bot => simp at hs
  | coe r => exact ⟨EReal.coe_ne_top r, EReal.coe_ne_bot r⟩
  | top =>
    induction z using EReal.rec with
    | bot => simp at hs
    | coe r => simp at hs
    | top => simp at hs

/-- A nonnegative real factor moves into a sum. -/
theorem sum_mul_coe {n : ℕ} (f : Fin n → EReal) (c : ℝ) (hc : 0 ≤ c) : (∑ k, f k) * (c : EReal) = ∑ k, f k * (c : EReal) := by
  classical
  induction (Finset.univ : Finset (Fin n)) using Finset.induction_on with
  | empty => simp
  | insert a s ha ih =>
    rw [Finset.sum_insert ha, Finset.sum_insert ha, ← ih, mul_comm, EReal.left_distrib_of_nonneg_of_ne_top (by exact_mod_cast hc) (EReal.coe_ne_top c),
      mul_comm, mul_comm (c : EReal)]

/-! ## The layer norm of a row -/

def mean (y : Fin 1024 → EReal) : EReal := Ideal.div (∑ j, y j) cN
def ln (y g b : Fin 1024 → EReal) (d : Fin 1024) : EReal :=
  (y d - mean y) * Ideal.rsqrt (Ideal.div (∑ j, (y j - mean y) * (y j - mean y)) cN + cE) * g d + b d

theorem div_cN (x : EReal) : Ideal.div x cN = x * ((1 / 1024 : ℝ) : EReal) := by
  rw [cN_eq, Ideal.div_coe (by norm_num)]

theorem ln_fin (y : Fin 1024 → EReal) {g b : Fin 1024 → EReal} (d : Fin 1024) (hg : Fin' (g d)) (hb : Fin' (b d)) : Fin' (ln y g b d) := by
  refine Fin'.add (Fin'.mul ?_ hg) hb
  obtain ⟨ε, hε, eε⟩ := cE_pos
  rw [div_cN, eε]
  by_cases h : ∀ k, Fin' (y k)
  · have hm : Fin' (mean y) := by
      unfold mean; rw [div_cN]; exact (Fin'.sum h).mul ⟨_, rfl⟩
    refine ((h d).sub hm).mul ?_
    choose z hz using fun k => (h k).sub hm
    have e : ∑ j, (y j - mean y) * (y j - mean y) = ((∑ j, z j * z j : ℝ) : EReal) := by
      rw [Finset.sum_congr rfl fun k _ => by rw [hz k, ← EReal.coe_mul]]
      exact (map_sum (⟨⟨fun r : ℝ => (r : EReal), EReal.coe_zero⟩, EReal.coe_add⟩ : ℝ →+ EReal) _ Finset.univ).symm
    have h0 : 0 ≤ ∑ j, z j * z j := Finset.sum_nonneg fun j _ => mul_self_nonneg _
    rw [e, ← EReal.coe_mul, ← EReal.coe_add, Ideal.rsqrt_coe]
    have hp : 0 < (∑ j, z j * z j) * (1 / 1024) + ε := by positivity
    rw [if_neg (not_lt.mpr hp.le), if_neg hp.ne']
    exact ⟨_, rfl⟩
  · push Not at h
    have hm : ¬ Fin' (mean y) := by
      unfold mean
      rw [div_cN]
      intro hf
      apply sum_not_fin h
      have : (∑ j, y j) = (∑ j, y j) * ((1 / 1024 : ℝ) : EReal) * ((1024 : ℝ) : EReal) := by
        rw [mul_assoc, ← EReal.coe_mul]; norm_num
      rw [this]
      exact hf.mul ⟨_, rfl⟩
    have hz : ∀ j, (y j - mean y) * (y j - mean y) = ⊤ := by
      intro j
      rw [fin_iff] at hm
      generalize mean y = μ at hm ⊢
      generalize y j = x
      induction μ using EReal.rec with
      | coe r => exact absurd ⟨EReal.coe_ne_top r, EReal.coe_ne_bot r⟩ hm
      | bot => induction x using EReal.rec <;> simp
      | top => induction x using EReal.rec <;> simp
    have e : ∑ j, (y j - mean y) * (y j - mean y) = ⊤ := by
      rw [Finset.sum_congr rfl fun j _ => hz j, ← Finset.add_sum_erase Finset.univ _ (Finset.mem_univ d)]
      exact EReal.top_add_of_ne_bot (ne_of_gt (lt_of_lt_of_le EReal.bot_lt_zero (Finset.sum_nonneg fun _ _ => le_top)))
    rw [e, EReal.top_mul_coe_of_pos (by norm_num), EReal.top_add_coe, Ideal.rsqrt_top, mul_zero]
    exact ⟨0, rfl⟩

/-! ## The attention of a query over the memory -/

/-- A row's maximum, and its exponentials under it. -/
def top (s : Fin 256 → EReal) : EReal := (Finset.univ : Finset (Fin 256)).fold max cI s
def ex (s : Fin 256 → EReal) (j : Fin 256) : EReal := Ideal.exp (s j - top s)
/-- The mean of the values, divided after the product. -/
def after (s v : Fin 256 → EReal) : EReal := Ideal.div (∑ j, ex s j * v j) (∑ j, ex s j)
/-- The mean of the values under the normalised weights. -/
def before (s v : Fin 256 → EReal) : EReal := ∑ j, v j * Ideal.div (ex s j) (∑ i, ex s i)

theorem top_fin {s : Fin 256 → EReal} (h : ∀ j, Fin' (s j)) : Fin' (top s) := by
  have key : ∀ t : Finset (Fin 256), t.fold max cI s = ⊥ ∧ t = ∅ ∨ Fin' (t.fold max cI s) := by
    intro t
    classical
    induction t using Finset.induction_on with
    | empty => exact Or.inl ⟨by rw [Finset.fold_empty, cI_eq], rfl⟩
    | insert a t ha ih =>
      right
      rw [Finset.fold_insert ha]
      rcases ih with ⟨h', -⟩ | h'
      · rw [h', max_bot_right]; exact h a
      · rcases max_choice (s a) (t.fold max cI s) with e | e <;> rw [e]
        · exact h a
        · exact h'
  rcases key Finset.univ with ⟨-, h'⟩ | h'
  · exact absurd h' (Finset.univ_nonempty.ne_empty)
  · exact h'

theorem after_eq_before {s : Fin 256 → EReal} (v : Fin 256 → EReal) (h : ∀ j, Fin' (s j)) : after s v = before s v := by
  choose r hr using fun j => (h j).sub (top_fin h)
  have he : ∀ j, ex s j = ((Real.exp (r j) : ℝ) : EReal) := fun j => by rw [ex, hr j, Ideal.exp_coe]
  have hl : ∑ j, ex s j = ((∑ j, Real.exp (r j) : ℝ) : EReal) := by
    rw [Finset.sum_congr rfl fun j _ => he j]
    exact (map_sum (⟨⟨fun r : ℝ => (r : EReal), EReal.coe_zero⟩, EReal.coe_add⟩ : ℝ →+ EReal) _ Finset.univ).symm
  have hp : 0 < ∑ j, Real.exp (r j) := Finset.sum_pos (fun j _ => Real.exp_pos _) Finset.univ_nonempty
  unfold after before
  rw [hl, Ideal.div_coe hp.ne', sum_mul_coe _ _ (by positivity)]
  refine Finset.sum_congr rfl fun j _ => ?_
  rw [Ideal.div_coe hp.ne', mul_comm (ex s j), mul_assoc]

/-- The scale of the logits, taken on the queries or on the products. -/
theorem scale (q k : Fin 256 → EReal) : ∑ e, q e * cS * k e = (∑ e, q e * k e) * cS := by
  rw [cS_eq, sum_mul_coe _ _ (by norm_num)]
  exact Finset.sum_congr rfl fun e _ => by rw [mul_assoc, mul_comm _ (k e), mul_assoc]

end Cert.Mid

end
-- ==== Proof.Mid.Pay.lean ====
/-
  The middle of the layer: the kernel's pure values at an entry, as the row's functions.
-/
module

public import proofs.«01_k».proof.Proof.Mid.Row
public import proofs.«01_k».proof.Proof.Gen.KernelMidIdeal.Skeleton

@[expose] public section

set_option maxRecDepth 16384

noncomputable section

namespace Cert.KernelMidIdeal.Mid

open Cert.KernelMidIdeal Cert.KernelMidIdeal.Gen Cert.Mid
open Idealize.ShloMosaic Idealize.ShloMosaic.TcCoe

theorem pay4_at (x : Vec Ideal S1x512x1024 .f32) (u : Vec Ideal S1x512x256 .bf16) (wu : Vec Ideal S256x1024 .bf16) (a : Vec Ideal S1x512x768 .bf16)
    (wa : Vec Ideal S768x1024 .bf16) (r : Fin 512) (d : Fin 1024) :
    k0_pay4 x u wu a wa (ix2 r d) = cA * x (ix3 0 r d) + ((∑ k : Fin 256, u (ix3 0 r k) * wu (ix2 k d)) + ∑ k : Fin 768, a (ix3 0 r k) * wa (ix2 k d)) := by
  pointwise [k0_pay4]

theorem ln1_at (x : Vec Ideal S1x512x1024 .f32) (u : Vec Ideal S1x512x256 .bf16) (wu : Vec Ideal S256x1024 .bf16) (a : Vec Ideal S1x512x768 .bf16)
    (wa : Vec Ideal S768x1024 .bf16) (g b : Vec Ideal S1x1024 .f32) (r : Fin 512) (d : Fin 1024) :
    k0_pay9 (k0_pay4 x u wu a wa) (k0_pay5 g) (k0_pay6 b) (k0_pay7 x u wu a wa) (k0_pay8 x u wu a wa) (ix2 r d)
      = ln (fun j => k0_pay4 x u wu a wa (ix2 r j)) (fun j => g (ix2 0 j)) (fun j => b (ix2 0 j)) d := by
  unfold k0_pay8 k0_pay7
  generalize k0_pay4 x u wu a wa = y
  pointwise [k0_pay9, k0_pay5, k0_pay6, ln, mean]

theorem pay10_at (y : FVec Ideal S512x1024 .f32) (g b : FVec Ideal S1x1024 .f32) (μ : FVec Ideal S512x1 .f32) (z : FVec Ideal S512x1024 .f32)
    (w : Vec Ideal S1024x1024 .bf16) (r : Fin 512) (k : Fin 1024) :
    k0_pay10 y g b μ z w (ix2 r k) = (∑ d : Fin 1024, k0_pay9 y g b μ z (ix2 r d) * w (ix2 d k)) * cS := by
  unfold k0_pay10
  generalize k0_pay9 y g b μ z = x
  pointwise

theorem pay13_at (q : FVec Ideal S512x256 .bf16) (k v : Vec Ideal S1x256x256 .bf16) (r : Fin 512) (e : Fin 256) :
    k0_pay13 q k v (ix2 r e) = after (fun j => ∑ i : Fin 256, q (ix2 r i) * k (ix3 0 j i)) (fun j => v (ix3 0 j e)) := by
  pointwise [k0_pay13, after, ex, top]

theorem pay11_eq (y : FVec Ideal S512x1024 .f32) (g b : FVec Ideal S1x1024 .f32) (μ : FVec Ideal S512x1 .f32) (z : FVec Ideal S512x1024 .f32)
    (w : Vec Ideal S1024x1024 .bf16) (k v : Vec Ideal S1x256x256 .bf16) :
    k0_pay11 y g b μ z w k v = k0_pay13 (extractStridedSlice S512x256 ![0, 0] (k0_pay10 y g b μ z w) slices_S512x1024_o0_0_S512x256) k v := rfl
theorem pay14_eq (q : FVec Ideal S512x1024 .bf16) (k v : Vec Ideal S1x256x256 .bf16) :
    k0_pay14 q k v = k0_pay13 (extractStridedSlice S512x256 ![0, 512] q slices_S512x1024_o0_512_S512x256) k v := rfl

/-- One head's output, off the scaled queries and the head's columns of the keys and values. -/
def headK (q : Fin 1024 → EReal) (k v : Fin 4 → Vec Ideal S1x256x256 .bf16) (i : Fin 1024) : EReal :=
  after (fun j => ∑ e : Fin 256, q ⟨i.val / 256 * 256 + e.val, by omega⟩ * k ⟨i.val / 256, by omega⟩ (ix3 0 j e))
    (fun j => v ⟨i.val / 256, by omega⟩ (ix3 0 j ⟨i.val % 256, by omega⟩))

theorem concat_at (A B C D : FVec Ideal S512x256 .bf16) (r : Fin 512) (i : Fin 1024) (F : EReal)
    (hA : ∀ e : Fin 256, i.val = e.val → A (ix2 r e) = F) (hB : ∀ e : Fin 256, i.val = 256 + e.val → B (ix2 r e) = F)
    (hC : ∀ e : Fin 256, i.val = 512 + e.val → C (ix2 r e) = F) (hD : ∀ e : Fin 256, i.val = 768 + e.val → D (ix2 r e) = F) :
    (concatenate S512x1024 1 [⟨S512x256, A⟩, ⟨S512x256, B⟩, ⟨S512x256, C⟩, ⟨S512x256, D⟩]
      concatenates_S512x256_S512x256_S512x256_S512x256_S512x1024_d1 : FVec Ideal S512x1024 .bf16) (ix2 r i) = F := by
  pointwise
  by_cases h1 : i.val < 256
  · rw [dif_pos h1]
    exact hA ⟨i.val, h1⟩ rfl
  rw [dif_neg h1]
  by_cases h2 : i.val - 256 < 256
  · rw [dif_pos h2]
    exact hB ⟨i.val - 256, h2⟩ (by show i.val = 256 + (i.val - 256); omega)
  rw [dif_neg h2]
  by_cases h3 : i.val - 256 - 256 < 256
  · rw [dif_pos h3]
    exact hC ⟨i.val - 256 - 256, h3⟩ (by show i.val = 512 + (i.val - 256 - 256); omega)
  rw [dif_neg h3]
  exact hD ⟨i.val - 256 - 256 - 256, by omega⟩ (by show i.val = 768 + (i.val - 256 - 256 - 256); omega)

theorem heads_at (q : FVec Ideal S512x1024 .bf16) (k v : Fin 4 → Vec Ideal S1x256x256 .bf16) (r : Fin 512) (i : Fin 1024) :
    (concatenate S512x1024 1 [⟨S512x256, k0_pay13 (extractStridedSlice S512x256 ![0, 0] q slices_S512x1024_o0_0_S512x256) (k 0) (v 0)⟩,
      ⟨S512x256, k0_pay13 (extractStridedSlice S512x256 ![0, 256] q slices_S512x1024_o0_256_S512x256) (k 1) (v 1)⟩,
      ⟨S512x256, k0_pay13 (extractStridedSlice S512x256 ![0, 512] q slices_S512x1024_o0_512_S512x256) (k 2) (v 2)⟩,
      ⟨S512x256, k0_pay13 (extractStridedSlice S512x256 ![0, 768] q slices_S512x1024_o0_768_S512x256) (k 3) (v 3)⟩]
      concatenates_S512x256_S512x256_S512x256_S512x256_S512x1024_d1 : FVec Ideal S512x1024 .bf16) (ix2 r i)
      = headK (fun j => q (ix2 r j)) k v i := by
  have key : ∀ (h : Fin 4) (o : ℕ) (ho : o = h.val * 256) (sl) (e : Fin 256) (i' : Fin 1024) (hi : i'.val = o + e.val),
      k0_pay13 (extractStridedSlice S512x256 ![0, o] q sl) (k h) (v h) (ix2 r e) = headK (fun j => q (ix2 r j)) k v i' := by
    intro h o ho sl e i' hi
    have hh : h = ⟨i'.val / 256, by omega⟩ := Fin.ext (by show h.val = i'.val / 256; omega)
    have he : e = ⟨i'.val % 256, by omega⟩ := Fin.ext (by show e.val = i'.val % 256; omega)
    rw [pay13_at, headK, ← hh, ← he]
    congr 1
    funext j
    refine Finset.sum_congr rfl fun x _ => congrArg (fun a : EReal => a * k h (ix3 0 j x)) ?_
    pointwise
    refine congrArg q ?_
    blk_ext
  refine concat_at _ _ _ _ r i _ (fun e hi => ?_) (fun e hi => ?_) (fun e hi => ?_) (fun e hi => ?_)
  · exact key 0 0 (by decide) _ e i (by omega)
  · exact key 1 256 (by decide) _ e i hi
  · exact key 2 512 (by decide) _ e i hi
  · exact key 3 768 (by decide) _ e i hi

theorem tail_at (x1 : FVec Ideal S512x1024 .f32) (o : FVec Ideal S512x1024 .bf16) (w : Vec Ideal S1024x1024 .bf16) (r : Fin 512) (d : Fin 1024)
    (F : Fin 1024 → EReal) (hF : ∀ i, o (ix2 r i) = F i) :
    addf (mulf (broadcast S512x1024 (Scalar.ofBits .f32 0x3F9837F0#32)) x1)
      (matmul dot_S512x1024_S1024x1024_S512x1024_1_0_0_1_n_n none o
        (shapeCast S1024x1024 w shapeCasts_S1024x1024_S1024x1024 : FVec Ideal S1024x1024 .bf16) (constant S512x1024 .f32 0x00000000#32)) (ix2 r d)
      = cA * x1 (ix2 r d) + ∑ i : Fin 1024, F i * w (ix2 i d) := by
  simp only [← hF]
  pointwise

theorem out_at (x1 : FVec Ideal S512x1024 .f32) (q : FVec Ideal S512x1024 .bf16) (k v : Fin 4 → Vec Ideal S1x256x256 .bf16) (w : Vec Ideal S1024x1024 .bf16)
    (r : Fin 512) (d : Fin 1024) :
    k0_pay17 x1 (k0_pay13 (extractStridedSlice S512x256 ![0, 0] q slices_S512x1024_o0_0_S512x256) (k 0) (v 0))
      (k0_pay13 (extractStridedSlice S512x256 ![0, 256] q slices_S512x1024_o0_256_S512x256) (k 1) (v 1))
      (k0_pay14 q (k 2) (v 2)) (k0_pay15 q) (k0_pay16 (k 3)) (constant S512x256 .f32 0x00000000#32) (v 3) w (ix2 r d)
      = cA * x1 (ix2 r d) + ∑ i : Fin 1024, headK (fun j => q (ix2 r j)) k v i * w (ix2 i d) := by
  have e : k0_pay17 x1 (k0_pay13 (extractStridedSlice S512x256 ![0, 0] q slices_S512x1024_o0_0_S512x256) (k 0) (v 0))
      (k0_pay13 (extractStridedSlice S512x256 ![0, 256] q slices_S512x1024_o0_256_S512x256) (k 1) (v 1))
      (k0_pay14 q (k 2) (v 2)) (k0_pay15 q) (k0_pay16 (k 3)) (constant S512x256 .f32 0x00000000#32) (v 3) w
    = addf (mulf (broadcast S512x1024 (Scalar.ofBits .f32 0x3F9837F0#32)) x1)
      (matmul dot_S512x1024_S1024x1024_S512x1024_1_0_0_1_n_n none
        (concatenate S512x1024 1 [⟨S512x256, k0_pay13 (extractStridedSlice S512x256 ![0, 0] q slices_S512x1024_o0_0_S512x256) (k 0) (v 0)⟩,
          ⟨S512x256, k0_pay13 (extractStridedSlice S512x256 ![0, 256] q slices_S512x1024_o0_256_S512x256) (k 1) (v 1)⟩,
          ⟨S512x256, k0_pay13 (extractStridedSlice S512x256 ![0, 512] q slices_S512x1024_o0_512_S512x256) (k 2) (v 2)⟩,
          ⟨S512x256, k0_pay13 (extractStridedSlice S512x256 ![0, 768] q slices_S512x1024_o0_768_S512x256) (k 3) (v 3)⟩]
          concatenates_S512x256_S512x256_S512x256_S512x256_S512x1024_d1 : FVec Ideal S512x1024 .bf16)
        (shapeCast S1024x1024 w shapeCasts_S1024x1024_S1024x1024 : FVec Ideal S1024x1024 .bf16) (constant S512x1024 .f32 0x00000000#32)) := rfl
  rw [e]
  exact tail_at x1 _ w r d _ (heads_at q k v r)

theorem ln2_at (x1 : FVec Ideal S512x1024 .f32) (a b c q : FVec Ideal S512x256 .bf16) (k : FVec Ideal S256x256 .bf16) (z : FVec Ideal S512x256 .f32)
    (v : Vec Ideal S1x256x256 .bf16) (w : Vec Ideal S1024x1024 .bf16) (g s : Vec Ideal S1x1024 .f32) (r : Fin 512) (d : Fin 1024) :
    k0_pay24 (k0_pay18 g) (k0_pay19 s) (k0_pay21 x1 a b c q k z v w) (k0_pay22 x1 a b c q k z v w) (ix3 0 r d)
      = ln (fun j => k0_pay17 x1 a b c q k z v w (ix2 r j)) (fun j => g (ix2 0 j)) (fun j => s (ix2 0 j)) d := by
  unfold k0_pay21 k0_pay22 k0_pay20
  generalize k0_pay17 x1 a b c q k z v w = y
  pointwise [k0_pay24, k0_pay23, k0_pay18, k0_pay19, ln, mean]

end Cert.KernelMidIdeal.Mid

end
-- ==== Proof.Mid.Ref.lean ====
/-
  The middle of the layer: the reference's values at an entry, as the row's functions.
-/
module

public import proofs.«01_k».proof.Proof.Mid.Row
public import proofs.«01_k».proof.Proof.Gen.ReferenceMidIdeal.Read
public import Idealize.ShloMosaic.Lib.Pipeline.ValueKit

@[expose] public section

set_option maxRecDepth 16384

noncomputable section

namespace Cert.ReferenceMidIdeal.Mid

open Cert.ReferenceMidIdeal Cert.ReferenceMidIdeal.Gen Cert.Mid
open Cert.ReferenceMidIdeal.Read
open Idealize.ShloMosaic Idealize.ShloMosaic.TcCoe

variable (x0 : FVec Ideal S8x2048x1024 .f32) (x1 : FVec Ideal S8x2048x256 .bf16) (x2 : FVec Ideal S8x2048x768 .bf16) (x3 : FVec Ideal S1x1024x1024 .f32)
  (x4 x5 : FVec Ideal S1x1024 .f32) (x6 x7 : FVec Ideal S8x256x1024 .bf16) (x8 x9 : FVec Ideal S1x1024x1024 .f32) (x10 x11 : FVec Ideal S1x1024 .f32)

theorem concat_lo (b : Fin 8) (s : Fin 2048) (k : Fin 256) : val_main_v2 (F := Ideal) x1 x2 (ix3 b s ⟨k.val, by omega⟩) = x1 (ix3 b s k) := by
  pointwise [val_main_v2, val_main_v1, val_main_v0]
theorem concat_hi (b : Fin 8) (s : Fin 2048) (k : Fin 768) : val_main_v2 (F := Ideal) x1 x2 (ix3 b s ⟨256 + k.val, by omega⟩) = x2 (ix3 b s k) := by
  pointwise [val_main_v2, val_main_v1, val_main_v0]
theorem dot_at (b : Fin 8) (s : Fin 2048) (d : Fin 1024) :
    val_main_v7 (F := Ideal) x0 x1 x2 x3 (ix3 b s d) = cA * x0 (ix3 b s d) + ∑ k : Fin 1024, val_main_v2 (F := Ideal) x1 x2 (ix3 b s k) * x3 (ix3 0 k d) := by
  pointwise [val_main_v7, val_main_v6, val_main_v5, val_main_v4, val_main_v3, val_main_cst]
theorem split (f : Fin 1024 → EReal) : ∑ k, f k = (∑ k : Fin 256, f ⟨k.val, by omega⟩) + ∑ k : Fin 768, f ⟨256 + k.val, by omega⟩ :=
  Fin.sum_univ_add (a := 256) (b := 768) f
theorem y_at (b : Fin 8) (s : Fin 2048) (d : Fin 1024) :
    val_main_v7 (F := Ideal) x0 x1 x2 x3 (ix3 b s d) = cA * x0 (ix3 b s d)
      + ((∑ k : Fin 256, x1 (ix3 b s k) * x3 (ix3 0 ⟨k.val, by omega⟩ d)) + ∑ k : Fin 768, x2 (ix3 b s k) * x3 (ix3 0 ⟨256 + k.val, by omega⟩ d)) := by
  rw [dot_at, split]
  simp only [concat_lo, concat_hi]
theorem ln1_at (b : Fin 8) (s : Fin 2048) (d : Fin 1024) :
    val_main_v33 (F := Ideal) x0 x1 x2 x3 x4 x5 (ix3 b s d)
      = ln (fun j => val_main_v7 (F := Ideal) x0 x1 x2 x3 (ix3 b s j)) (fun j => x4 (ix2 0 j)) (fun j => x5 (ix2 0 j)) d := by
  pointwise [ln, mean, cN, cE, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst_0, val_main_cst_1, val_main_cst_2, val_main_cst_3, val_main_cst_4]
theorem q_at (b : Fin 8) (s : Fin 2048) (k : Fin 1024) :
    val_main_v35 (F := Ideal) x0 x1 x2 x3 x4 x5 x8 (ix3 b s k) = ∑ d : Fin 1024, val_main_v33 (F := Ideal) x0 x1 x2 x3 x4 x5 (ix3 b s d) * x8 (ix3 0 d k) := by
  pointwise [val_main_v35, val_main_v34]
theorem logit_at (b : Fin 8) (h : Fin 4) (s : Fin 2048) (j : Fin 256) :
    val_main_v41 (F := Ideal) x0 x1 x2 x3 x4 x5 x6 x8 (ix4 b h s j)
      = (∑ e : Fin 256, val_main_v35 (F := Ideal) x0 x1 x2 x3 x4 x5 x8 (ix3 b s ⟨h.val * 256 + e.val, by omega⟩) * x6 (ix3 b j ⟨h.val * 256 + e.val, by omega⟩)) * cS := by
  pointwise [val_main_v41, val_main_v40, val_main_v39, val_main_v38, val_main_v37, val_main_v36, val_main_cst_5]
theorem red_at (l : FVec Ideal S8x4x2048x256 .f32) (b : Fin 8) (h : Fin 4) (s : Fin 2048) :
    (Host.reduce FloatOps.maximumf l (constant S_ .f32 0xFF800000#32) reducesTo_S8x4x2048x256_S8x4x2048_d3 h_S_ : FVec Ideal S8x4x2048 .f32) (ix3 b h s) = top fun j => l (ix4 b h s j) := by
  pointwise [top]
theorem max_at (A : FVec Ideal S8x4x2048 .f32) (b : Fin 8) (h : Fin 4) (s : Fin 2048) :
    (maximumf (val_main_v43 (F := Ideal)) A : FVec Ideal S8x4x2048 .f32) (ix3 b h s) = max cI (A (ix3 b h s)) := by
  pointwise [val_main_v43, val_main_cst_7]
theorem top_at (b : Fin 8) (h : Fin 4) (s : Fin 2048) :
    val_main_v44 (F := Ideal) x0 x1 x2 x3 x4 x5 x6 x8 (ix3 b h s) = max cI (top fun j => val_main_v41 (F := Ideal) x0 x1 x2 x3 x4 x5 x6 x8 (ix4 b h s j)) := by
  have e : val_main_v42 (F := Ideal) x0 x1 x2 x3 x4 x5 x6 x8
      = (Host.reduce FloatOps.maximumf (val_main_v41 (F := Ideal) x0 x1 x2 x3 x4 x5 x6 x8 : FVec Ideal S8x4x2048x256 .f32) (constant S_ .f32 0xFF800000#32) reducesTo_S8x4x2048x256_S8x4x2048_d3 h_S_ : FVec Ideal S8x4x2048 .f32) := by
    unfold val_main_v42 val_main_cst_6
    rfl
  have e' : val_main_v44 (F := Ideal) x0 x1 x2 x3 x4 x5 x6 x8 = (maximumf (val_main_v43 (F := Ideal)) (val_main_v42 (F := Ideal) x0 x1 x2 x3 x4 x5 x6 x8) : FVec Ideal S8x4x2048 .f32) := by
    unfold val_main_v44
    rfl
  rw [e', max_at, e, red_at]
theorem ex_at (b : Fin 8) (h : Fin 4) (s : Fin 2048) (j : Fin 256) :
    val_main_v48 (F := Ideal) x0 x1 x2 x3 x4 x5 x6 x8 (ix4 b h s j) = ex (fun j => val_main_v41 (F := Ideal) x0 x1 x2 x3 x4 x5 x6 x8 (ix4 b h s j)) j := by
  have e : ∀ x : EReal, max cI x = x := fun x => by rw [cI_eq]; exact max_eq_right bot_le
  have t := top_at x0 x1 x2 x3 x4 x5 x6 x8 b h s
  rw [e] at t
  rw [ex, ← t]
  unfold val_main_v48 val_main_v47 val_main_v46 val_main_v45
  generalize val_main_v44 (F := Ideal) x0 x1 x2 x3 x4 x5 x6 x8 = μ
  generalize val_main_v41 (F := Ideal) x0 x1 x2 x3 x4 x5 x6 x8 = l
  pointwise
theorem prob_at (b : Fin 8) (h : Fin 4) (s : Fin 2048) (j : Fin 256) :
    val_main_v52 (F := Ideal) x0 x1 x2 x3 x4 x5 x6 x8 (ix4 b h s j)
      = Ideal.div (ex (fun j => val_main_v41 (F := Ideal) x0 x1 x2 x3 x4 x5 x6 x8 (ix4 b h s j)) j) (∑ j', ex (fun j => val_main_v41 (F := Ideal) x0 x1 x2 x3 x4 x5 x6 x8 (ix4 b h s j)) j') := by
  simp only [← ex_at]
  unfold val_main_v52 val_main_v51 val_main_v50 val_main_v49
  generalize val_main_v48 (F := Ideal) x0 x1 x2 x3 x4 x5 x6 x8 = l
  pointwise [val_main_cst_8]
theorem head_at (b : Fin 8) (s : Fin 2048) (i : Fin 1024) :
    val_main_v57 (F := Ideal) x0 x1 x2 x3 x4 x5 x6 x7 x8 (ix3 b s i)
      = ∑ j : Fin 256, x7 (ix3 b j i) * val_main_v52 (F := Ideal) x0 x1 x2 x3 x4 x5 x6 x8 (ix4 b ⟨i.val / 256, by omega⟩ s j) := by
  pointwise [val_main_v57, val_main_v56, val_main_v55, val_main_v54, val_main_v53]
theorem z_at (b : Fin 8) (s : Fin 2048) (d : Fin 1024) :
    val_main_v62 (F := Ideal) x0 x1 x2 x3 x4 x5 x6 x7 x8 x9 (ix3 b s d)
      = cA * val_main_v33 (F := Ideal) x0 x1 x2 x3 x4 x5 (ix3 b s d) + ∑ i : Fin 1024, val_main_v57 (F := Ideal) x0 x1 x2 x3 x4 x5 x6 x7 x8 (ix3 b s i) * x9 (ix3 0 i d) := by
  pointwise [val_main_v62, val_main_v61, val_main_v60, val_main_v59, val_main_v58, val_main_cst_9]
theorem ln2_at (b : Fin 8) (s : Fin 2048) (d : Fin 1024) :
    val_main_v88 (F := Ideal) x0 x1 x2 x3 x4 x5 x6 x7 x8 x9 x10 x11 (ix3 b s d)
      = ln (fun j => val_main_v62 (F := Ideal) x0 x1 x2 x3 x4 x5 x6 x7 x8 x9 (ix3 b s j)) (fun j => x10 (ix2 0 j)) (fun j => x11 (ix2 0 j)) d := by
  pointwise [ln, mean, cN, cE, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_cst_10, val_main_cst_11, val_main_cst_12, val_main_cst_13, val_main_cst_14]

end Cert.ReferenceMidIdeal.Mid

end
-- ==== Proof.Mid.Point.lean ====
/-
  The middle of the layer: one row of a tile, the kernel's pure values against the reference's.
-/
module

public import proofs.«01_k».proof.Proof.Mid.Pay
public import proofs.«01_k».proof.Proof.Mid.Ref

@[expose] public section

set_option maxRecDepth 16384

noncomputable section

namespace Cert.KernelMidIdeal.Mid

open Cert.KernelMidIdeal Cert.KernelMidIdeal.Gen Cert.Mid
open Cert.ReferenceMidIdeal.Read
open Idealize.ShloMosaic Idealize.ShloMosaic.TcCoe

/-- The row's result, the staged blocks being the arrays' and the queries and keys finite. -/
theorem row_eq (X0 : FVec Ideal S8x2048x1024 .f32) (X1 : FVec Ideal S8x2048x256 .bf16) (X2 : FVec Ideal S8x2048x768 .bf16) (X3 : FVec Ideal S1x1024x1024 .f32)
    (X4 X5 : FVec Ideal S1x1024 .f32) (X6 X7 : FVec Ideal S8x256x1024 .bf16) (X8 X9 : FVec Ideal S1x1024x1024 .f32) (X10 X11 : FVec Ideal S1x1024 .f32)
    (x : Vec Ideal S1x512x1024 .f32) (u : Vec Ideal S1x512x256 .bf16) (wu : Vec Ideal S256x1024 .bf16) (a : Vec Ideal S1x512x768 .bf16)
    (wa : Vec Ideal S768x1024 .bf16) (g b g2 b2 : Vec Ideal S1x1024 .f32) (wq wo : Vec Ideal S1024x1024 .bf16) (k v : Fin 4 → Vec Ideal S1x256x256 .bf16)
    (n : Fin 8) (s : Fin 2048) (r : Fin 512)
    (hx : ∀ d, x (ix3 0 r d) = X0 (ix3 n s d)) (hu : ∀ d, u (ix3 0 r d) = X1 (ix3 n s d)) (ha : ∀ d, a (ix3 0 r d) = X2 (ix3 n s d))
    (hwu : ∀ (e : Fin 256) (d : Fin 1024), wu (ix2 e d) = X3 (ix3 0 (⟨e.val, by omega⟩ : Fin 1024) d))
    (hwa : ∀ (e : Fin 768) (d : Fin 1024), wa (ix2 e d) = X3 (ix3 0 (⟨256 + e.val, by omega⟩ : Fin 1024) d))
    (hg : ∀ j, g (ix2 0 j) = X4 (ix2 0 j)) (hb : ∀ j, b (ix2 0 j) = X5 (ix2 0 j))
    (hg2 : ∀ j, g2 (ix2 0 j) = X10 (ix2 0 j)) (hb2 : ∀ j, b2 (ix2 0 j) = X11 (ix2 0 j))
    (hq : ∀ i j, wq (ix2 i j) = X8 (ix3 0 i j)) (ho : ∀ i j, wo (ix2 i j) = X9 (ix3 0 i j))
    (hk : ∀ (h : Fin 4) (j e : Fin 256), k h (ix3 0 j e) = X6 (ix3 n j (⟨h.val * 256 + e.val, by omega⟩ : Fin 1024)))
    (hv : ∀ (h : Fin 4) (j e : Fin 256), v h (ix3 0 j e) = X7 (ix3 n j (⟨h.val * 256 + e.val, by omega⟩ : Fin 1024)))
    (fg : ∀ j, Fin' (X4 (ix2 0 j))) (fb : ∀ j, Fin' (X5 (ix2 0 j))) (fq : ∀ i j, Fin' (X8 (ix3 0 i j))) (fk : ∀ i j, Fin' (X6 (ix3 n i j)))
    (d : Fin 1024) (y : FVec Ideal S512x1024 .f32) (μ : FVec Ideal S512x1 .f32) (z : FVec Ideal S512x1024 .f32)
    (g' b' : FVec Ideal S1x1024 .f32)
    (hy : y = k0_pay4 x u wu a wa) (hμ : μ = k0_pay7 x u wu a wa) (hz : z = k0_pay8 x u wu a wa) (hg' : g' = k0_pay5 g) (hb' : b' = k0_pay6 b) :
    k0_pay24 (k0_pay18 g2) (k0_pay19 b2)
      (k0_pay21 (k0_pay9 y g' b' μ z) (k0_pay11 y g' b' μ z wq (k 0) (v 0)) (k0_pay13 (k0_pay12 y g' b' μ z wq) (k 1) (v 1))
        (k0_pay14 (k0_pay10 y g' b' μ z wq) (k 2) (v 2)) (k0_pay15 (k0_pay10 y g' b' μ z wq)) (k0_pay16 (k 3)) (constant S512x256 .f32 0x00000000#32) (v 3) wo)
      (k0_pay22 (k0_pay9 y g' b' μ z) (k0_pay11 y g' b' μ z wq (k 0) (v 0)) (k0_pay13 (k0_pay12 y g' b' μ z wq) (k 1) (v 1))
        (k0_pay14 (k0_pay10 y g' b' μ z wq) (k 2) (v 2)) (k0_pay15 (k0_pay10 y g' b' μ z wq)) (k0_pay16 (k 3)) (constant S512x256 .f32 0x00000000#32) (v 3) wo)
      (ix3 0 r d)
      = val_main_v88 (F := Ideal) X0 X1 X2 X3 X4 X5 X6 X7 X8 X9 X10 X11 (ix3 n s d) := by
  have ey : ∀ j, y (ix2 r j) = val_main_v7 (F := Ideal) X0 X1 X2 X3 (ix3 n s j) := by
    intro j
    rw [hy, pay4_at, Cert.ReferenceMidIdeal.Mid.y_at]
    simp only [hx, hu, ha, hwu, hwa]
  have e1 : ∀ j, k0_pay9 y g' b' μ z (ix2 r j) = val_main_v33 (F := Ideal) X0 X1 X2 X3 X4 X5 (ix3 n s j) := by
    intro j
    rw [Cert.ReferenceMidIdeal.Mid.ln1_at]
    simp only [← ey, ← hg, ← hb]
    rw [hy, hμ, hz, hg', hb', ln1_at]
  have f1 : ∀ j, Fin' (val_main_v33 (F := Ideal) X0 X1 X2 X3 X4 X5 (ix3 n s j)) := fun j => by
    rw [Cert.ReferenceMidIdeal.Mid.ln1_at]
    exact ln_fin _ j (fg j) (fb j)
  have eq : ∀ j, k0_pay10 y g' b' μ z wq (ix2 r j) = val_main_v35 (F := Ideal) X0 X1 X2 X3 X4 X5 X8 (ix3 n s j) * cS := by
    intro j
    rw [pay10_at, Cert.ReferenceMidIdeal.Mid.q_at]
    simp only [e1, hq]
  have fq' : ∀ j, Fin' (val_main_v35 (F := Ideal) X0 X1 X2 X3 X4 X5 X8 (ix3 n s j)) := fun j => by
    rw [Cert.ReferenceMidIdeal.Mid.q_at]
    exact Fin'.sum fun e => (f1 e).mul (fq e j)
  have fl : ∀ (h : Fin 4) (j : Fin 256), Fin' (val_main_v41 (F := Ideal) X0 X1 X2 X3 X4 X5 X6 X8 (ix4 n h s j)) := fun h j => by
    rw [Cert.ReferenceMidIdeal.Mid.logit_at]
    exact (Fin'.sum fun e => (fq' _).mul (fk _ _)).mul ⟨_, cS_eq⟩
  have el : ∀ (h : Fin 4) (j : Fin 256), (∑ e : Fin 256, k0_pay10 y g' b' μ z wq (ix2 r (⟨h.val * 256 + e.val, by omega⟩ : Fin 1024)) * k h (ix3 0 j e))
      = val_main_v41 (F := Ideal) X0 X1 X2 X3 X4 X5 X6 X8 (ix4 n h s j) := by
    intro h j
    rw [Cert.ReferenceMidIdeal.Mid.logit_at, ← scale]
    exact Finset.sum_congr rfl fun e _ => by rw [eq, hk]
  have eh : ∀ i : Fin 1024, headK (fun j => k0_pay10 y g' b' μ z wq (ix2 r j)) k v i
      = val_main_v57 (F := Ideal) X0 X1 X2 X3 X4 X5 X6 X7 X8 (ix3 n s i) := by
    intro i
    rw [Cert.ReferenceMidIdeal.Mid.head_at]
    unfold headK
    have e0 : (⟨(⟨i.val / 256, by omega⟩ : Fin 4).val * 256 + (⟨i.val % 256, by omega⟩ : Fin 256).val, by show i.val / 256 * 256 + i.val % 256 < 1024; omega⟩ : Fin 1024) = i :=
      Fin.ext (by show i.val / 256 * 256 + i.val % 256 = i.val; omega)
    refine (congrArg (fun l => after l _) (funext fun j => el ⟨i.val / 256, by omega⟩ j)).trans ?_
    refine (after_eq_before _ fun j => fl _ j).trans ?_
    unfold before
    refine Finset.sum_congr rfl fun j _ => ?_
    rw [Cert.ReferenceMidIdeal.Mid.prob_at]
    exact congrArg (fun a : EReal => a * _) ((hv ⟨i.val / 256, by omega⟩ j ⟨i.val % 256, by omega⟩).trans (congrArg (fun x => X7 (ix3 n j x)) e0))
  rw [ln2_at, Cert.ReferenceMidIdeal.Mid.ln2_at]
  have ez : ∀ j, k0_pay17 (k0_pay9 y g' b' μ z) (k0_pay11 y g' b' μ z wq (k 0) (v 0)) (k0_pay13 (k0_pay12 y g' b' μ z wq) (k 1) (v 1))
        (k0_pay14 (k0_pay10 y g' b' μ z wq) (k 2) (v 2)) (k0_pay15 (k0_pay10 y g' b' μ z wq)) (k0_pay16 (k 3)) (constant S512x256 .f32 0x00000000#32) (v 3) wo (ix2 r j)
      = val_main_v62 (F := Ideal) X0 X1 X2 X3 X4 X5 X6 X7 X8 X9 (ix3 n s j) := by
    intro j
    refine (out_at (k0_pay9 y g' b' μ z) (k0_pay10 y g' b' μ z wq) k v wo r j).trans ?_
    rw [Cert.ReferenceMidIdeal.Mid.z_at]
    simp only [e1, eh, ho]
  simp only [ez, hg2, hb2]

end Cert.KernelMidIdeal.Mid

end
-- ==== Proof.Mid.Host.lean ====
/-
  The middle of the layer: the kernel's operands as the call finds them, and the blocks a grid point stages of them.
-/
module

public import proofs.«01_k».proof.Proof.Gen.KernelMidIdeal.Frame.Runs
public import Idealize.ShloMosaic.Lib.Pipeline.ValueKit

@[expose] public section

set_option maxRecDepth 16384

noncomputable section

namespace Cert.KernelMidIdeal.Mid

open Cert.KernelMidIdeal Cert.KernelMidIdeal.Gen
open Idealize.ShloMosaic Idealize.ShloMosaic.TcCoe Idealize.SL.Sem
open Idealize.ShloMosaic.Pipeline (Dat)

variable (m : (ℓ : Loc nD τ sig) → Buf (Elt Ideal) ℓ)

abbrev castW (Y : FVec Ideal S1x1024x1024 .f32) : FVec Ideal S1024x1024 .bf16 := truncf .bf16 (shapeCast S1024x1024 Y shapeCasts_S1x1024x1024_S1024x1024 : FVec Ideal S1024x1024 .f32) bitsLt_bf16_f32
theorem castW_at (Y : FVec Ideal S1x1024x1024 .f32) (i j : Fin 1024) : castW Y (ix2 i j) = Y (ix3 0 i j) := by
  pointwise [castW]
abbrev castV (Y : FVec Ideal S1x1024 .f32) : FVec Ideal S1x1024 .f32 := shapeCast S1x1024 (shapeCast S1024 Y shapeCasts_S1x1024_S1024 : FVec Ideal S1024 .f32) shapeCasts_S1024_S1x1024
theorem castV_at (Y : FVec Ideal S1x1024 .f32) (j : Fin 1024) : castV Y (ix2 0 j) = Y (ix2 0 j) := by
  pointwise [castV]

theorem V8 (c : Dev nD) : V m c main_v8 = castW (m ((c : Thread nD τ).loc main_arg8)) := by
  simp only [V, hostOps0]
  after_results
  rfl
theorem V10 (c : Dev nD) : V m c main_v10 = castW (m ((c : Thread nD τ).loc main_arg9)) := by
  simp only [V, hostOps0]
  after_results
  rfl
theorem V11 (c : Dev nD) : V m c main_v11 = (extractStridedSlice S256x1024 ![0, 0] (castW (m ((c : Thread nD τ).loc main_arg3))) slices_S1024x1024_S256x1024_0_0 : FVec Ideal S256x1024 .bf16) := by
  simp only [V, hostOps0]
  after_results
  rfl
theorem V12 (c : Dev nD) : V m c main_v12 = (extractStridedSlice S768x1024 ![256, 0] (castW (m ((c : Thread nD τ).loc main_arg3))) slices_S1024x1024_S768x1024_256_0 : FVec Ideal S768x1024 .bf16) := by
  simp only [V, hostOps0]
  after_results
  rfl
theorem V14 (c : Dev nD) : V m c main_v14 = castV (m ((c : Thread nD τ).loc main_arg4)) := by
  simp only [V, hostOps0]
  after_results
  rfl
theorem V16 (c : Dev nD) : V m c main_v16 = castV (m ((c : Thread nD τ).loc main_arg5)) := by
  simp only [V, hostOps0]
  after_results
  rfl
theorem V18 (c : Dev nD) : V m c main_v18 = castV (m ((c : Thread nD τ).loc main_arg10)) := by
  simp only [V, hostOps0]
  after_results
  rfl
theorem V20 (c : Dev nD) : V m c main_v20 = castV (m ((c : Thread nD τ).loc main_arg11)) := by
  simp only [V, hostOps0]
  after_results
  rfl

/-- The block a window stages at each point: tile `t % 4` of row `t / 4`, the row's memory, or the whole matrix. -/
theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![0, 0] ∧ win0_4.index t = ![0, 0] ∧ win0_5.index t = ![0, 0] ∧ win0_6.index t = ![0, 0]
    ∧ win0_7.index t = ![t.val / 4, 0, 0] ∧ win0_8.index t = ![t.val / 4, 0, 0]
    ∧ win0_9.index t = ![0, 0] ∧ win0_10.index t = ![0, 0] ∧ win0_11.index t = ![0, 0] ∧ win0_12.index t = ![0, 0]
    ∧ win0_18.index t = ![t.val / 4, t.val % 4, 0] :=
  (by decide +kernel : ∀ t : Fin grid0.N, _)

theorem x_blk (c : Dev nD) (t : Fin cfg0.N) (r : Fin 512) (k : Fin 1024) (b : Fin 8) (s : Fin 2048) (hb : b.val = t.val / 4) (hs : s.val = t.val % 4 * 512 + r.val) :
    iblk m c 0 t (ix3 0 r k) = m ((c : Thread nD τ).loc main_arg0) (ix3 b s k) := by
  blk_point [iblk, V, idx t]
theorem u_blk (c : Dev nD) (t : Fin cfg0.N) (r : Fin 512) (k : Fin 256) (b : Fin 8) (s : Fin 2048) (hb : b.val = t.val / 4) (hs : s.val = t.val % 4 * 512 + r.val) :
    iblk m c 1 t (ix3 0 r k) = m ((c : Thread nD τ).loc main_arg1) (ix3 b s k) := by
  blk_point [iblk, V, idx t]
theorem a_blk (c : Dev nD) (t : Fin cfg0.N) (r : Fin 512) (k : Fin 768) (b : Fin 8) (s : Fin 2048) (hb : b.val = t.val / 4) (hs : s.val = t.val % 4 * 512 + r.val) :
    iblk m c 2 t (ix3 0 r k) = m ((c : Thread nD τ).loc main_arg2) (ix3 b s k) := by
  blk_point [iblk, V, idx t]
theorem k_blk (c : Dev nD) (t : Fin cfg0.N) (j : Fin 256) (k : Fin 1024) (b : Fin 8) (hb : b.val = t.val / 4) :
    iblk m c 7 t (ix3 0 j k) = m ((c : Thread nD τ).loc main_arg6) (ix3 b j k) := by
  blk_point [iblk, V, idx t]
theorem v_blk (c : Dev nD) (t : Fin cfg0.N) (j : Fin 256) (k : Fin 1024) (b : Fin 8) (hb : b.val = t.val / 4) :
    iblk m c 8 t (ix3 0 j k) = m ((c : Thread nD τ).loc main_arg7) (ix3 b j k) := by
  blk_point [iblk, V, idx t]

theorem wu_blk (c : Dev nD) (t : Fin cfg0.N) (k : Fin 256) (j : Fin 1024) : iblk m c 3 t (ix2 k j) = m ((c : Thread nD τ).loc main_arg3) (ix3 0 (⟨k.val, by omega⟩ : Fin 1024) j) := by
  have e : (win0_3.blk t).view.emb (ix2 k j) = ix2 k j := by blk_ext [idx t]
  refine Eq.trans ?_ (castW_at _ ⟨k.val, by omega⟩ j)
  have h : V m c main_v11 (ix2 k j) = castW (m ((c : Thread nD τ).loc main_arg3)) (ix2 (⟨k.val, by omega⟩ : Fin 1024) j) := by
    rw [V11 m c]
    generalize castW (m ((c : Thread nD τ).loc main_arg3)) = Y
    pointwise
  rw [← h]
  blk_simp [iblk]
  rw [e]
theorem wa_blk (c : Dev nD) (t : Fin cfg0.N) (k : Fin 768) (j : Fin 1024) : iblk m c 4 t (ix2 k j) = m ((c : Thread nD τ).loc main_arg3) (ix3 0 (⟨256 + k.val, by omega⟩ : Fin 1024) j) := by
  have e : (win0_4.blk t).view.emb (ix2 k j) = ix2 k j := by blk_ext [idx t]
  refine Eq.trans ?_ (castW_at _ ⟨256 + k.val, by omega⟩ j)
  have h : V m c main_v12 (ix2 k j) = castW (m ((c : Thread nD τ).loc main_arg3)) (ix2 (⟨256 + k.val, by omega⟩ : Fin 1024) j) := by
    rw [V12 m c]
    generalize castW (m ((c : Thread nD τ).loc main_arg3)) = Y
    pointwise
  rw [← h]
  blk_simp [iblk]
  rw [e]
theorem wq_blk (c : Dev nD) (t : Fin cfg0.N) (i j : Fin 1024) : iblk m c 9 t (ix2 i j) = m ((c : Thread nD τ).loc main_arg8) (ix3 0 i j) := by
  have e : (win0_9.blk t).view.emb (ix2 i j) = ix2 i j := by blk_ext [idx t]
  refine Eq.trans ?_ (castW_at _ i j)
  rw [← V8 m c]
  blk_simp [iblk]
  rw [e]
theorem wo_blk (c : Dev nD) (t : Fin cfg0.N) (i j : Fin 1024) : iblk m c 10 t (ix2 i j) = m ((c : Thread nD τ).loc main_arg9) (ix3 0 i j) := by
  have e : (win0_10.blk t).view.emb (ix2 i j) = ix2 i j := by blk_ext [idx t]
  refine Eq.trans ?_ (castW_at _ i j)
  rw [← V10 m c]
  blk_simp [iblk]
  rw [e]
theorem g_blk (c : Dev nD) (t : Fin cfg0.N) (j : Fin 1024) : iblk m c 5 t (ix2 0 j) = m ((c : Thread nD τ).loc main_arg4) (ix2 0 j) := by
  have e : (win0_5.blk t).view.emb (ix2 0 j) = ix2 0 j := by blk_ext [idx t]
  refine Eq.trans ?_ (castV_at _ j)
  rw [← V14 m c]
  blk_simp [iblk]
  rw [e]
theorem b_blk (c : Dev nD) (t : Fin cfg0.N) (j : Fin 1024) : iblk m c 6 t (ix2 0 j) = m ((c : Thread nD τ).loc main_arg5) (ix2 0 j) := by
  have e : (win0_6.blk t).view.emb (ix2 0 j) = ix2 0 j := by blk_ext [idx t]
  refine Eq.trans ?_ (castV_at _ j)
  rw [← V16 m c]
  blk_simp [iblk]
  rw [e]
theorem g2_blk (c : Dev nD) (t : Fin cfg0.N) (j : Fin 1024) : iblk m c 11 t (ix2 0 j) = m ((c : Thread nD τ).loc main_arg10) (ix2 0 j) := by
  have e : (win0_11.blk t).view.emb (ix2 0 j) = ix2 0 j := by blk_ext [idx t]
  refine Eq.trans ?_ (castV_at _ j)
  rw [← V18 m c]
  blk_simp [iblk]
  rw [e]
theorem b2_blk (c : Dev nD) (t : Fin cfg0.N) (j : Fin 1024) : iblk m c 12 t (ix2 0 j) = m ((c : Thread nD τ).loc main_arg11) (ix2 0 j) := by
  have e : (win0_12.blk t).view.emb (ix2 0 j) = ix2 0 j := by blk_ext [idx t]
  refine Eq.trans ?_ (castV_at _ j)
  rw [← V20 m c]
  blk_simp [iblk]
  rw [e]

/-- One head's columns of a memory block. -/
theorem head_ld (M : Vec Ideal S1x256x1024 .bf16) (o : ℕ) (h : ∀ a, ![0, 0, o] a + S1x256x256.size a ≤ S1x256x1024.size a) (j e : Fin 256) (e' : Fin 1024) (he : e'.val = o + e.val) :
    View.ld M (Rect.unit ![0, 0, o] S1x256x256.size h) (ix3 0 j e) = M (ix3 0 j e') := by
  have q : (Rect.unit (s := S1x256x1024) ![0, 0, o] S1x256x256.size h).emb (ix3 0 j e) = ix3 0 j e' := by
    funext a
    refine Fin.ext ?_
    fin_cases a
    · rfl
    · show 0 + 1 * j.val = j.val
      omega
    · show o + 1 * e.val = e'.val
      omega
  exact congrArg M q

end Cert.KernelMidIdeal.Mid

end
-- ==== Proof.Mid.Pre.lean ====
/-
  The middle of the layer: the precondition, entry by entry.
-/
module

public import proofs.«01_k».proof.Proof.Mid.Row
public import proofs.«01_k».proof.Pre_queries_and_keys_finite

@[expose] public section

set_option maxRecDepth 16384

noncomputable section

namespace Cert.Mid

open Cert.Pre_queries_and_keys_finite
open Idealize.ShloMosaic Idealize.ShloMosaic.TcCoe

/-- The comparison the precondition makes of an entry. -/
abbrev lt (x : EReal) : BitVec 1 := Ideal.cmp .olt (max x (-x)) (Ideal.ofBits .f32 0x7F800000#32)

theorem fin_of_lt {x : EReal} (h : lt x = 1#1) : Fin' x := by
  have htop : Ideal.ofBits .f32 0x7F800000#32 = ⊤ := by simp [Ideal.ofBits, Ideal.ieee]
  rw [lt, htop] at h
  rw [fin_iff]
  constructor
  · rintro rfl
    simp [Ideal.cmp] at h
  · rintro rfl
    simp [Ideal.cmp] at h

theorem fn_at [Facts] (a0 : FVec Ideal S8x2048x1024 .f32) (a1 : FVec Ideal S8x2048x256 .bf16) (a2 : FVec Ideal S8x2048x768 .bf16) (a3 : FVec Ideal S1x1024x1024 .f32)
    (a4 a5 : FVec Ideal S1x1024 .f32) (a6 : FVec Ideal S8x256x1024 .bf16) (a7) (a8) (a9) (a10) (a11) (a12) (a13) (a14) (a15) (a16)
    (p : Fin 2) (i j : Fin 1024) :
    fn (F := Ideal) a0 a1 a2 a3 a4 a5 a6 a7 a8 a9 a10 a11 a12 a13 a14 a15 a16 (ix3 p i j)
      = IntOp.andi (IntOp.andi (IntOp.andi (lt (a4 (ix2 0 i))) (lt (a5 (ix2 0 i)))) (lt (a8 (ix3 0 i j))))
          (lt (a6 (ix3 (⟨p.val * 4 + i.val / 256, by omega⟩ : Fin 8) (⟨i.val % 256, by omega⟩ : Fin 256) j))) := by
  pointwise [fn, fn_part1, lt]
  rfl

theorem finite_of_pre [Facts] (a0 : FVec Ideal S8x2048x1024 .f32) (a1 : FVec Ideal S8x2048x256 .bf16) (a2 : FVec Ideal S8x2048x768 .bf16) (a3 : FVec Ideal S1x1024x1024 .f32)
    (a4 a5 : FVec Ideal S1x1024 .f32) (a6 : FVec Ideal S8x256x1024 .bf16) (a7) (a8) (a9) (a10) (a11) (a12) (a13) (a14) (a15) (a16)
    (h : fn (F := Ideal) a0 a1 a2 a3 a4 a5 a6 a7 a8 a9 a10 a11 a12 a13 a14 a15 a16 = fun _ => 1#1) :
    (∀ j, Fin' (a4 (ix2 0 j))) ∧ (∀ j, Fin' (a5 (ix2 0 j))) ∧ (∀ i j, Fin' (a8 (ix3 0 i j))) ∧ ∀ b i j, Fin' (a6 (ix3 b i j)) := by
  have hb : (∀ a b : BitVec 1, IntOp.andi a b = 1#1 → a = 1#1 ∧ b = 1#1) := by decide
  have key : ∀ (p : Fin 2) (i j : Fin 1024), ((lt (a4 (ix2 0 i)) = 1#1 ∧ lt (a5 (ix2 0 i)) = 1#1) ∧ lt (a8 (ix3 0 i j)) = 1#1)
      ∧ lt (a6 (ix3 (⟨p.val * 4 + i.val / 256, by omega⟩ : Fin 8) (⟨i.val % 256, by omega⟩ : Fin 256) j)) = 1#1 := by
    intro p i j
    have e := (fn_at a0 a1 a2 a3 a4 a5 a6 a7 a8 a9 a10 a11 a12 a13 a14 a15 a16 p i j).symm.trans (congrFun h (ix3 p i j))
    obtain ⟨e1, e2⟩ := hb _ _ e
    obtain ⟨e3, e4⟩ := hb _ _ e1
    obtain ⟨e5, e6⟩ := hb _ _ e3
    exact ⟨⟨⟨e5, e6⟩, e4⟩, e2⟩
  refine ⟨fun j => fin_of_lt (key 0 j 0).1.1.1, fun j => fin_of_lt (key 0 j 0).1.1.2, fun i j => fin_of_lt (key 0 i j).1.2, fun b i j => ?_⟩
  have e := (key ⟨b.val / 4, by omega⟩ ⟨b.val % 4 * 256 + i.val, by omega⟩ j).2
  have e1 : (⟨b.val / 4 * 4 + (b.val % 4 * 256 + i.val) / 256, by omega⟩ : Fin 8) = b := Fin.ext (by show b.val / 4 * 4 + (b.val % 4 * 256 + i.val) / 256 = b.val; omega)
  have e2 : (⟨(b.val % 4 * 256 + i.val) % 256, by omega⟩ : Fin 256) = i := Fin.ext (by show (b.val % 4 * 256 + i.val) % 256 = i.val; omega)
  refine fin_of_lt (Eq.trans ?_ e)
  show lt _ = lt (a6 (ix3 (⟨b.val / 4 * 4 + (b.val % 4 * 256 + i.val) / 256, _⟩ : Fin 8) (⟨(b.val % 4 * 256 + i.val) % 256, _⟩ : Fin 256) j))
  rw [e1, e2]

end Cert.Mid

end
-- ==== Proof.Mid.Ideal.RunA.lean ====
/-
  The middle of the layer: one run of the kernel's body at the first points of the grid, with the pieces it leaves in each buffer.
-/
module

public import proofs.«01_k».proof.Proof.Gen.KernelMidIdeal.Frame.Runs

@[expose] public section

set_option maxRecDepth 16384

noncomputable section

namespace Cert.KernelMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) :
    Σ' (L18 : List (View.Piece (Elt F) S1x512x1024 .f32)), Σ' (L19 : List (View.Piece (Elt F) S4x512 .i32)), Σ' (L20 : List (View.Piece (Elt F) S4x512 .f32)), Σ' (L21 : List (View.Piece (Elt F) S4x512 .i32)), Σ' (L22 : List (View.Piece (Elt F) S32x128 .f32)), Σ' (L23 : List (View.Piece (Elt F) S1x4x256 .f32)), Σ' (LS0 : List (View.Piece (Elt F) S32x128 .f32)), { LS1 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1)) -∗ K ⟨⟩))
          ⊢ wp frame (wpE (defs₀ (F := F)) Variants.none c none) E (cc0_mid_prompt_memattn_sample i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, fun E K => ?run⟩
  case run =>
    simp only [cc0_mid_prompt_memattn_sample_eq_skeleton]; unfold cc0_mid_prompt_memattn_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexists _; iexact HS0
    iexists _; iexact HS1

end Cert.KernelMidIdeal.Gen

end
-- ==== Proof.Mid.Ideal.RunB.lean ====
/-
  The middle of the layer: one run of the kernel's body at the later points of the grid, with the pieces it leaves in each buffer.
-/
module

public import proofs.«01_k».proof.Proof.Mid.Ideal.RunA

@[expose] public section

set_option maxRecDepth 16384

noncomputable section

namespace Cert.KernelMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) :
    Σ' (L18 : List (View.Piece (Elt F) S1x512x1024 .f32)), Σ' (L19 : List (View.Piece (Elt F) S4x512 .i32)), Σ' (L20 : List (View.Piece (Elt F) S4x512 .f32)), Σ' (L21 : List (View.Piece (Elt F) S4x512 .i32)), Σ' (L22 : List (View.Piece (Elt F) S32x128 .f32)), Σ' (L23 : List (View.Piece (Elt F) S1x4x256 .f32)), Σ' (LS0 : List (View.Piece (Elt F) S32x128 .f32)), { LS1 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0 ∗ owns (c : Thread nD τ) arg27 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0) ∗ owns (c : Thread nD τ) arg27 fullShare xs1) -∗ K ⟨⟩))
          ⊢ wp frame (wpE (defs₀ (F := F)) Variants.none c none) E (cc0_mid_prompt_memattn_sample i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, [], fun E K => ?run⟩
  case run =>
    simp only [cc0_mid_prompt_memattn_sample_eq_skeleton]; unfold cc0_mid_prompt_memattn_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg26.eq_unread hfs0; obtain rfl := harg27.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexists _; iexact HS0
    iexists _; isplitr; · ipureintro; exact harg27.read_unread _
    iexact HS1

end Cert.KernelMidIdeal.Gen

end
-- ==== Proof.Mid.Ideal.Cover.lean ====
/-
  The middle of the layer: the pieces a run leaves cover each output's block, and what they leave there.
-/
module

public import proofs.«01_k».proof.Proof.Mid.Ideal.RunB
public import Idealize.ShloMosaic.Lib.Claim

@[expose] public section

set_option maxRecDepth 16384

noncomputable section

namespace Cert.KernelMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 18 tile its block (1 store of `S1x512x1024`). -/
theorem cover0_A_18 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).1 S1x512x1024.size (by sl_kernel_rfl) y

/-- What case A leaves in output 18's staging buffer: its pieces read back over junk. -/
def out0_A_18 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S1x512x1024 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).1)

/-- Case A's pieces for output 19 tile its block (1 store of `S4x512`). -/
theorem cover0_A_19 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S4x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.1 S4x512.size (by sl_kernel_rfl) y

/-- What case A leaves in output 19's staging buffer: its pieces read back over junk. -/
def out0_A_19 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S4x512 .i32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.1)

/-- Case A's pieces for output 20 tile its block (1 store of `S4x512`). -/
theorem cover0_A_20 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S4x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.1 S4x512.size (by sl_kernel_rfl) y

/-- What case A leaves in output 20's staging buffer: its pieces read back over junk. -/
def out0_A_20 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S4x512 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.1)

/-- Case A's pieces for output 21 tile its block (1 store of `S4x512`). -/
theorem cover0_A_21 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S4x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.1 S4x512.size (by sl_kernel_rfl) y

/-- What case A leaves in output 21's staging buffer: its pieces read back over junk. -/
def out0_A_21 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S4x512 .i32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.1)

/-- Case A's pieces for output 22 tile its block (1 store of `S32x128`). -/
theorem cover0_A_22 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S32x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.1 S32x128.size (by sl_kernel_rfl) y

/-- What case A leaves in output 22's staging buffer: its pieces read back over junk. -/
def out0_A_22 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S32x128 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.1)

/-- Case A's pieces for output 23 tile its block (1 store of `S1x4x256`). -/
theorem cover0_A_23 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S1x4x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.1 S1x4x256.size (by sl_kernel_rfl) y

/-- What case A leaves in output 23's staging buffer: its pieces read back over junk. -/
def out0_A_23 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S1x4x256 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.1)

/-- Case A's pieces for scratch `arg26`, which the kernel carries between points, cover it: 2 pieces of `S32x128` tiling it (Lib/Ring.lean `Piece.tiledL`). -/
theorem scover0_A_0 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S32x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.2.1 S32x128.size (by sl_kernel_rfl) y

/-- What case A leaves in scratch `arg26`: its pieces read back over junk. -/
def sout0_A_0 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S32x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.2.1)

/-- Case A's pieces for scratch `arg27`, which the kernel carries between points, cover it: 1 piece of `S512x512` tiling it (Lib/Ring.lean `Piece.tiledL`). -/
theorem scover0_A_1 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.2.2.1 S512x512.size (by sl_kernel_rfl) y

/-- What case A leaves in scratch `arg27`: its pieces read back over junk. -/
def sout0_A_1 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) : Vec F S512x512 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.2.2.2.2.2.1)

/-- Case B's pieces for output 18 tile its block (1 store of `S1x512x1024`). -/
theorem cover0_B_18 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) (y : S1x512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).1 S1x512x1024.size (by sl_kernel_rfl) y

/-- What case B leaves in output 18's staging buffer: its pieces read back over junk. -/
def out0_B_18 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S1x512x1024 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).1)

/-- Case B's pieces for output 19 tile its block (1 store of `S4x512`). -/
theorem cover0_B_19 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) (y : S4x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.1 S4x512.size (by sl_kernel_rfl) y

/-- What case B leaves in output 19's staging buffer: its pieces read back over junk. -/
def out0_B_19 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S4x512 .i32 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.1)

/-- Case B's pieces for output 20 tile its block (1 store of `S4x512`). -/
theorem cover0_B_20 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) (y : S4x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.1 S4x512.size (by sl_kernel_rfl) y

/-- What case B leaves in output 20's staging buffer: its pieces read back over junk. -/
def out0_B_20 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S4x512 .f32 :=
  VO0_20.read (Elt F) (VO0_20.writes (Elt F) VO0_20.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.1)

/-- Case B's pieces for output 21 tile its block (1 store of `S4x512`). -/
theorem cover0_B_21 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) (y : S4x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.1 S4x512.size (by sl_kernel_rfl) y

/-- What case B leaves in output 21's staging buffer: its pieces read back over junk. -/
def out0_B_21 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S4x512 .i32 :=
  VO0_21.read (Elt F) (VO0_21.writes (Elt F) VO0_21.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.1)

/-- Case B's pieces for output 22 tile its block (1 store of `S32x128`). -/
theorem cover0_B_22 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) (y : S32x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.1 S32x128.size (by sl_kernel_rfl) y

/-- What case B leaves in output 22's staging buffer: its pieces read back over junk. -/
def out0_B_22 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S32x128 .f32 :=
  VO0_22.read (Elt F) (VO0_22.writes (Elt F) VO0_22.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.1)

/-- Case B's pieces for output 23 tile its block (1 store of `S1x4x256`). -/
theorem cover0_B_23 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) (y : S1x4x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.2.1 S1x4x256.size (by sl_kernel_rfl) y

/-- What case B leaves in output 23's staging buffer: its pieces read back over junk. -/
def out0_B_23 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S1x4x256 .f32 :=
  VO0_23.read (Elt F) (VO0_23.writes (Elt F) VO0_23.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.2.1)

/-- Case B's pieces for scratch `arg26`, which the kernel carries between points, cover it: 1 piece of `S32x128` tiling it (Lib/Ring.lean `Piece.tiledL`). -/
theorem scover0_B_0 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) (y : S32x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.2.2.1 S32x128.size (by sl_kernel_rfl) y

/-- What case B leaves in scratch `arg26`: its pieces read back over junk. -/
def sout0_B_0 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S32x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 xs0 xs1).2.2.2.2.2.2.1)

/-- Case B stores nothing into scratch `arg27`: it holds what the point before left. -/
def sout0_B_1 (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x768 .bf16) (harg4 : arg4.IsWhole) (arg5 : Memref sig .tc .vmem S256x1024 .bf16) (harg5 : arg5.IsWhole) (arg6 : Memref sig .tc .vmem S768x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S32x1024 .bf16) (harg15 : arg15.IsWhole) (arg16 : Memref sig .tc .vmem S32x1 .f32) (harg16 : arg16.IsWhole) (arg17 : Memref sig .tc .vmem S1x4x256 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S1x512x1024 .f32) (harg20 : arg20.IsWhole) (arg21 : Memref sig .tc .vmem S4x512 .i32) (harg21 : arg21.IsWhole) (arg22 : Memref sig .tc .vmem S4x512 .f32) (harg22 : arg22.IsWhole) (arg23 : Memref sig .tc .vmem S4x512 .i32) (harg23 : arg23.IsWhole) (arg24 : Memref sig .tc .vmem S32x128 .f32) (harg24 : arg24.IsWhole) (arg25 : Memref sig .tc .vmem S1x4x256 .f32) (harg25 : arg25.IsWhole) (arg26 : Memref sig .tc .vmem S32x128 .f32) (harg26 : arg26.IsWhole) (arg27 : Memref sig .tc .vmem S512x512 .bf16) (harg27 : arg27.IsWhole) (hc0 : ¬cond0_0 i)
    (x0 : Vec F S1x512x1024 .f32) (x1 : Vec F S1x512x256 .bf16) (x2 : Vec F S1x512x768 .bf16) (x3 : Vec F S256x1024 .bf16) (x4 : Vec F S768x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S32x1024 .bf16) (x14 : Vec F S32x1 .f32) (x15 : Vec F S1x4x256 .f32) (x16 : Vec F S1x256x4x256 .f32) (x17 : Vec F S1x256x4x256 .f32) (xs0 : Vec F S32x128 .f32) (xs1 : Vec F S512x512 .bf16) : Vec F S512x512 .bf16 := xs1

end Cert.KernelMidIdeal.Gen

end
-- ==== Proof.Mid.Ideal.Frame.lean ====
/-
  The middle of the layer: what the outputs hold point by point, the body's obligation, the run and the frame.
-/
module

public import proofs.«01_k».proof.Proof.Mid.Ideal.Cover

@[expose] public section

set_option maxRecDepth 16384

noncomputable section

namespace Cert.KernelMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .f32 × Vec F S4x512 .i32 × Vec F S4x512 .f32 × Vec F S4x512 .i32 × Vec F S32x128 .f32 × Vec F S1x4x256 .f32 × Vec F S32x128 .f32 × Vec F S512x512 .bf16
  | 0, hn => (out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩))
  | n + 1, hn =>
    if h0 : (n + 1) % 32 = 0 then
      (out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩))
    else
      (out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2, out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 32 = 0) :
    outsAt0 m c t.val t.isLt = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨20, _⟩ => (outsAt0 m c t.val t.isLt).2.2.1
    | ⟨21, _⟩ => (outsAt0 m c t.val t.isLt).2.2.2.1
    | ⟨22, _⟩ => (outsAt0 m c t.val t.isLt).2.2.2.2.1
    | ⟨23, _⟩ => (outsAt0 m c t.val t.isLt).2.2.2.2.2.1
    | ⟨_ + 24, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t.val t.isLt).1 := by dsimp only [dats]
theorem after0_19 (c : Dev nD) (t : Fin cfg0.N) : (dats m 0 c).after 19 t = (outsAt0 m c t.val t.isLt).2.1 := by dsimp only [dats]
theorem after0_20 (c : Dev nD) (t : Fin cfg0.N) : (dats m 0 c).after 20 t = (outsAt0 m c t.val t.isLt).2.2.1 := by dsimp only [dats]
theorem after0_21 (c : Dev nD) (t : Fin cfg0.N) : (dats m 0 c).after 21 t = (outsAt0 m c t.val t.isLt).2.2.2.1 := by dsimp only [dats]
theorem after0_22 (c : Dev nD) (t : Fin cfg0.N) : (dats m 0 c).after 22 t = (outsAt0 m c t.val t.isLt).2.2.2.2.1 := by dsimp only [dats]
theorem after0_23 (c : Dev nD) (t : Fin cfg0.N) : (dats m 0 c).after 23 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_18 out0_A_19 out0_A_20 out0_A_21 out0_A_22 out0_A_23 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [HS0]; · iexact HS0
      isplitl [HS1]; · iexact HS1
      iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H23
      ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_18 out0_B_19 out0_B_20 out0_B_21 out0_B_22 out0_B_23 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [HS0]; · iexact HS0
      isplitl [HS1]; · iexact HS1
      iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H23
      ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_KernelMidIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelMidIdeal.Gen

end
-- ==== Proof.Mid.Final.lean ====
/-
  The middle of the layer: the kernel's array of rows is the reference's.
-/
module

public import proofs.«01_k».proof.Proof.Mid.Point
public import proofs.«01_k».proof.Proof.Mid.Host
public import proofs.«01_k».proof.Proof.Mid.Pre
public import proofs.«01_k».proof.Proof.Mid.Ideal.Frame
public import proofs.«01_k».proof.Proof.Gen.ReferenceMidIdeal.Run
public import proofs.«01_k».proof.Proof.Gen.ReferenceMidIdeal.Read
public import proofs.«01_k».proof.Defs

@[expose] public section

set_option maxRecDepth 16384

noncomputable section

namespace Cert.KernelMidIdeal.Mid

open Cert.KernelMidIdeal Cert.KernelMidIdeal.Gen Cert.Mid
open Idealize.ShloMosaic Idealize.ShloMosaic.TcCoe Idealize.SL.Sem
open Idealize.ShloMosaic.Pipeline (Dat)

variable (m : (ℓ : Loc nD τ sig) → Buf (Elt Ideal) ℓ)

/-- The reference's rows, off the launch. -/
abbrev refX (c : Dev nD) : FVec Ideal S8x2048x1024 .f32 :=
  Cert.ReferenceMidIdeal.Read.val_main_v88 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11))

/-- What the precondition says of the launch. -/
structure Ok (c : Dev nD) : Prop where
  g : ∀ j : Fin 1024, Fin' (m ((c : Thread nD τ).loc main_arg4) (ix2 0 j))
  b : ∀ j : Fin 1024, Fin' (m ((c : Thread nD τ).loc main_arg5) (ix2 0 j))
  q : ∀ i j : Fin 1024, Fin' (m ((c : Thread nD τ).loc main_arg8) (ix3 0 i j))
  k : ∀ (n : Fin 8) (i : Fin 256) (j : Fin 1024), Fin' (m ((c : Thread nD τ).loc main_arg6) (ix3 n i j))

abbrev heads (M : Vec Ideal S1x256x1024 .bf16) : Fin 4 → Vec Ideal S1x256x256 .bf16 :=
  ![View.ld M (Rect.unit ![0, 0, 0] ![1, 256, 256] inb_S1x256x1024_S1x256x256_0_0_0), View.ld M (Rect.unit ![0, 0, 256] ![1, 256, 256] inb_S1x256x1024_S1x256x256_0_0_256),
    View.ld M (Rect.unit ![0, 0, 512] ![1, 256, 256] inb_S1x256x1024_S1x256x256_0_0_512), View.ld M (Rect.unit ![0, 0, 768] ![1, 256, 256] inb_S1x256x1024_S1x256x256_0_0_768)]
theorem heads_ld (M : Vec Ideal S1x256x1024 .bf16) (h : Fin 4) (j e : Fin 256) : heads M h (ix3 0 j e) = M (ix3 0 j (⟨h.val * 256 + e.val, by omega⟩ : Fin 1024)) := by
  match h with
  | 0 => exact head_ld M 0 _ j e _ (by show 0 * 256 + e.val = 0 + e.val; omega)
  | 1 => exact head_ld M 256 _ j e _ (by show 1 * 256 + e.val = 256 + e.val; omega)
  | 2 => exact head_ld M 512 _ j e _ (by show 2 * 256 + e.val = 512 + e.val; omega)
  | 3 => exact head_ld M 768 _ j e _ (by show 3 * 256 + e.val = 768 + e.val; omega)

/-- A point's rows of the result. -/
abbrev pointRow (c : Dev nD) (t : Fin cfg0.N) : Vec Ideal S1x512x1024 .f32 :=
  k0_pay24 (k0_pay18 (iblk m c 11 t)) (k0_pay19 (iblk m c 12 t))
    (k0_pay21 (k0_pay9 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)))
      (k0_pay11 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t) (View.ld (iblk m c 7 t) (Rect.unit ![0, 0, 0] ![1, 256, 256] inb_S1x256x1024_S1x256x256_0_0_0)) (View.ld (iblk m c 8 t) (Rect.unit ![0, 0, 0] ![1, 256, 256] inb_S1x256x1024_S1x256x256_0_0_0)))
      (k0_pay13 (k0_pay12 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t)) (View.ld (iblk m c 7 t) (Rect.unit ![0, 0, 256] ![1, 256, 256] inb_S1x256x1024_S1x256x256_0_0_256)) (View.ld (iblk m c 8 t) (Rect.unit ![0, 0, 256] ![1, 256, 256] inb_S1x256x1024_S1x256x256_0_0_256)))
      (k0_pay14 (k0_pay10 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t)) (View.ld (iblk m c 7 t) (Rect.unit ![0, 0, 512] ![1, 256, 256] inb_S1x256x1024_S1x256x256_0_0_512)) (View.ld (iblk m c 8 t) (Rect.unit ![0, 0, 512] ![1, 256, 256] inb_S1x256x1024_S1x256x256_0_0_512)))
      (k0_pay15 (k0_pay10 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t))) (k0_pay16 (View.ld (iblk m c 7 t) (Rect.unit ![0, 0, 768] ![1, 256, 256] inb_S1x256x1024_S1x256x256_0_0_768))) (constant S512x256 .f32 0x00000000#32) (View.ld (iblk m c 8 t) (Rect.unit ![0, 0, 768] ![1, 256, 256] inb_S1x256x1024_S1x256x256_0_0_768)) (iblk m c 10 t))
    (k0_pay22 (k0_pay9 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)))
      (k0_pay11 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t) (View.ld (iblk m c 7 t) (Rect.unit ![0, 0, 0] ![1, 256, 256] inb_S1x256x1024_S1x256x256_0_0_0)) (View.ld (iblk m c 8 t) (Rect.unit ![0, 0, 0] ![1, 256, 256] inb_S1x256x1024_S1x256x256_0_0_0)))
      (k0_pay13 (k0_pay12 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t)) (View.ld (iblk m c 7 t) (Rect.unit ![0, 0, 256] ![1, 256, 256] inb_S1x256x1024_S1x256x256_0_0_256)) (View.ld (iblk m c 8 t) (Rect.unit ![0, 0, 256] ![1, 256, 256] inb_S1x256x1024_S1x256x256_0_0_256)))
      (k0_pay14 (k0_pay10 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t)) (View.ld (iblk m c 7 t) (Rect.unit ![0, 0, 512] ![1, 256, 256] inb_S1x256x1024_S1x256x256_0_0_512)) (View.ld (iblk m c 8 t) (Rect.unit ![0, 0, 512] ![1, 256, 256] inb_S1x256x1024_S1x256x256_0_0_512)))
      (k0_pay15 (k0_pay10 (k0_pay4 (iblk m c 0 t) (iblk m c 1 t) (iblk m c 3 t) (iblk m c 2 t) (iblk m c 4 t)) (k0_pay5 (iblk m c 5 t)) (k0_pay6 (iblk m c 6 t)) (k0_pay7 (iblk m c 0 t) (iblk m c 1 t) (iblk m c 3 t) (iblk m c 2 t) (iblk m c 4 t)) (k0_pay8 (iblk m c 0 t) (iblk m c 1 t) (iblk m c 3 t) (iblk m c 2 t) (iblk m c 4 t)) (iblk m c 9 t))) (k0_pay16 (View.ld (iblk m c 7 t) (Rect.unit ![0, 0, 768] ![1, 256, 256] inb_S1x256x1024_S1x256x256_0_0_768))) (constant S512x256 .f32 0x00000000#32) (View.ld (iblk m c 8 t) (Rect.unit ![0, 0, 768] ![1, 256, 256] inb_S1x256x1024_S1x256x256_0_0_768)) (iblk m c 10 t))

set_option maxHeartbeats 2000000 in
theorem pointRow_eq (c : Dev nD) (ok : Ok m c) (t : Fin cfg0.N) (r : Fin 512) (d : Fin 1024) (n : Fin 8) (s : Fin 2048) (hn : n.val = t.val / 4) (hs : s.val = t.val % 4 * 512 + r.val) :
    pointRow m c t (ix3 0 r d) = refX m c (ix3 n s d) :=
  row_eq _ _ _ _ _ _ _ _ _ _ _ _ (iblk m c 0 t) (iblk m c 1 t) (iblk m c 3 t) (iblk m c 2 t) (iblk m c 4 t) (iblk m c 5 t) (iblk m c 6 t) (iblk m c 11 t) (iblk m c 12 t)
    (iblk m c 9 t) (iblk m c 10 t) (heads (iblk m c 7 t)) (heads (iblk m c 8 t)) n s r
    (fun k => x_blk m c t r k n s hn hs) (fun k => u_blk m c t r k n s hn hs) (fun k => a_blk m c t r k n s hn hs)
    (fun k j => wu_blk m c t k j) (fun k j => wa_blk m c t k j) (fun j => g_blk m c t j) (fun j => b_blk m c t j) (fun j => g2_blk m c t j) (fun j => b2_blk m c t j)
    (fun i j => wq_blk m c t i j) (fun i j => wo_blk m c t i j)
    (fun h j e => (heads_ld _ h j e).trans (k_blk m c t j _ n hn)) (fun h j e => (heads_ld _ h j e).trans (v_blk m c t j _ n hn))
    ok.g ok.b ok.q (ok.k n) d _ _ _ _ _ rfl rfl rfl rfl rfl

set_option maxHeartbeats 2000000 in
theorem x2_out (c : Dev nD) (t : Fin cfg0.N) : (outsAt0 m c t.val t.isLt).1 = pointRow m c t := by
  by_cases h : t.val % 32 = 0
  · rw [outsAt0_A m c t h]; frame_out
    rfl
  · rw [outsAt0_B m c t h]; frame_out
    rfl

theorem x2_final (c : Dev nD) (ok : Ok m c) : (dats m 0 c).arrAt 18 (cfgs 0).N = refX m c := by
  refine (dats m 0 c).arrAt_eq_of_covers 18 _ (by decide +kernel) fun t _ y => ?_
  have ht : t.val < 32 := lt_of_lt_of_eq t.isLt N_0
  obtain ⟨r, d, rfl⟩ : ∃ (r : Fin 512) (d : Fin 1024), y = ix3 0 r d := ⟨y 1, y 2, by blk_ext⟩
  have e : ((cfg0.win 18).blk t).view.emb (ix3 0 r d) = ix3 (⟨t.val / 4, by omega⟩ : Fin 8) (⟨t.val % 4 * 512 + r.val, by omega⟩ : Fin 2048) d := by blk_ext [idx t]
  blk_simp
  rw [e, after0_18, x2_out]
  exact pointRow_eq m c ok t r d _ _ rfl rfl

end Cert.KernelMidIdeal.Mid

namespace Cert.Proof

open Idealize.ShloMosaic Idealize.ShloMosaic.TcCoe Idealize.SL.Sem

set_option maxHeartbeats 4000000 in
/-- Over the extended reals the kernel's rows are the reference's, the queries and keys finite. -/
theorem algebraicMid [Cert.Pre_queries_and_keys_finite.Facts] :
    @Cert.algebraic_KernelMidIdeal_ReferenceMidIdeal_pre_queries_and_keys_finite Cert.KernelMidIdeal.Gen.facts Cert.ReferenceMidIdeal.Gen.facts _ := by
  intro m g m' g' hpre hargs
  have ok : ∀ c, Cert.KernelMidIdeal.Mid.Ok m c := fun c => by
    obtain ⟨h1, h2, h3, h4⟩ := Cert.Mid.finite_of_pre _ _ _ _ _ _ _ _ _ _ _ _ _ _ _ _ _ (hpre c)
    exact ⟨h1, h2, h3, h4⟩
  refine ⟨fun c => Cert.KernelMidIdeal.Mid.refX m c, ?_, ?_⟩
  · refine (θ_run _ _ _).mono (fun r h c => ⟨((h.1 c).1 18).trans (Cert.KernelMidIdeal.Mid.x2_final m c (ok c)), h.2 c⟩)
      (Idealize.ShloMosaic.θ_run_and (Cert.KernelMidIdeal.Gen.run_main m g) (Cert.KernelMidIdeal.Gen.unchanged m g))
  · refine (θ_run _ _ _).mono (fun r h c => ⟨((h c).1.trans (Cert.ReferenceMidIdeal.Read.val_main_v88_eq (Idealize.ShloMosaic.StableHlo.launchContents m' c))).trans ?_, (h c).2⟩) (Cert.ReferenceMidIdeal.Value.run m' g')
    obtain ⟨h0, h1, h2, h3, h4, h5, h6, h7, h8, h9, h10, h11, -⟩ := hargs c
    show Cert.ReferenceMidIdeal.Read.val_main_v88 (F := Ideal) (m' ((c.tc : Thread Cert.ReferenceMidIdeal.nD Cert.ReferenceMidIdeal.τ).loc Cert.ReferenceMidIdeal.main_arg0)) (m' ((c.tc : Thread Cert.ReferenceMidIdeal.nD Cert.ReferenceMidIdeal.τ).loc Cert.ReferenceMidIdeal.main_arg1)) (m' ((c.tc : Thread Cert.ReferenceMidIdeal.nD Cert.ReferenceMidIdeal.τ).loc Cert.ReferenceMidIdeal.main_arg2)) (m' ((c.tc : Thread Cert.ReferenceMidIdeal.nD Cert.ReferenceMidIdeal.τ).loc Cert.ReferenceMidIdeal.main_arg3))
      (m' ((c.tc : Thread Cert.ReferenceMidIdeal.nD Cert.ReferenceMidIdeal.τ).loc Cert.ReferenceMidIdeal.main_arg4)) (m' ((c.tc : Thread Cert.ReferenceMidIdeal.nD Cert.ReferenceMidIdeal.τ).loc Cert.ReferenceMidIdeal.main_arg5)) (m' ((c.tc : Thread Cert.ReferenceMidIdeal.nD Cert.ReferenceMidIdeal.τ).loc Cert.ReferenceMidIdeal.main_arg6)) (m' ((c.tc : Thread Cert.ReferenceMidIdeal.nD Cert.ReferenceMidIdeal.τ).loc Cert.ReferenceMidIdeal.main_arg7))
      (m' ((c.tc : Thread Cert.ReferenceMidIdeal.nD Cert.ReferenceMidIdeal.τ).loc Cert.ReferenceMidIdeal.main_arg8)) (m' ((c.tc : Thread Cert.ReferenceMidIdeal.nD Cert.ReferenceMidIdeal.τ).loc Cert.ReferenceMidIdeal.main_arg9)) (m' ((c.tc : Thread Cert.ReferenceMidIdeal.nD Cert.ReferenceMidIdeal.τ).loc Cert.ReferenceMidIdeal.main_arg10)) (m' ((c.tc : Thread Cert.ReferenceMidIdeal.nD Cert.ReferenceMidIdeal.τ).loc Cert.ReferenceMidIdeal.main_arg11)) = _
    rw [h0, h1, h2, h3, h4, h5, h6, h7, h8, h9, h10, h11]

end Cert.Proof

end
-- ==== Proof.SampleState.lean ====
/-
  The step's convolution state: the projection's call writes the product, the call after it multiplies two of the product's
  column ranges, and the host puts that row behind the state's newer row, as the reference does.
-/
module

public import proofs.«01_k».proof.Proof.Gen.Kernel5Ideal.Frame
public import proofs.«01_k».proof.Proof.Gen.Reference5Ideal.Run
public import proofs.«01_k».proof.Proof.Gen.Reference5Ideal.Read
public import proofs.«01_k».proof.Defs
public import Idealize.ShloMosaic.Lib.Pipeline.ValueKit
public import Idealize.ShloMosaic.Lib.Claim

@[expose] public section

set_option maxRecDepth 16384

noncomputable section

namespace Cert.Kernel5Ideal.SampleState

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The first call: the projection -/

/-- The projection of every sequence's token, the axis of extent one dropped. -/
abbrev proj (X : FVec Ideal S32x1x1024 .f32) (W : FVec Ideal S1x1024x3072 .f32) : FVec Ideal S32x3072 .f32 :=
  shapeCast S32x3072 (Cert.Reference5Ideal.Read.val_main_v1 (F := Ideal) X W) (by decide)

/-- The block a window stages at each point: all the rows, or the point's 512 columns. -/
theorem idx : ∀ t : Fin cfg0.N, win0_0.index t = ![0, 0] ∧ win0_1.index t = ![0, t.val] ∧ win0_2.index t = ![0, t.val] :=
  (by decide +kernel : ∀ t : Fin grid0.N, _)

/-- The matrix and the tokens as the call finds them. -/
theorem w_eq (c : Dev nD) : V1 m ρ c main_v1 = (truncf .bf16 (shapeCast S1024x3072 (m ((c : Thread nD τ).loc main_arg2)) shapeCasts_S1x1024x3072_S1024x3072 : FVec Ideal S1024x3072 .f32) bitsLt_bf16_f32 : FVec Ideal S1024x3072 .bf16) := by
  simp only [V1, W1, hostOps0]
  after_results
  rfl
theorem x_eq (c : Dev nD) : V1 m ρ c main_v6 = (shapeCast S32x1024 (m ((c : Thread nD τ).loc main_arg0)) shapeCasts_S32x1x1024_S32x1024 : FVec Ideal S32x1024 .f32) := by
  simp only [V1, W1, hostOps0]
  after_results
  rfl
theorem cast_w (Y : FVec Ideal S1x1024x3072 .f32) (k : Fin 1024) (j : Fin 3072) : (truncf .bf16 (shapeCast S1024x3072 Y shapeCasts_S1x1024x3072_S1024x3072 : FVec Ideal S1024x3072 .f32) bitsLt_bf16_f32 : FVec Ideal S1024x3072 .bf16) (ix2 k j) = Y (ix3 0 k j) := by
  pointwise
theorem cast_x (Y : FVec Ideal S32x1x1024 .f32) (r : Fin 32) (k : Fin 1024) : (shapeCast S32x1024 Y shapeCasts_S32x1x1024_S32x1024 : FVec Ideal S32x1024 .f32) (ix2 r k) = Y (ix3 r 0 k) := by
  pointwise
theorem w_blk (c : Dev nD) (t : Fin cfg0.N) (k : Fin 1024) (j : Fin 512) (j' : Fin 3072) (hj : j'.val = t.val * 512 + j.val) :
    iblk0 (V1 m ρ) c 1 t (ix2 k j) = m ((c : Thread nD τ).loc main_arg2) (ix3 0 k j') := by
  have e : (win0_1.blk t).view.emb (ix2 k j) = ix2 k j' := by blk_ext [idx t]
  refine Eq.trans ?_ (cast_w _ k j')
  rw [← w_eq m ρ c]
  blk_simp [iblk0]
  rw [e]
theorem x_blk (c : Dev nD) (t : Fin cfg0.N) (r : Fin 32) (k : Fin 1024) : iblk0 (V1 m ρ) c 0 t (ix2 r k) = m ((c : Thread nD τ).loc main_arg0) (ix3 r 0 k) := by
  have e : (win0_0.blk t).view.emb (ix2 r k) = ix2 r k := by blk_ext [idx t]
  refine Eq.trans ?_ (cast_x _ r k)
  rw [← x_eq m ρ c]
  blk_simp [iblk0]
  rw [e]

theorem pay_at (x : Vec Ideal S32x1024 .f32) (w : Vec Ideal S1024x512 .bf16) (r : Fin 32) (j : Fin 512) : k0_pay1 x w (ix2 r j) = ∑ k : Fin 1024, x (ix2 r k) * w (ix2 k j) := by
  pointwise [k0_pay1]
theorem proj_at (X : FVec Ideal S32x1x1024 .f32) (W : FVec Ideal S1x1024x3072 .f32) (r : Fin 32) (j : Fin 3072) : proj X W (ix2 r j) = ∑ k : Fin 1024, X (ix3 r 0 k) * W (ix3 0 k j) := by
  pointwise [proj, Cert.Reference5Ideal.Read.val_main_v1, Cert.Reference5Ideal.Read.val_main_v0]

/-- What a grid point writes is its columns of the projection. -/
theorem point (c : Dev nD) (t : Fin cfg0.N) (y) : k0_pay1 (iblk0 (V1 m ρ) c 0 t) (iblk0 (V1 m ρ) c 1 t) y
    = proj (m ((c : Thread nD τ).loc main_arg0)) (m ((c : Thread nD τ).loc main_arg2)) (((cfg0.win 2).blk t).view.emb y) := by
  obtain ⟨r, j, rfl⟩ : ∃ (r : Fin 32) (j : Fin 512), y = ix2 r j := ⟨y 0, y 1, by blk_ext⟩
  have ht : t.val < 6 := lt_of_lt_of_eq t.isLt N_0
  have e : ((cfg0.win 2).blk t).view.emb (ix2 r j) = ix2 r (⟨t.val * 512 + j.val, by omega⟩ : Fin 3072) := by blk_ext [idx t]
  rw [e]
  refine (pay_at _ _ r j).trans (Eq.trans ?_ (proj_at _ _ r _).symm)
  exact Finset.sum_congr rfl fun k _ => congrArg₂ (fun a b : EReal => a * b) (x_blk m ρ c t r k) (w_blk m ρ c t k j _ rfl)

theorem final (c : Dev nD) : (dat0 (V1 m ρ) c).arrAt 2 cfg0.N
    = proj (m ((c : Thread nD τ).loc main_arg0)) (m ((c : Thread nD τ).loc main_arg2)) := by
  refine (dat0 (V1 m ρ) c).arrAt_eq_of_covers 2 _ (by decide +kernel) fun t _ y => ?_
  blk_simp
  rw [after0_2]; frame_out
  exact point m ρ c t y

/-! ## The second call: the convolution's new input row -/

/-- The second call finds the projection in its second operand. -/
theorem proj_eq (c : Dev nD) : V3 m ρ c main_v7 = proj (m ((c : Thread nD τ).loc main_arg0)) (m ((c : Thread nD τ).loc main_arg2)) :=
  (W3_of m ρ c main_v7 (by decide)).trans ((W2_arr m ρ c 2).trans (final m ρ c))

/-- The new row: the product of the second and third column ranges. -/
abbrev newRow (P : FVec Ideal S32x3072 .f32) : FVec Ideal S32x256 .f32 := fun i =>
  (P (ix2 (i 0) (⟨256 + (i 1).val, by have := (i 1).isLt; change (i 1).val < 256 at this; omega⟩ : Fin 3072)) : EReal)
    * P (ix2 (i 0) (⟨512 + (i 1).val, by have := (i 1).isLt; change (i 1).val < 256 at this; omega⟩ : Fin 3072))

theorem pay3_at (x : Vec Ideal S32x3072 .f32) (r : Fin 32) (j : Fin 256) :
    k1_pay3 (View.ld x r1_1) (View.ld x r1_2) (ix2 r j) = newRow x (ix2 r j) := by
  pointwise [k1_pay3]
  rfl

/-- Each of the second call's windows is one block, its whole array. -/
theorem idx1 : ∀ t : Fin cfg1.N, win1_1.index t = ![0, 0] ∧ win1_12.index t = ![0, 0] :=
  (by decide +kernel : ∀ t : Fin grid1.N, _)
theorem blk1 (c : Dev nD) (t : Fin cfg1.N) : iblk1 (V3 m ρ) c 1 t = V3 m ρ c main_v7 := by
  funext y
  have e : (win1_1.blk t).view.emb y = y := by blk_ext [idx1 t]
  blk_simp [iblk1]
  rw [e]

theorem final_u (c : Dev nD) : (dat1 (V3 m ρ) c).arrAt 12 cfg1.N
    = newRow (proj (m ((c : Thread nD τ).loc main_arg0)) (m ((c : Thread nD τ).loc main_arg2))) := by
  refine (dat1 (V3 m ρ) c).arrAt_eq_of_covers 12 _ (by decide +kernel) fun t _ y => ?_
  blk_simp
  rw [after1_12]; frame_out
  obtain ⟨r, j, rfl⟩ : ∃ (r : Fin 32) (j : Fin 256), y = ix2 r j := ⟨y 0, y 1, by blk_ext⟩
  have e : ((cfg1.win 12).blk t).view.emb (ix2 r j) = ix2 r j := by blk_ext [idx1 t]
  rw [e]
  refine (pay3_at _ r j).trans ?_
  rw [blk1 m ρ c t, proj_eq m ρ c]

/-! ## The host's lines after it -/

/-- A row of the pair: the newer of two old rows first, the new one second, or rows 1 and 2 of the three in order. -/
theorem pick (a : Fin 2 → EReal) (u : Fin 1 → EReal) (q : ℕ) (h : q < 2) :
    (if _h : q < 1 then a 1 else u 0) = if h' : 1 + q < 2 then a ⟨1 + q, h'⟩ else u ⟨1 + q - 2, by omega⟩ := by
  obtain rfl | rfl : q = 0 ∨ q = 1 := by omega
  · rfl
  · rfl

/-- The two rows put together are the reference's state. -/
theorem rows (X : FVec Ideal S32x1x1024 .f32) (W : FVec Ideal S1x1024x3072 .f32) (st : FVec Ideal S1x32x2x256 .f32) :
    (shapeCast S1x32x2x256 (concatenate S32x2x256 1 [⟨S32x1x256, broadcastInDim S32x1x256 ![0, 2] bcast_S32x256_S32x1x256_0_2 (shapeCast S32x256 (extractStridedSlice S32x1x256 ![0, 1, 0] (shapeCast S32x2x256 st shapeCasts_S1x32x2x256_S32x2x256 : FVec Ideal S32x2x256 .f32) slices_S32x2x256_S32x1x256_0_1_0) shapeCasts_S32x1x256_S32x256 : FVec Ideal S32x256 .f32)⟩,
        ⟨S32x1x256, broadcastInDim S32x1x256 ![0, 2] bcast_S32x256_S32x1x256_0_2 (newRow (proj X W))⟩] concatenates_S32x1x256_S32x1x256_S32x2x256_d1 : FVec Ideal S32x2x256 .f32) shapeCasts_S32x2x256_S1x32x2x256 : FVec Ideal S1x32x2x256 .f32)
      = Cert.Reference5Ideal.Read.val_main_v8 (F := Ideal) X st W := by
  funext i
  unfold Cert.Reference5Ideal.Read.val_main_v8 Cert.Reference5Ideal.Read.val_main_v7 Cert.Reference5Ideal.Read.val_main_v6 Cert.Reference5Ideal.Read.val_main_v5 Cert.Reference5Ideal.Read.val_main_v4 Cert.Reference5Ideal.Read.val_main_v3 Cert.Reference5Ideal.Read.val_main_v2
  unfold newRow proj
  generalize Cert.Reference5Ideal.Read.val_main_v1 (F := Ideal) X W = Y
  pointwise
  have h2 : (i 2).val < 2 := (i 2).isLt
  exact pick (fun b => st (ix4 0 (i 1) b (i 3)))
    (fun b => Y (ix3 (i 1) b (⟨256 + (i 3).val, by have := (i 3).isLt; change (i 3).val < 256 at this; omega⟩ : Fin 3072))
      * Y (ix3 (i 1) b (⟨512 + (i 3).val, by have := (i 3).isLt; change (i 3).val < 256 at this; omega⟩ : Fin 3072))) _ h2

theorem state_eq (c : Dev nD) : W5 m ρ c (Proc.devRef .tc main_v24)
    = Cert.Reference5Ideal.Read.val_main_v8 (F := Ideal) (m ((c : Thread nD τ).loc main_arg0)) (m ((c : Thread nD τ).loc main_arg1)) (m ((c : Thread nD τ).loc main_arg2)) := by
  have h18 : W4 m ρ c (Proc.devRef .tc main_v18_2) = newRow (proj (m ((c : Thread nD τ).loc main_arg0)) (m ((c : Thread nD τ).loc main_arg2))) :=
    (W4_arr m ρ c 12).trans (final_u m ρ c)
  have h8 : W4 m ρ c (Proc.devRef .tc main_v8) = (shapeCast S32x2x256 (m ((c : Thread nD τ).loc main_arg1)) shapeCasts_S1x32x2x256_S32x2x256 : FVec Ideal S32x2x256 .f32) := by
    refine (W4_of_ne m ρ c main_v8 (by decide)).trans ?_
    rw [← W2_args m ρ c main_arg1 (by decide)]
    show StableHlo.after hostOps1 (W2 m ρ c) _ = _
    generalize W2 m ρ c = W
    simp only [hostOps1]
    after_results
    rfl
  refine Eq.trans ?_ (rows _ _ _)
  rw [← h18, ← h8]
  show StableHlo.after hostOps2 (W4 m ρ c) _ = _
  generalize W4 m ρ c = W
  simp only [hostOps2]
  after_results
  rfl

/-! ## The run -/

local notation "𝕄" => MT nD τ sig Unit (Elt Ideal) ℕ (UR sig nD τ) ℕ

set_option backward.isDefEq.respectTransparency.types false in
/-- Every execution ends, and then every array which is not a call's own holds what the fold through the program says. -/
theorem run : θ_run defs (onTc (τ := τ) (main (F := Ideal))) ⟨m, fun _ => 0, ρ⟩ (fun r => ∀ c : Dev nD,
      ∀ b ∈ Pipeline.ucRefs τ sig, r.2.mem ((c : Dev nD), b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Kernel5Ideal.SampleState

namespace Cert.Proof

open Idealize.ShloMosaic Idealize.ShloMosaic.TcCoe Idealize.SL.Sem
open Cert.Kernel5Ideal Cert.Kernel5Ideal.Gen

/-- Over the extended reals the kernel's result is the reference's. -/
theorem algebraic5 : @Cert.algebraic_Kernel5Ideal_Reference5Ideal Cert.Kernel5Ideal.Gen.facts Cert.Reference5Ideal.Gen.facts := by
  intro m g m' g' hpre hargs
  refine ⟨fun c => W5 m g c (Proc.devRef .tc main_v24), ?_, ?_⟩
  · exact (θ_run _ _ _).mono (fun r h c => ⟨h c _ (mem_uc main_v24 (by decide)),
      (h c _ (mem_uc main_arg0 (by decide))).trans (W5_main_arg0 m g c),
      (h c _ (mem_uc main_arg1 (by decide))).trans (W5_main_arg1 m g c),
      (h c _ (mem_uc main_arg2 (by decide))).trans (W5_main_arg2 m g c),
      (h c _ (mem_uc main_arg3 (by decide))).trans (W5_main_arg3 m g c),
      (h c _ (mem_uc main_arg4 (by decide))).trans (W5_main_arg4 m g c),
      (h c _ (mem_uc main_arg5 (by decide))).trans (W5_main_arg5 m g c),
      (h c _ (mem_uc main_arg6 (by decide))).trans (W5_main_arg6 m g c),
      (h c _ (mem_uc main_arg7 (by decide))).trans (W5_main_arg7 m g c),
      (h c _ (mem_uc main_arg8 (by decide))).trans (W5_main_arg8 m g c)⟩) (Cert.Kernel5Ideal.SampleState.run m g)
  · refine (θ_run _ _ _).mono (fun r h c => ⟨((h c).1.trans (Cert.Reference5Ideal.Read.val_main_v8_eq _ _ _)).trans ?_, (h c).2⟩) (Cert.Reference5Ideal.Value.run m' g')
    obtain ⟨h0, h1, h2, -⟩ := hargs c
    rw [h0, h1, h2]
    exact (Cert.Kernel5Ideal.SampleState.state_eq m g c).symm

end Cert.Proof

end
-- ==== Proof.lean ====
/-
The certificate of six parts of the layer: the grouped experts, the memory keys and values, the step's projection, the
prompt's projections, the step's convolution state and the prompt's middle. Of each the frames of its three programs, and
over the extended reals the equality of the kernel's results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.KernelMid
public import proofs.«01_k».proof.Proof.Gen.KernelMid.Skeleton
public import proofs.«01_k».proof.Proof.Gen.KernelMid.Launch
public import proofs.«01_k».proof.Proof.Gen.KernelMid.Points
public import proofs.«01_k».proof.Proof.Gen.KernelMidIdeal
public import proofs.«01_k».proof.Proof.Gen.KernelMidIdeal.Skeleton
public import proofs.«01_k».proof.Proof.Gen.KernelMidIdeal.Launch
public import proofs.«01_k».proof.Proof.Gen.KernelMidIdeal.Points
public import proofs.«01_k».proof.Proof.Gen.ReferenceMidIdeal
public import proofs.«01_k».proof.Proof.Gen.ReferenceMidIdeal.Run
public import proofs.«01_k».proof.Proof.Gen.ReferenceMidIdeal.Read
public import proofs.«01_k».proof.Proof.Gen.Pre_counts_in_range
public import proofs.«01_k».proof.Proof.Gen.Pre_queries_and_keys_finite
public import proofs.«01_k».proof.Proof.Moe.Final
public import proofs.«01_k».proof.Proof.MoeI.Final
public import proofs.«01_k».proof.Proof.Moe.Agree
public import proofs.«01_k».proof.Proof.MemKv
public import proofs.«01_k».proof.Proof.SampleProj
public import proofs.«01_k».proof.Proof.Prompt.Final
public import proofs.«01_k».proof.Proof.Mid.Final
public import proofs.«01_k».proof.Proof.SampleState
public import Idealize.ShloMosaic.Adequacy
public import Idealize.ShloMosaic.Init

@[expose] public section

noncomputable section

namespace Cert.Proof

open Idealize.ShloMosaic Idealize.SL.Sem Cert.Moe

/-- The kernel, on bit patterns, ends with its arguments as they were and its counters at zero. -/
theorem frame_kernel : @Cert.quiescent_Kernel Cert.Kernel.Gen.facts Cert.Pre_counts_in_range.Gen.facts := by
  intro m g hpre
  refine (θ_run _ _ _).mono ?_ (Cert.Kernel.Moe.run m g fun c => Cert.Kernel.Moe.inRange_of_pre _ _ _ _ _ _ (hpre c))
  rintro r ⟨h, hs⟩
  exact ⟨fun c => (h c).2, hs⟩

/-- The same of the kernel over the extended reals. -/
theorem frame_kernelIdeal : @Cert.quiescent_KernelIdeal Cert.KernelIdeal.Gen.facts Cert.Pre_counts_in_range.Gen.facts := by
  intro m g hpre
  refine (θ_run _ _ _).mono ?_ (Cert.KernelIdeal.Moe.run m g fun c => Cert.KernelIdeal.Moe.inRange_of_pre _ _ _ _ _ _ (hpre c))
  rintro r ⟨h, hs⟩
  exact ⟨fun c => (h c).2, hs⟩

/-- The same of the reference, from any counts. -/
theorem frame_reference : @Cert.quiescent_ReferenceIdeal Cert.ReferenceIdeal.Gen.facts := by
  intro m g _
  exact (θ_run _ _ _).mono (fun r h => ⟨fun c => (h c).2, sem_eq_zero_of_no_sems (by decide) r.2⟩) (Cert.ReferenceIdeal.Value.run m g)

/-- The same of the reference, from counts in range. -/
theorem frame_reference_pre : @Cert.quiescent_ReferenceIdeal_pre_counts_in_range Cert.ReferenceIdeal.Gen.facts Cert.Pre_counts_in_range.Gen.facts :=
  fun m g _ => frame_reference m g trivial

/-- Over the extended reals the kernel's result is the reference's. -/
theorem algebraic : @Cert.algebraic_KernelIdeal_ReferenceIdeal Cert.KernelIdeal.Gen.facts Cert.ReferenceIdeal.Gen.facts Cert.Pre_counts_in_range.Gen.facts := by
  intro m g m' g' hpre hargs
  have hx : ∀ c, InRange (Cert.KernelIdeal.Moe.counts m c) := fun c => Cert.KernelIdeal.Moe.inRange_of_pre _ _ _ _ _ _ (hpre c)
  refine ⟨fun c => Cert.KernelIdeal.Moe.outRows (F := Ideal) (plan (Cert.KernelIdeal.Moe.counts m c) (hx c)) (Cert.KernelIdeal.Moe.inputs m c), ?_, ?_⟩
  · exact (θ_run _ _ _).mono (fun r h => h.1) (Cert.KernelIdeal.Moe.run m g hx)
  · refine (θ_run _ _ _).mono (fun r h c => ⟨((h c).1.trans (Cert.ReferenceIdeal.Read.val_main_v59_eq m' c)).trans ?_, (h c).2⟩) (Cert.ReferenceIdeal.Value.run m' g')
    obtain ⟨h0, h1, h2, h3, h4, h5⟩ := hargs c
    rw [h0, h1, h2, h3, h4, h5]
    exact Cert.KernelIdeal.Moe.agree (hx c) _ _ _ _ _

/-- The kernel of the memory keys and values, on bit patterns, ends with its arguments as they were and its counters at zero. -/
theorem frame_kernel2 : @Cert.quiescent_Kernel2 Cert.Kernel2.Gen.facts := fun m ρ _ => Cert.Kernel2.Gen.frame m ρ

/-- The same of it over the extended reals. -/
theorem frame_kernel2Ideal : @Cert.quiescent_Kernel2Ideal Cert.Kernel2Ideal.Gen.facts := fun m ρ _ => Cert.Kernel2Ideal.Gen.frame m ρ

/-- The same of its reference. -/
theorem frame_reference2 : @Cert.quiescent_Reference2Ideal Cert.Reference2Ideal.Gen.facts := by
  intro m g _
  exact (θ_run _ _ _).mono (fun r h => ⟨fun c => (h c).2.2.2.2, sem_eq_zero_of_no_sems (by decide) r.2⟩) (Cert.Reference2Ideal.Value.run m g)

/-- The kernel of the step's projection, on bit patterns, ends with its arguments as they were and its counters at zero. -/
theorem frame_kernel3 : @Cert.quiescent_Kernel3 Cert.Kernel3.Gen.facts := fun m ρ _ => Cert.Kernel3.Gen.frame m ρ

/-- The same of it over the extended reals. -/
theorem frame_kernel3Ideal : @Cert.quiescent_Kernel3Ideal Cert.Kernel3Ideal.Gen.facts := fun m ρ _ => Cert.Kernel3Ideal.Gen.frame m ρ

/-- The same of its reference. -/
theorem frame_reference3 : @Cert.quiescent_Reference3Ideal Cert.Reference3Ideal.Gen.facts := by
  intro m g _
  exact (θ_run _ _ _).mono (fun r h => ⟨fun c => (h c).2.2, sem_eq_zero_of_no_sems (by decide) r.2⟩) (Cert.Reference3Ideal.Value.run m g)

/-- The kernel of the prompt's projections, on bit patterns, ends with its arguments as they were and its counters at zero. -/
theorem frame_kernel4 : @Cert.quiescent_Kernel4 Cert.Kernel4.Gen.facts := fun m ρ _ => Cert.Kernel4.Gen.frame m ρ

/-- The same of it over the extended reals. -/
theorem frame_kernel4Ideal : @Cert.quiescent_Kernel4Ideal Cert.Kernel4Ideal.Gen.facts := fun m ρ _ => Cert.Kernel4Ideal.Gen.frame m ρ

/-- The same of its reference. -/
theorem frame_reference4 : @Cert.quiescent_Reference4Ideal Cert.Reference4Ideal.Gen.facts := by
  intro m g _
  exact (θ_run _ _ _).mono (fun r h => ⟨fun c => (h c).2.2.2.2.2, sem_eq_zero_of_no_sems (by decide) r.2⟩) (Cert.Reference4Ideal.Value.run m g)

/-- The kernel of the step's convolution state, on bit patterns, ends with its arguments as they were and its counters at zero. -/
theorem frame_kernel5 : @Cert.quiescent_Kernel5 Cert.Kernel5.Gen.facts := fun m ρ _ => Cert.Kernel5.Gen.frame m ρ

/-- The same of it over the extended reals. -/
theorem frame_kernel5Ideal : @Cert.quiescent_Kernel5Ideal Cert.Kernel5Ideal.Gen.facts := fun m ρ _ => Cert.Kernel5Ideal.Gen.frame m ρ

/-- The same of its reference. -/
theorem frame_reference5 : @Cert.quiescent_Reference5Ideal Cert.Reference5Ideal.Gen.facts := by
  intro m g _
  exact (θ_run _ _ _).mono (fun r h => ⟨fun c => (h c).2, sem_eq_zero_of_no_sems (by decide) r.2⟩) (Cert.Reference5Ideal.Value.run m g)

/-- The kernel of the prompt's middle, over the extended reals, ends with its arguments as they were and its counters at zero. -/
theorem frame_kernelMidIdeal : @Cert.quiescent_KernelMidIdeal Cert.KernelMidIdeal.Gen.facts := fun m ρ _ => Cert.KernelMidIdeal.Gen.frame m ρ

/-- The same of it from finite queries and keys. -/
theorem frame_kernelMidIdeal_pre : @Cert.quiescent_KernelMidIdeal_pre_queries_and_keys_finite Cert.KernelMidIdeal.Gen.facts Cert.Pre_queries_and_keys_finite.Gen.facts :=
  fun m ρ _ => Cert.KernelMidIdeal.Gen.frame m ρ

/-- The same of it on bit patterns: the two print the same program. -/
theorem frame_kernelMid : @Cert.quiescent_KernelMid Cert.KernelMid.Gen.facts := fun m ρ _ => cast (by chain_rfl) (Cert.KernelMidIdeal.Gen.frame m ρ)

/-- The same of its reference. -/
theorem frame_referenceMid : @Cert.quiescent_ReferenceMidIdeal Cert.ReferenceMidIdeal.Gen.facts := by
  intro m g _
  exact (θ_run _ _ _).mono (fun r h => ⟨fun c => (h c).2, sem_eq_zero_of_no_sems (by decide) r.2⟩) (Cert.ReferenceMidIdeal.Value.run m g)

/-- The same of its reference, from finite queries and keys. -/
theorem frame_referenceMid_pre : @Cert.quiescent_ReferenceMidIdeal_pre_queries_and_keys_finite Cert.ReferenceMidIdeal.Gen.facts Cert.Pre_queries_and_keys_finite.Gen.facts :=
  fun m g _ => frame_referenceMid m g trivial

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.KernelMid.Gen.facts, Cert.KernelMidIdeal.Gen.facts, Cert.ReferenceMidIdeal.Gen.facts,
  Cert.Pre_counts_in_range.Gen.facts, Cert.Pre_queries_and_keys_finite.Gen.facts,
  frame_kernel, frame_kernelIdeal, frame_reference, frame_reference_pre,
  frame_kernel2, frame_kernel2Ideal, frame_reference2,
  frame_kernel3, frame_kernel3Ideal, frame_reference3,
  frame_kernel4, frame_kernel4Ideal, frame_reference4,
  frame_kernel5, frame_kernel5Ideal, frame_reference5,
  frame_kernelMid, frame_kernelMidIdeal, frame_kernelMidIdeal_pre, frame_referenceMid, frame_referenceMid_pre,
  trivial, algebraic, trivial, algebraic2, trivial, algebraic3, trivial, algebraic4, trivial, algebraic5,
  trivial, @algebraicMid Cert.Pre_queries_and_keys_finite.Gen.facts⟩

end Cert.Proof

end
